-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "alpha" .f32 0x3FB504F3#32 ((Real.sqrt 2 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v108_2)) (v1 : (c : Dev Cert.Kernel3Ideal.nD) → Buf (Elt Ideal) ((c.tc : Thread Cert.Kernel3Ideal.nD Cert.Kernel3Ideal.τ).loc Cert.Kernel3Ideal.main_v113)) (v2 : (c : Dev Cert.Kernel3Ideal.nD) → Buf (Elt Ideal) ((c.tc : Thread Cert.Kernel3Ideal.nD Cert.Kernel3Ideal.τ).loc Cert.Kernel3Ideal.main_v109)) (v3 : (c : Dev Cert.Kernel3Ideal.nD) → Buf (Elt Ideal) ((c.tc : Thread Cert.Kernel3Ideal.nD Cert.Kernel3Ideal.τ).loc Cert.Kernel3Ideal.main_v110)) (v4 : (c : Dev Cert.Kernel3Ideal.nD) → Buf (Elt Ideal) ((c.tc : Thread Cert.Kernel3Ideal.nD Cert.Kernel3Ideal.τ).loc Cert.Kernel3Ideal.main_v114)) (v5 : (c : Dev Cert.Kernel3Ideal.nD) → Buf (Elt Ideal) ((c.tc : Thread Cert.Kernel3Ideal.nD Cert.Kernel3Ideal.τ).loc Cert.Kernel3Ideal.main_v111)) (v6 : (c : Dev Cert.Kernel3Ideal.nD) → Buf (Elt Ideal) ((c.tc : Thread Cert.Kernel3Ideal.nD Cert.Kernel3Ideal.τ).loc Cert.Kernel3Ideal.main_v112)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v108_2) = v0 c
          ∧ r.2.mem ((c.tc : Thread Cert.Kernel3Ideal.nD Cert.Kernel3Ideal.τ).loc Cert.Kernel3Ideal.main_v113) = v1 c
          ∧ r.2.mem ((c.tc : Thread Cert.Kernel3Ideal.nD Cert.Kernel3Ideal.τ).loc Cert.Kernel3Ideal.main_v109) = v2 c
          ∧ r.2.mem ((c.tc : Thread Cert.Kernel3Ideal.nD Cert.Kernel3Ideal.τ).loc Cert.Kernel3Ideal.main_v110) = v3 c
          ∧ r.2.mem ((c.tc : Thread Cert.Kernel3Ideal.nD Cert.Kernel3Ideal.τ).loc Cert.Kernel3Ideal.main_v114) = v4 c
          ∧ r.2.mem ((c.tc : Thread Cert.Kernel3Ideal.nD Cert.Kernel3Ideal.τ).loc Cert.Kernel3Ideal.main_v111) = v5 c
          ∧ r.2.mem ((c.tc : Thread Cert.Kernel3Ideal.nD Cert.Kernel3Ideal.τ).loc Cert.Kernel3Ideal.main_v112) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_v5) = v2 c
          ∧ r.2.mem ((c.tc : Thread Cert.Reference3Ideal.nD Cert.Reference3Ideal.τ).loc Cert.Reference3Ideal.main_v6) = v3 c
          ∧ r.2.mem ((c.tc : Thread Cert.Reference3Ideal.nD Cert.Reference3Ideal.τ).loc Cert.Reference3Ideal.main_v57) = v4 c
          ∧ r.2.mem ((c.tc : Thread Cert.Reference3Ideal.nD Cert.Reference3Ideal.τ).loc Cert.Reference3Ideal.main_v9) = v5 c
          ∧ r.2.mem ((c.tc : Thread Cert.Reference3Ideal.nD Cert.Reference3Ideal.τ).loc Cert.Reference3Ideal.main_v10) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x8x8192x384 : Shape := ⟨4, ![2, 8, 8192, 384]⟩
abbrev S16384x384 : Shape := ⟨2, ![16384, 384]⟩
abbrev S_ : Shape := ⟨0, ![]⟩

class Facts : Prop where
  bitsLt_bf16_f32 : FTy.bits .bf16 < FTy.bits .f32
  bcast_S_S2x8x8192x384 : S_.BroadcastsInDim S2x8x8192x384 (![] : Fin 0 → Fin S2x8x8192x384.rank)
  reducesTo_S2x8x8192x384_S_d0_1_2_3 : S2x8x8192x384.ReducesTo [0, 1, 2, 3] S_
  h_S_ : 0 < S_.numel
  bcast_S_S16384x384 : S_.BroadcastsInDim S16384x384 (![] : Fin 0 → Fin S16384x384.rank)
  reducesTo_S16384x384_S_d0_1 : S16384x384.ReducesTo [0, 1] S_

variable [Facts]

def fn {F : FTy → Type} [FloatOps F] (main_arg0 : FVec F S2x8x8192x384 .bf16) (main_arg1 : FVec F S16384x384 .bf16) : IVec S_ 1 :=
  let main_v0 : FVec F S2x8x8192x384 .f32 := (extf .f32 · bitsLt_bf16_f32) main_arg0
  let main_v1 : FVec F S2x8x8192x384 .f32 := Host.absf main_v0
  let main_cst : FVec F S_ .f32 := constant S_ .f32 0x7F800000#32
  let main_v2 : FVec F S2x8x8192x384 .f32 := broadcastInDim S2x8x8192x384 ![] bcast_S_S2x8x8192x384 main_cst
  let main_v3 : IVec S2x8x8192x384 1 := cmpf .olt main_v1 main_v2
  let main_c : IVec S_ 1 := constantI S_ 1 1#1
  let main_v4 : IVec S_ 1 := (fun x v => Host.reduce IntOp.andi x v reducesTo_S2x8x8192x384_S_d0_1_2_3 h_S_) main_v3 main_c
  let main_v5 : FVec F S16384x384 .f32 := (extf .f32 · bitsLt_bf16_f32) main_arg1
  let main_v6 : FVec F S16384x384 .f32 := Host.absf main_v5
  let main_cst_0 : FVec F S_ .f32 := constant S_ .f32 0x7F800000#32
  let main_v7 : FVec F S16384x384 .f32 := broadcastInDim S16384x384 ![] bcast_S_S16384x384 main_cst_0
  let main_v8 : IVec S16384x384 1 := cmpf .olt main_v6 main_v7
  let main_c_1 : IVec S_ 1 := constantI S_ 1 1#1
  let main_v9 : IVec S_ 1 := (fun x v => Host.reduce IntOp.andi x v reducesTo_S16384x384_S_d0_1 h_S_) main_v8 main_c_1
  let main_v10 : IVec S_ 1 := andi main_v4 main_v9
  main_v10
-- ==== Kernel.lean ====
abbrev S2x8x8192x384 : Shape := ⟨4, ![2, 8, 8192, 384]⟩
abbrev S16384x384 : Shape := ⟨2, ![16384, 384]⟩
abbrev S80 : Shape := ⟨1, ![80]⟩
abbrev S2x8192x384 : Shape := ⟨3, ![2, 8192, 384]⟩
abbrev S2x8x8192x256 : Shape := ⟨4, ![2, 8, 8192, 256]⟩
abbrev S1x8x256x384 : Shape := ⟨4, ![1, 8, 256, 384]⟩
abbrev S1 : Shape := ⟨1, ![1]⟩
abbrev S1x2048x384 : Shape := ⟨3, ![1, 2048, 384]⟩
abbrev S1x8x256x256 : Shape := ⟨4, ![1, 8, 256, 256]⟩
abbrev S4x512x1 : Shape := ⟨3, ![4, 512, 1]⟩
abbrev S4x512x256 : Shape := ⟨3, ![4, 512, 256]⟩
abbrev S2048x384 : Shape := ⟨2, ![2048, 384]⟩
abbrev S2048x256 : Shape := ⟨2, ![2048, 256]⟩
abbrev S1x2x256x384 : Shape := ⟨4, ![1, 2, 256, 384]⟩
abbrev S2x256x384 : Shape := ⟨3, ![2, 256, 384]⟩
abbrev S512x384 : Shape := ⟨2, ![512, 384]⟩
abbrev S512x2048 : Shape := ⟨2, ![512, 2048]⟩
abbrev S1x512x1 : Shape := ⟨3, ![1, 512, 1]⟩
abbrev S512x1 : Shape := ⟨2, ![512, 1]⟩
abbrev S512 : Shape := ⟨1, ![512]⟩
abbrev S1x512x256 : Shape := ⟨3, ![1, 512, 256]⟩
abbrev S512x256 : Shape := ⟨2, ![512, 256]⟩
abbrev S2x256x256 : Shape := ⟨3, ![2, 256, 256]⟩
abbrev S1x2x256x256 : Shape := ⟨4, ![1, 2, 256, 256]⟩

abbrev nBuf : Space → Nat
  | .hbm => 4
  | .vmem => 9
  | .smem => 5
  | _ => 0

abbrev bufTy : (tb : Table) → Fin (tcTables nBuf tb) → BufTy
  | .hbm, ⟨0, _⟩ => ⟨S2x8x8192x384, .bf16⟩
  | .hbm, ⟨1, _⟩ => ⟨S16384x384, .bf16⟩
  | .hbm, ⟨2, _⟩ => ⟨S2x8192x384, .bf16⟩
  | .hbm, ⟨3, _⟩ => ⟨S2x8x8192x256, .f32⟩
  | .local _ .vmem, ⟨0, _⟩ => ⟨S1x8x256x384, .bf16⟩
  | .local _ .vmem, ⟨1, _⟩ => ⟨S1x8x256x384, .bf16⟩
  | .local _ .vmem, ⟨2, _⟩ => ⟨S1x2048x384, .bf16⟩
  | .local _ .vmem, ⟨3, _⟩ => ⟨S1x2048x384, .bf16⟩
  | .local _ .vmem, ⟨4, _⟩ => ⟨S1x8x256x256, .f32⟩
  | .local _ .vmem, ⟨5, _⟩ => ⟨S1x8x256x256, .f32⟩
  | .local _ .vmem, ⟨6, _⟩ => ⟨S4x512x1, .f32⟩
  | .local _ .vmem, ⟨7, _⟩ => ⟨S4x512x1, .f32⟩
  | .local _ .vmem, ⟨8, _⟩ => ⟨S4x512x256, .f32⟩
  | .local _ .smem, ⟨0, _⟩ => ⟨S80, .i32⟩
  | .local _ .smem, ⟨1, _⟩ => ⟨S80, .i32⟩
  | .local _ .smem, ⟨2, _⟩ => ⟨S80, .i32⟩
  | .local _ .smem, ⟨3, _⟩ => ⟨S80, .i32⟩
  | .local _ .smem, ⟨4, _⟩ => ⟨S80, .i32⟩
  | _, _ => ⟨S2x8x8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev main_c_3 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 80], ![false, false]⟩

abbrev pre0 : Pipeline.Prefetch sig := ⟨5, ![main_c.idx, main_c_0.idx, main_c_1.idx, main_c_2.idx, main_c_3.idx], fun | 0 => main_c.names | 1 => main_c_0.names | 2 => main_c_1.names | 3 => main_c_2.names | 4 => main_c_3.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v10 : Index := Scalar.indexCast arg1
  ![v10.toNat]
def k0_off4 (i : grid0.Coords) : Fin 1 → Nat :=
  let arg1 : BitVec 32 := BitVec.ofNat 32 (i 1).val
  let v23 : Index := Scalar.indexCast arg1
  ![v23.toNat]
def k0_off5 (i : grid0.Coords) : Fin 1 → Nat :=
  let arg1 : BitVec 32 := BitVec.ofNat 32 (i 1).val
  let v15 : Index := Scalar.indexCast arg1
  ![v15.toNat]
def k0_cond4 (v16 : BitVec 32) : BitVec 1 :=
  let c1_i32_4 : BitVec 32 := 1#32
  let v17 : BitVec 1 := Scalar.cmpi .eq v16 c1_i32_4
  let v18 : BitVec 32 := Scalar.extui v17
  let c0_i32_5 : BitVec 32 := 0#32
  let v19 : BitVec 1 := Scalar.cmpi .ne v18 c0_i32_5
  v19

def cc0_transform_0 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S80) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

abbrev stage0_0 : Fin 2 → Memref sig .tc .vmem S1x8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8x8192x384 : Shape := ⟨4, ![2, 8, 8192, 384]⟩
abbrev S16384x384 : Shape := ⟨2, ![16384, 384]⟩
abbrev S2x8x8192x256 : Shape := ⟨4, ![2, 8, 8192, 256]⟩
abbrev S2x8x8192x128 : Shape := ⟨4, ![2, 8, 8192, 128]⟩
abbrev S2x8192x384 : Shape := ⟨3, ![2, 8192, 384]⟩
abbrev S2x8192x256 : Shape := ⟨3, ![2, 8192, 256]⟩
abbrev S2x8192x128 : Shape := ⟨3, ![2, 8192, 128]⟩
abbrev S8192 : Shape := ⟨1, ![8192]⟩
abbrev S2x8x8192x8192 : Shape := ⟨4, ![2, 8, 8192, 8192]⟩
abbrev S1x1x1x8192 : Shape := ⟨4, ![1, 1, 1, 8192]⟩
abbrev S1x1x8192x1 : Shape := ⟨4, ![1, 1, 8192, 1]⟩
abbrev S1x1x8192x8192 : Shape := ⟨4, ![1, 1, 8192, 8192]⟩
abbrev S_ : Shape := ⟨0, ![]⟩
abbrev S2x8x8192 : Shape := ⟨3, ![2, 8, 8192]⟩
abbrev S2x8x8192x1 : Shape := ⟨4, ![2, 8, 8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x8x8192x384, .bf16⟩
  | .hbm, ⟨1, _⟩ => ⟨S16384x384, .bf16⟩
  | .hbm, ⟨2, _⟩ => ⟨S2x8x8192x256, .bf16⟩
  | .hbm, ⟨3, _⟩ => ⟨S2x8x8192x256, .f32⟩
  | .hbm, ⟨4, _⟩ => ⟨S2x8x8192x128, .bf16⟩
  | .hbm, ⟨5, _⟩ => ⟨S2x8x8192x128, .f32⟩
  | .hbm, ⟨6, _⟩ => ⟨S16384x384, .f32⟩
  | .hbm, ⟨7, _⟩ => ⟨S2x8192x384, .f32⟩
  | .hbm, ⟨8, _⟩ => ⟨S2x8192x256, .f32⟩
  | .hbm, ⟨9, _⟩ => ⟨S2x8192x128, .f32⟩
  | .hbm, ⟨10, _⟩ => ⟨S8192, .i32⟩
  | .hbm, ⟨11, _⟩ => ⟨S2x8x8192x8192, .f32⟩
  | .hbm, ⟨12, _⟩ => ⟨S2x8x8192x8192, .f32⟩
  | .hbm, ⟨13, _⟩ => ⟨S2x8x8192x8192, .f32⟩
  | .hbm, ⟨14, _⟩ => ⟨S1x1x1x8192, .i32⟩
  | .hbm, ⟨15, _⟩ => ⟨S1x1x8192x1, .i32⟩
  | .hbm, ⟨16, _⟩ => ⟨S1x1x8192x8192, .i32⟩
  | .hbm, ⟨17, _⟩ => ⟨S1x1x8192x8192, .i32⟩
  | .hbm, ⟨18, _⟩ => ⟨S1x1x8192x8192, .i1⟩
  | .hbm, ⟨19, _⟩ => ⟨S_, .f32⟩
  | .hbm, ⟨20, _⟩ => ⟨S_, .f32⟩
  | .hbm, ⟨21, _⟩ => ⟨S2x8x8192x8192, .i1⟩
  | .hbm, ⟨22, _⟩ => ⟨S2x8x8192x8192, .f32⟩
  | .hbm, ⟨23, _⟩ => ⟨S2x8x8192x8192, .f32⟩
  | .hbm, ⟨24, _⟩ => ⟨S_, .f32⟩
  | .hbm, ⟨25, _⟩ => ⟨S2x8x8192, .f32⟩
  | .hbm, ⟨26, _⟩ => ⟨S_, .f32⟩
  | .hbm, ⟨27, _⟩ => ⟨S2x8x8192, .f32⟩
  | .hbm, ⟨28, _⟩ => ⟨S2x8x8192, .f32⟩
  | .hbm, ⟨29, _⟩ => ⟨S2x8x8192x1, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S_, .f32⟩
  | .hbm, ⟨34, _⟩ => ⟨S2x8x8192, .f32⟩
  | .hbm, ⟨35, _⟩ => ⟨S2x8x8192x1, .f32⟩
  | .hbm, ⟨36, _⟩ => ⟨S2x8x8192x8192, .f32⟩
  | .hbm, ⟨37, _⟩ => ⟨S2x8x8192x8192, .f32⟩
  | .hbm, ⟨38, _⟩ => ⟨S2x8x8192x256, .f32⟩
  | _, _ => ⟨S2x8x8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_17 : BitVec 32 := 0#32
  let v28 : BitVec 1 := Scalar.cmpi .ne v27 c0_i32_17
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
variable {F : FTy → Type} [FloatOps F] [Named F]
def κ : String → Option EReal := fun
  | "alpha" => some ((Real.sqrt 2 : ℝ) : EReal)
  | _ => none
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S16384x2816, .f32⟩
  | .hbm, ⟨8, _⟩ => ⟨S1024x2816, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S2816x1024, .f32⟩
  | .hbm, ⟨21, _⟩ => ⟨S16384x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S16384x1024 : Shape := ⟨2, ![16384, 1024]⟩
abbrev S1024x1444 : Shape := ⟨2, ![1024, 1444]⟩
abbrev S4 : Shape := ⟨1, ![4]⟩
abbrev S384 : Shape := ⟨1, ![384]⟩
abbrev S384x8x96 : Shape := ⟨3, ![384, 8, 96]⟩
abbrev S256 : Shape := ⟨1, ![256]⟩
abbrev S256x8x64 : Shape := ⟨3, ![256, 8, 64]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x8192x8x32 : Shape := ⟨4, ![1, 8192, 8, 32]⟩
abbrev S8192x256 : Shape := ⟨2, ![8192, 256]⟩
abbrev S1024x384 : Shape := ⟨2, ![1024, 384]⟩
abbrev S1024x256 : Shape := ⟨2, ![1024, 256]⟩
abbrev S1024x32 : Shape := ⟨2, ![1024, 32]⟩
abbrev S1024x64 : Shape := ⟨2, ![1024, 64]⟩
abbrev S1024x4 : Shape := ⟨2, ![1024, 4]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S1024x16 : Shape := ⟨2, ![1024, 16]⟩
abbrev S1024x512 : Shape := ⟨2, ![1024, 512]⟩
abbrev S1024x124 : Shape := ⟨2, ![1024, 124]⟩
abbrev S1024x2304 : Shape := ⟨2, ![1024, 2304]⟩
abbrev S384x8x64 : Shape := ⟨3, ![384, 8, 64]⟩
abbrev S384x512 : Shape := ⟨2, ![384, 512]⟩
abbrev S384x8x32 : Shape := ⟨3, ![384, 8, 32]⟩
abbrev S384x256 : Shape := ⟨2, ![384, 256]⟩
abbrev S384x8x16 : Shape := ⟨3, ![384, 8, 16]⟩
abbrev S384x1024 : Shape := ⟨2, ![384, 1024]⟩
abbrev S8x64x256 : Shape := ⟨3, ![8, 64, 256]⟩
abbrev S8x128x256 : Shape := ⟨3, ![8, 128, 256]⟩
abbrev S8 : Shape := ⟨1, ![8]⟩
abbrev S8x1x1 : Shape := ⟨3, ![8, 1, 1]⟩
abbrev S1x128 : Shape := ⟨2, ![1, 128]⟩
abbrev S1 : Shape := ⟨1, ![1]⟩
abbrev S2 : Shape := ⟨1, ![2]⟩
abbrev S1x384 : Shape := ⟨2, ![1, 384]⟩
abbrev S1x256 : Shape := ⟨2, ![1, 256]⟩
abbrev S2x8x8192x384 : Shape := ⟨4, ![2, 8, 8192, 384]⟩
abbrev S16384x384 : Shape := ⟨2, ![16384, 384]⟩
abbrev S16384x256 : Shape := ⟨2, ![16384, 256]⟩
abbrev S16384x128 : Shape := ⟨2, ![16384, 128]⟩
abbrev S2x4x8192x128 : Shape := ⟨4, ![2, 4, 8192, 128]⟩
abbrev S512x1024 : Shape := ⟨2, ![512, 1024]⟩
abbrev S512x128 : Shape := ⟨2, ![512, 128]⟩
abbrev S512x256 : Shape := ⟨2, ![512, 256]⟩
abbrev S1x8x512x384 : Shape := ⟨4, ![1, 8, 512, 384]⟩
abbrev S512x384 : Shape := ⟨2, ![512, 384]⟩
abbrev S1x4x512x128 : Shape := ⟨4, ![1, 4, 512, 128]⟩
abbrev S512x2304 : Shape := ⟨2, ![512, 2304]⟩
abbrev S512 : Shape := ⟨1, ![512]⟩
abbrev S512x1 : Shape := ⟨2, ![512, 1]⟩
abbrev S512x512 : Shape := ⟨2, ![512, 512]⟩
abbrev S1x128x256 : Shape := ⟨3, ![1, 128, 256]⟩
abbrev S128x256 : Shape := ⟨2, ![128, 256]⟩
abbrev S1x1x512x256 : Shape := ⟨4, ![1, 1, 512, 256]⟩
abbrev S1x1x512x128 : Shape := ⟨4, ![1, 1, 512, 128]⟩
abbrev S16384x64 : Shape := ⟨2, ![16384, 64]⟩
abbrev S16384x32 : Shape := ⟨2, ![16384, 32]⟩
abbrev S16384x4 : Shape := ⟨2, ![16384, 4]⟩

abbrev nBuf : Space → Nat
  | .hbm => 168
  | .vmem => 34
  | .smem => 0
  | _ => 0

abbrev hbmTy0_0 (i : Nat) : BufTy := match i % 128 with
  | 0 => ⟨S16384x1024, .f32⟩
  | 1 => ⟨S1024x1444, .f32⟩
  | 2 => ⟨S4, .f32⟩
  | 3 => ⟨S384, .f32⟩
  | 4 => ⟨S384x8x96, .f32⟩
  | 5 => ⟨S256, .f32⟩
  | 6 => ⟨S256x8x64, .f32⟩
  | 7 => ⟨S8192, .i32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S8192, .f32⟩
  | 17 => ⟨S8192x1, .f32⟩
  | 18 => ⟨S1x16, .f32⟩
  | 19 => ⟨S8192x16, .f32⟩
  | 20 => ⟨S8192x16, .f32⟩
  | 21 => ⟨S8192x16, .f32⟩
  | 22 => ⟨S8192x16, .f32⟩
  | 23 => ⟨S8192x16, .f32⟩
  | 24 => ⟨S8192x32, .f32⟩
  | 25 => ⟨S8192x16, .f32⟩
  | 26 => ⟨S8192x16, .f32⟩
  | 27 => ⟨S8192x16, .f32⟩
  | 28 => ⟨S8192x32, .f32⟩
  | 29 => ⟨S1x8192x1x32, .f32⟩
  | 30 => ⟨S1x8192x4x32, .f32⟩
  | 31 => ⟨S8192x128, .f32⟩
  | 32 => ⟨S1x8192x1x32, .f32⟩
  | 33 => ⟨S1x8192x4x32, .f32⟩
  | 34 => ⟨S8192x128, .f32⟩
  | 35 => ⟨S1x8192x1x32, .f32⟩
  | 36 => ⟨S1x8192x8x32, .f32⟩
  | 37 => ⟨S8192x256, .f32⟩
  | 38 => ⟨S1x8192x1x32, .f32⟩
  | 39 => ⟨S1x8192x8x32, .f32⟩
  | 40 => ⟨S8192x256, .f32⟩
  | 41 => ⟨S1024x384, .f32⟩
  | 42 => ⟨S1024x256, .f32⟩
  | 43 => ⟨S1024x32, .f32⟩
  | 44 => ⟨S1024x256, .f32⟩
  | 45 => ⟨S1024x64, .f32⟩
  | 46 => ⟨S1024x64, .f32⟩
  | 47 => ⟨S1024x4, .f32⟩
  | 48 => ⟨S1024x256, .f32⟩
  | 49 => ⟨S1024x64, .f32⟩
  | 50 => ⟨S1024x64, .f32⟩
  | 51 => ⟨S1x1024x1x32, .f32⟩
  | 52 => ⟨S1x1024x4x32, .f32⟩
  | 53 => ⟨S1024x128, .f32⟩
  | 54 => ⟨S1024x16, .f32⟩
  | 55 => ⟨S1024x16, .f32⟩
  | 56 => ⟨S1024x32, .f32⟩
  | 57 => ⟨S1x1024x1x32, .f32⟩
  | 58 => ⟨S1x1024x4x32, .f32⟩
  | 59 => ⟨S1024x128, .f32⟩
  | 60 => ⟨S1024x64, .f32⟩
  | 61 => ⟨S_, .f32⟩
  | 62 => ⟨S1024x64, .f32⟩
  | 63 => ⟨S1024x128, .f32⟩
  | 64 => ⟨S1024x64, .f32⟩
  | 65 => ⟨S_, .f32⟩
  | 66 => ⟨S1024x64, .f32⟩
  | 67 => ⟨S1024x128, .f32⟩
  | 68 => ⟨S1024x64, .f32⟩
  | 69 => ⟨S_, .f32⟩
  | 70 => ⟨S1024x64, .f32⟩
  | 71 => ⟨S1024x128, .f32⟩
  | 72 => ⟨S1024x64, .f32⟩
  | 73 => ⟨S_, .f32⟩
  | 74 => ⟨S1024x64, .f32⟩
  | 75 => ⟨S1024x128, .f32⟩
  | 76 => ⟨S1024x512, .f32⟩
  | 77 => ⟨S1024x64, .f32⟩
  | 78 => ⟨S_, .f32⟩
  | 79 => ⟨S1024x64, .f32⟩
  | 80 => ⟨S1024x128, .f32⟩
  | 81 => ⟨S1024x64, .f32⟩
  | 82 => ⟨S_, .f32⟩
  | 83 => ⟨S1024x64, .f32⟩
  | 84 => ⟨S1024x128, .f32⟩
  | 85 => ⟨S1024x64, .f32⟩
  | 86 => ⟨S_, .f32⟩
  | 87 => ⟨S1024x64, .f32⟩
  | 88 => ⟨S1024x128, .f32⟩
  | 89 => ⟨S1024x64, .f32⟩
  | 90 => ⟨S_, .f32⟩
  | 91 => ⟨S1024x64, .f32⟩
  | 92 => ⟨S1024x128, .f32⟩
  | 93 => ⟨S1024x512, .f32⟩
  | 94 => ⟨S_, .f32⟩
  | 95 => ⟨S1024x124, .f32⟩
  | 96 => ⟨S1024x2304, .f32⟩
  | 97 => ⟨S384x8x64, .f32⟩
  | 98 => ⟨S384x512, .f32⟩
  | 99 => ⟨S384x8x32, .f32⟩
  | 100 => ⟨S384x256, .f32⟩
  | 101 => ⟨S384x8x16, .f32⟩
  | 102 => ⟨S384x8x16, .f32⟩
  | 103 => ⟨S384x8x32, .f32⟩
  | 104 => ⟨S384x256, .f32⟩
  | 105 => ⟨S384x1024, .f32⟩
  | 106 => ⟨S8x64x256, .f32⟩
  | 107 => ⟨S_, .f32⟩
  | 108 => ⟨S8x64x256, .f32⟩
  | 109 => ⟨S8x128x256, .f32⟩
  | 110 => ⟨S8x128x256, .f32⟩
  | 111 => ⟨S8, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S8, .i32⟩
  | 119 => ⟨S8, .i32⟩
  | 120 => ⟨S_, .i32⟩
  | 121 => ⟨S8, .i32⟩
  | 122 => ⟨S8, .i1⟩
  | 123 => ⟨S_, .i32⟩
  | 124 => ⟨S8, .i32⟩
  | 125 => ⟨S8, .i1⟩
  | 126 => ⟨S_, .i32⟩
  | 127 => ⟨S_, .i1⟩
  | _ => ⟨S16384x1024, .f32⟩

abbrev hbmTy0_1 (i : Nat) : BufTy := match i % 128 with
  | 0 => ⟨S8, .i1⟩
  | 1 => ⟨S8, .i1⟩
  | 2 => ⟨S8, .i1⟩
  | 3 => ⟨S8, .i32⟩
  | 4 => ⟨S8, .i32⟩
  | 5 => ⟨S8, .i32⟩
  | 6 => ⟨S_, .i32⟩
  | 7 => ⟨S8, .i32⟩
  | 8 => ⟨S8, .i1⟩
  | 9 => ⟨S8x1x1, .i1⟩
  | 10 => ⟨S8x128x256, .i1⟩
  | 11 => ⟨S8x128x256, .f32⟩
  | 12 => ⟨S_, .f32⟩
  | 13 => ⟨S1x128, .f32⟩
  | 14 => ⟨S_, .i32⟩
  | 15 => ⟨S1, .i32⟩
  | 16 => ⟨S_, .i32⟩
  | 17 => ⟨S1, .i32⟩
  | 18 => ⟨S2, .i32⟩
  | 19 => ⟨S1x128, .f32⟩
  | 20 => ⟨S1024x2304, .bf16⟩
  | 21 => ⟨S1x384, .f32⟩
  | 22 => ⟨S1x256, .f32⟩
  | 23 => ⟨S384x1024, .bf16⟩
  | 24 => ⟨S8x128x256, .bf16⟩
  | 25 => ⟨S2x8x8192x384, .bf16⟩
  | 26 => ⟨S16384x384, .bf16⟩
  | 27 => ⟨S16384x256, .f32⟩
  | 28 => ⟨S16384x128, .f32⟩
  | 29 => ⟨S2x4x8192x128, .bf16⟩
  | 30 => ⟨S2x4x8192x128, .bf16⟩
  | 31 => ⟨S16384x128, .f32⟩
  | 32 => ⟨S16384x128, .f32⟩
  | 33 => ⟨S16384x128, .f32⟩
  | 34 => ⟨S16384x64, .f32⟩
  | 35 => ⟨S16384x64, .f32⟩
  | 36 => ⟨S16384x64, .f32⟩
  | 37 => ⟨S16384x64, .f32⟩
  | 38 => ⟨S16384x32, .f32⟩
  | 39 => ⟨S16384x4, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x2304, .bf16⟩
  | .local _ .vmem, ⟨11, _⟩ => ⟨S1x384, .f32⟩
  | .local _ .vmem, ⟨12, _⟩ => ⟨S1x256, .f32⟩
  | .local _ .vmem, ⟨13, _⟩ => ⟨S384x1024, .bf16⟩
  | .local _ .vmem, ⟨14, _⟩ => ⟨S8x128x256, .bf16⟩
  | .local _ .vmem, ⟨15, _⟩ => ⟨S1x128, .f32⟩
  | .local _ .vmem, ⟨16, _⟩ => ⟨S1x8x512x384, .bf16⟩
  | .local _ .vmem, ⟨17, _⟩ => ⟨S1x8x512x384, .bf16⟩
  | .local _ .vmem, ⟨18, _⟩ => ⟨S512x384, .bf16⟩
  | .local _ .vmem, ⟨19, _⟩ => ⟨S512x384, .bf16⟩
  | .local _ .vmem, ⟨20, _⟩ => ⟨S512x256, .f32⟩
  | .local _ .vmem, ⟨21, _⟩ => ⟨S512x256, .f32⟩
  | .local _ .vmem, ⟨22, _⟩ => ⟨S512x128, .f32⟩
  | .local _ .vmem, ⟨23, _⟩ => ⟨S512x128, .f32⟩
  | .local _ .vmem, ⟨24, _⟩ => ⟨S1x4x512x128, .bf16⟩
  | .local _ .vmem, ⟨25, _⟩ => ⟨S1x4x512x128, .bf16⟩
  | .local _ .vmem, ⟨26, _⟩ => ⟨S1x4x512x128, .bf16⟩
  | .local _ .vmem, ⟨27, _⟩ => ⟨S1x4x512x128, .bf16⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_1 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_2 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_3 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_4 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_5 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_6 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_10 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_c : Ref sig .tc := ⟨.hbm, 112, rfl⟩
abbrev main_call0_v0 : Ref sig .tc := ⟨.hbm, 113, rfl⟩
abbrev main_call0_c : Ref sig .tc := ⟨.hbm, 114, rfl⟩
abbrev main_call0_v1 : Ref sig .tc := ⟨.hbm, 115, rfl⟩
abbrev main_call0_c_0 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_c_1 : Ref sig .tc := ⟨.hbm, 120, rfl⟩
abbrev main_call0_v5 : Ref sig .tc := ⟨.hbm, 121, rfl⟩
abbrev main_call0_v6 : Ref sig .tc := ⟨.hbm, 122, rfl⟩
abbrev main_call0_c_2 : Ref sig .tc := ⟨.hbm, 123, rfl⟩
abbrev main_call0_v7 : Ref sig .tc := ⟨.hbm, 124, rfl⟩
abbrev main_call0_v8 : Ref sig .tc := ⟨.hbm, 125, rfl⟩
abbrev main_call0_c_3 : Ref sig .tc := ⟨.hbm, 126, rfl⟩
abbrev main_call0_v9 : Ref sig .tc := ⟨.hbm, 127, rfl⟩
abbrev main_call0_v10 : Ref sig .tc := ⟨.hbm, 128, rfl⟩
abbrev main_call0_v11 : Ref sig .tc := ⟨.hbm, 129, rfl⟩
abbrev main_call0_v12 : Ref sig .tc := ⟨.hbm, 130, rfl⟩
abbrev main_call0_v13 : Ref sig .tc := ⟨.hbm, 131, rfl⟩
abbrev main_call0_v14 : Ref sig .tc := ⟨.hbm, 132, rfl⟩
abbrev main_v93 : Ref sig .tc := ⟨.hbm, 133, rfl⟩
abbrev main_c_11 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_call1_v0 : Ref sig .tc := ⟨.hbm, 138, rfl⟩
abbrev main_v97 : Ref sig .tc := ⟨.hbm, 139, rfl⟩
abbrev main_cst_12 : Ref sig .tc := ⟨.hbm, 140, rfl⟩
abbrev main_v98 : Ref sig .tc := ⟨.hbm, 141, rfl⟩
abbrev main_c_13 : Ref sig .tc := ⟨.hbm, 142, rfl⟩
abbrev main_v99 : Ref sig .tc := ⟨.hbm, 143, rfl⟩
abbrev main_c_14 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108_0 : Ref sig .tc := ⟨.hbm, 153, rfl⟩
abbrev main_v108_1 : Ref sig .tc := ⟨.hbm, 154, rfl⟩
abbrev main_v108_2 : Ref sig .tc := ⟨.hbm, 155, rfl⟩
abbrev main_v108_3 : Ref sig .tc := ⟨.hbm, 156, rfl⟩
abbrev main_v108_4 : Ref sig .tc := ⟨.hbm, 157, rfl⟩
abbrev main_v108_5 : Ref sig .tc := ⟨.hbm, 158, rfl⟩
abbrev main_v108_6 : Ref sig .tc := ⟨.hbm, 159, rfl⟩
abbrev main_v108_7 : Ref sig .tc := ⟨.hbm, 160, rfl⟩
abbrev main_v108_8 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S16384x1024 : Shape := ⟨2, ![16384, 1024]⟩
abbrev S1024x1444 : Shape := ⟨2, ![1024, 1444]⟩
abbrev S4 : Shape := ⟨1, ![4]⟩
abbrev S384 : Shape := ⟨1, ![384]⟩
abbrev S384x8x96 : Shape := ⟨3, ![384, 8, 96]⟩
abbrev S256 : Shape := ⟨1, ![256]⟩
abbrev S256x8x64 : Shape := ⟨3, ![256, 8, 64]⟩
abbrev S16384x1444 : Shape := ⟨2, ![16384, 1444]⟩
abbrev S16384x384 : Shape := ⟨2, ![16384, 384]⟩
abbrev S16384x256 : Shape := ⟨2, ![16384, 256]⟩
abbrev S16384x32 : Shape := ⟨2, ![16384, 32]⟩
abbrev S16384x64 : Shape := ⟨2, ![16384, 64]⟩
abbrev S16384x4 : Shape := ⟨2, ![16384, 4]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S2x8192x1x16 : Shape := ⟨4, ![2, 8192, 1, 16]⟩
abbrev S16384x16 : Shape := ⟨2, ![16384, 16]⟩
abbrev S1x4 : Shape := ⟨2, ![1, 4]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1444, .f32⟩
  | .hbm, ⟨2, _⟩ => ⟨S4, .f32⟩
  | .hbm, ⟨3, _⟩ => ⟨S384, .f32⟩
  | .hbm, ⟨4, _⟩ => ⟨S384x8x96, .f32⟩
  | .hbm, ⟨5, _⟩ => ⟨S256, .f32⟩
  | .hbm, ⟨6, _⟩ => ⟨S256x8x64, .f32⟩
  | .hbm, ⟨7, _⟩ => ⟨S16384x1444, .f32⟩
  | .hbm, ⟨8, _⟩ => ⟨S16384x384, .f32⟩
  | .hbm, ⟨9, _⟩ => ⟨S16384x256, .f32⟩
  | .hbm, ⟨10, _⟩ => ⟨S16384x32, .f32⟩
  | .hbm, ⟨11, _⟩ => ⟨S16384x256, .f32⟩
  | .hbm, ⟨12, _⟩ => ⟨S16384x64, .f32⟩
  | .hbm, ⟨13, _⟩ => ⟨S16384x64, .f32⟩
  | .hbm, ⟨14, _⟩ => ⟨S16384x4, .f32⟩
  | .hbm, ⟨15, _⟩ => ⟨S16384x256, .f32⟩
  | .hbm, ⟨16, _⟩ => ⟨S16384x64, .f32⟩
  | .hbm, ⟨17, _⟩ => ⟨S16384x64, .f32⟩
  | .hbm, ⟨18, _⟩ => ⟨S16384x256, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x256, .f32⟩
  | .hbm, ⟨30, _⟩ => ⟨S16384x256, .f32⟩
  | .hbm, ⟨31, _⟩ => ⟨S1x256, .f32⟩
  | .hbm, ⟨32, _⟩ => ⟨S16384x256, .f32⟩
  | .hbm, ⟨33, _⟩ => ⟨S16384x256, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S8192, .i32⟩
  | .hbm, ⟨43, _⟩ => ⟨S8192, .f32⟩
  | .hbm, ⟨44, _⟩ => ⟨S8192x1, .f32⟩
  | .hbm, ⟨45, _⟩ => ⟨S1x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x16, .f32⟩
  | .hbm, ⟨50, _⟩ => ⟨S1x8192x1x16, .f32⟩
  | .hbm, ⟨51, _⟩ => ⟨S2x8192x1x16, .f32⟩
  | .hbm, ⟨52, _⟩ => ⟨S16384x16, .f32⟩
  | .hbm, ⟨53, _⟩ => ⟨S8192x16, .f32⟩
  | .hbm, ⟨54, _⟩ => ⟨S1x8192x1x16, .f32⟩
  | .hbm, ⟨55, _⟩ => ⟨S2x8192x1x16, .f32⟩
  | .hbm, ⟨56, _⟩ => ⟨S16384x16, .f32⟩
  | .hbm, ⟨57, _⟩ => ⟨S16384x16, .f32⟩
  | .hbm, ⟨58, _⟩ => ⟨S16384x16, .f32⟩
  | .hbm, ⟨59, _⟩ => ⟨S16384x16, .f32⟩
  | .hbm, ⟨60, _⟩ => ⟨S16384x16, .f32⟩
  | .hbm, ⟨61, _⟩ => ⟨S16384x16, .f32⟩
  | .hbm, ⟨62, _⟩ => ⟨S16384x16, .f32⟩
  | .hbm, ⟨63, _⟩ => ⟨S16384x16, .f32⟩
  | .hbm, ⟨64, _⟩ => ⟨S16384x16, .f32⟩
  | .hbm, ⟨65, _⟩ => ⟨S16384x32, .f32⟩
  | .hbm, ⟨66, _⟩ => ⟨S1x4, .f32⟩
  | .hbm, ⟨67, _⟩ => ⟨S16384x4, .f32⟩
  | .hbm, ⟨68, _⟩ => ⟨S16384x4, .f32⟩
  | .hbm, ⟨69, _⟩ => ⟨S16384x4, .f32⟩
  | .hbm, ⟨70, _⟩ => ⟨S_, .f32⟩
  | .hbm, ⟨71, _⟩ => ⟨S16384x4, .f32⟩
  | .hbm, ⟨72, _⟩ => ⟨S16384x4, .f32⟩
  | .hbm, ⟨73, _⟩ => ⟨S16384x4, .f32⟩
  | .hbm, ⟨74, _⟩ => ⟨S16384x4, .f32⟩
  | .hbm, ⟨75, _⟩ => ⟨S16384x4, .i1⟩
  | .hbm, ⟨76, _⟩ => ⟨S16384x4, .f32⟩
  | .hbm, ⟨77, _⟩ => ⟨S16384x4, .f32⟩
  | .hbm, ⟨78, _⟩ => ⟨S16384x4, .f32⟩
  | .hbm, ⟨79, _⟩ => ⟨S16384x4, .f32⟩
  | .hbm, ⟨80, _⟩ => ⟨S16384x4, .f32⟩
  | .hbm, ⟨81, _⟩ => ⟨S16384x4, .f32⟩
  | .hbm, ⟨82, _⟩ => ⟨S16384x4, .f32⟩
  | .hbm, ⟨83, _⟩ => ⟨S16384x4, .f32⟩
  | .hbm, ⟨84, _⟩ => ⟨S16384x4, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call0_v0 : Ref sig .tc := ⟨.hbm, 69, rfl⟩
abbrev main_call0_call0_cst : Ref sig .tc := ⟨.hbm, 70, rfl⟩
abbrev main_call0_call0_v0 : Ref sig .tc := ⟨.hbm, 71, rfl⟩
abbrev main_call0_call0_v1 : Ref sig .tc := ⟨.hbm, 72, rfl⟩
abbrev main_call0_call0_v2 : Ref sig .tc := ⟨.hbm, 73, rfl⟩
abbrev main_call0_call0_v3 : Ref sig .tc := ⟨.hbm, 74, rfl⟩
abbrev main_call0_call0_v4 : Ref sig .tc := ⟨.hbm, 75, rfl⟩
abbrev main_call0_call0_v5 : Ref sig .tc := ⟨.hbm, 76, rfl⟩
abbrev main_call0_call0_v6 : Ref sig .tc := ⟨.hbm, 77, rfl⟩
abbrev main_call0_call0_v7 : Ref sig .tc := ⟨.hbm, 78, rfl⟩
abbrev main_call0_call0_v8 : Ref sig .tc := ⟨.hbm, 79, rfl⟩
abbrev main_call0_call0_v9 : Ref sig .tc := ⟨.hbm, 80, rfl⟩
abbrev main_call0_call0_v10 : Ref sig .tc := ⟨.hbm, 81, rfl⟩
abbrev main_call0_call0_v11 : Ref sig .tc := ⟨.hbm, 82, rfl⟩
abbrev main_call0_v1 : Ref sig .tc := ⟨.hbm, 83, rfl⟩
abbrev main_v57 : Ref sig .tc := ⟨.hbm, 84, rfl⟩

abbrev nD : Nat := 1
abbrev τ : Topo := Topo.v7x

variable {F : FTy → Type} [FloatOps F]
-- ==== Proof.MlaTables.lean ====
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Mla

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev Tr (c : Dev nD) : Type := (S1x8x256x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2)

abbrev tbM0_0 : Memref sig .tc .smem S80 .i32 := Memref.whole main_c
abbrev tbM0_1 : Memref sig .tc .smem S80 .i32 := Memref.whole main_c_0
abbrev tbM0_2 : Memref sig .tc .smem S80 .i32 := Memref.whole main_c_1
abbrev tbM0_3 : Memref sig .tc .smem S80 .i32 := Memref.whole main_c_2
abbrev tbM0_4 : Memref sig .tc .smem S80 .i32 := Memref.whole main_c_3
abbrev scM0_0 : Memref sig .tc .vmem S4x512x1 .f32 := Memref.whole cc0_scratch0
abbrev scM0_1 : Memref sig .tc .vmem S4x512x1 .f32 := Memref.whole cc0_scratch1
abbrev scM0_2 : Memref sig .tc .vmem S4x512x256 .f32 := Memref.whole cc0_scratch2

def pinT_0 : S80.Idx → BitVec 32 := fun x => lit0 (S80.rowMajor x)

def pinT_1 : S80.Idx → BitVec 32 := fun x => lit1 (S80.rowMajor x)

def pinT_2 : S80.Idx → BitVec 32 := fun x => lit2 (S80.rowMajor x)

def pinT_3 : S80.Idx → BitVec 32 := fun x => lit3 (S80.rowMajor x)

def pinT_4 : S80.Idx → BitVec 32 := fun x => lit4 (S80.rowMajor x)

set_option backward.proofsInPublic true in
def pfN : pre0.Contents (Elt Ideal) := fun | ⟨0, _⟩ => pinT_0 | ⟨1, _⟩ => pinT_1 | ⟨2, _⟩ => pinT_2 | ⟨3, _⟩ => pinT_3 | ⟨4, _⟩ => pinT_4 | ⟨_ + 5, h⟩ => absurd h (by simp)
/-- A block index that stays in bounds on its own axis stays in bounds with the first axis in front. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The block that the query window takes from the pinned tables ends inside its array. -/
theorem ok_pfN_0_0_inb : ∀ i : grid0.Coords, ∀ a, (cc0_transform_0 k0_off1_inb numel1_S1 (pfN) i a + 1) * S1x8x256x384.size a ≤ S2x8x8192x384.size a := by decide +kernel
/-- The pinned tables give the query window a block inside its array at every point. -/
theorem ok_pfN_0_0 : (∀ i : grid0.Coords, ∃ h : (∀ a, (cc0_transform_0 k0_off1_inb numel1_S1 (pfN) i a + 1) * S1x8x256x384.size a ≤ S2x8x8192x384.size a), EltTy.bits .bf16 = 32 ∨ (Rect.block (s := S2x8x8192x384) S1x8x256x384.size (cc0_transform_0 k0_off1_inb numel1_S1 (pfN) i) h).WholeWords (EltTy.packing .bf16)) := fun i => ⟨ok_pfN_0_0_inb i, .inr (Affine.block_words_dvd (s := S2x8x8192x384) (p := EltTy.packing .bf16) (by decide) (by decide))⟩
/-- The block that the key window takes from the pinned tables ends inside its array. -/
theorem ok_pfN_0_1_inb : ∀ i : grid0.Coords, ∀ a, (cc0_transform_1 k0_off1_inb numel1_S1 (pfN) i a + 1) * S1x2048x384.size a ≤ S2x8192x384.size a := by decide +kernel
/-- The pinned tables give the key window a block inside its array at every point. -/
theorem ok_pfN_0_1 : (∀ i : grid0.Coords, ∃ h : (∀ a, (cc0_transform_1 k0_off1_inb numel1_S1 (pfN) i a + 1) * S1x2048x384.size a ≤ S2x8192x384.size a), EltTy.bits .bf16 = 32 ∨ (Rect.block (s := S2x8192x384) S1x2048x384.size (cc0_transform_1 k0_off1_inb numel1_S1 (pfN) i) h).WholeWords (EltTy.packing .bf16)) := fun i => ⟨ok_pfN_0_1_inb i, .inr (Affine.block_words_dvd (s := S2x8192x384) (p := EltTy.packing .bf16) (by decide) (by decide))⟩
/-- The block that the output window takes from the pinned tables ends inside its array. -/
theorem ok_pfN_0_2_inb : ∀ i : grid0.Coords, ∀ a, (cc0_transform_2 k0_off1_inb numel1_S1 (pfN) i a + 1) * S1x8x256x256.size a ≤ S2x8x8192x256.size a := by decide +kernel
/-- The pinned tables give the output window a block inside its array at every point. -/
theorem ok_pfN_0_2 : (∀ i : grid0.Coords, ∃ h : (∀ a, (cc0_transform_2 k0_off1_inb numel1_S1 (pfN) i a + 1) * S1x8x256x256.size a ≤ S2x8x8192x256.size a), EltTy.bits .f32 = 32 ∨ (Rect.block (s := S2x8x8192x256) S1x8x256x256.size (cc0_transform_2 k0_off1_inb numel1_S1 (pfN) i) h).WholeWords (EltTy.packing .f32)) := fun i => ⟨ok_pfN_0_2_inb i, .inl rfl⟩
/-- The pinned tables are admissible: every window takes a block inside its array. -/
theorem ok_pfN : ok0 (F := Ideal) (pfN) := ⟨ok_pfN_0_0, ok_pfN_0_1, ok_pfN_0_2⟩

def adm : (pcfg0 (F := Ideal)).Adm := ⟨pfN, ok_pfN⟩
abbrev cfgA : Pipeline.Cfg sig Λ₀ := cfg0 (F := Ideal) (adm)
abbrev pcs : Fin 1 → Pipeline.Cfg sig Λ₀ := Pipeline.pin (pcfgs (F := Ideal)) fun _ => adm

variable (m : (ℓ : Loc nD τ sig) → Buf (Elt Ideal) ℓ) (ρ : Dev nD → PrngReg)

abbrev V (c : Dev nD) (b : Ref sig .tc) : Buf (Elt Ideal) ((c : Thread nD τ).loc b) :=
  StableHlo.after (hostOps0 (F := Ideal)) (fun b => m (c, b)) b

/-- No operation in front of the launch allocates a buffer. -/
theorem hostOps0_fresh : (hostOps0 (F := Ideal) : List (HloOp τ sig (Elt Ideal))).Forall fun op => op.fresh = ∅ := by
  simp only [List.Forall]; repeat' constructor

abbrev hostOps0_W : List (Ref sig .tc) := [main_c, main_c_0, main_c_1, main_c_2, main_c_3, main_v0]

/-- The operations in front of the launch write the five tables and the reshaped keys only. -/
theorem hostOps0_writes : (hostOps0 (F := Ideal) : List (HloOp τ sig (Elt Ideal))).Forall fun op =>
    op.writes ⊆ (hostOps0_W.map (Proc.devRef (τ := τ) .tc)).toFinset :=
  StableHlo.forall_writes_sub_of_map rfl

set_option maxHeartbeats 4000000 in
/-- The entry function is the operations in front of the launch and then the launch itself. -/
theorem hmain : Pipeline.HMainP (Ix := Unit) (Name := ℕ) (U := UR sig nD τ) (Lvl := ℕ) (pcfgs (F := Ideal)) 0 defs₀ Variants.none m (main (F := Ideal)) (V m) :=
  Pipeline.hmainP_prefix (pcfgs (F := Ideal)) 0 defs₀ Variants.none m main (hostOps0 (F := Ideal)) hostOps0_sub hostOps0_fresh main_chain

/-- The operations in front of the launch leave argument 0 alone. -/
theorem V_main_arg0 (c : Dev nD) : V m c main_arg0 = m ((c : Thread nD τ).loc main_arg0) :=
  StableHlo.after_of_writes_sub (hostOps0 (F := Ideal)) _ hostOps0_writes (by decide)
/-- The operations in front of the launch leave argument 1 alone. -/
theorem V_main_arg1 (c : Dev nD) : V m c main_arg1 = m ((c : Thread nD τ).loc main_arg1) :=
  StableHlo.after_of_writes_sub (hostOps0 (F := Ideal)) _ hostOps0_writes (by decide)

abbrev crd (t : Fin (cfgA).N) : (cfgA).grid.Coords := (cfgA).grid.coords t

abbrev ms0_0 (t : Fin (cfgA).N) : Memref sig .tc .vmem S1x8x256x384 .bf16 := spec0_0.stage ((cfgA).slots t (0 : Fin 3))
abbrev hs0_0 (t : Fin (cfgA).N) : (ms0_0 t).IsWhole := hstage0_0 (((cfgA).slots t (0 : Fin 3)).cast nbuf0_0)
abbrev ms0_1 (t : Fin (cfgA).N) : Memref sig .tc .vmem S1x2048x384 .bf16 := spec0_1.stage ((cfgA).slots t (1 : Fin 3))
abbrev hs0_1 (t : Fin (cfgA).N) : (ms0_1 t).IsWhole := hstage0_1 (((cfgA).slots t (1 : Fin 3)).cast nbuf0_1)
abbrev ms0_2 (t : Fin (cfgA).N) : Memref sig .tc .vmem S1x8x256x256 .f32 := spec0_2.stage ((cfgA).slots t (2 : Fin 3))
abbrev hs0_2 (t : Fin (cfgA).N) : (ms0_2 t).IsWhole := hstage0_2 (((cfgA).slots t (2 : Fin 3)).cast nbuf0_2)

def iblk (ρ : Dev nD → PrngReg) (c : Dev nD) (w : Fin (cfgA).W) (t : Fin (cfgA).N) : (((cfgA).win w).xblock (crd t)).Idx → Elt Ideal ((cfgA).win w).elt :=
  (((cfgA).win w).blk t).view.read (Elt Ideal) (V m c (Pipeline.arrRef spec0 w))

abbrev P0_0 (t : Fin (cfgA).N) : Prop := (Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1
abbrev P0_1 (t : Fin (cfgA).N) : Prop := (Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1

def sfresh0_0 : ℕ → Bool
  | 0 => true
  | n + 1 => if h : n < (cfgA).N then (if P0_0 ⟨n, h⟩ then (if P0_1 ⟨n, h⟩ then false else false) else (if P0_1 ⟨n, h⟩ then sfresh0_0 n else sfresh0_0 n)) else true

def sfirst0_0 : ℕ := 0
def sfrTab0_0 : ℕ → Bool := fun n => decide (n ≤ sfirst0_0)

def sfresh0_1 : ℕ → Bool
  | 0 => true
  | n + 1 => if h : n < (cfgA).N then (if P0_0 ⟨n, h⟩ then (if P0_1 ⟨n, h⟩ then false else false) else (if P0_1 ⟨n, h⟩ then sfresh0_1 n else sfresh0_1 n)) else true

def sfirst0_1 : ℕ := 0
def sfrTab0_1 : ℕ → Bool := fun n => decide (n ≤ sfirst0_1)

def sfresh0_2 : ℕ → Bool
  | 0 => true
  | n + 1 => if h : n < (cfgA).N then (if P0_0 ⟨n, h⟩ then (if P0_1 ⟨n, h⟩ then false else false) else (if P0_1 ⟨n, h⟩ then sfresh0_2 n else sfresh0_2 n)) else true

def sfirst0_2 : ℕ := 0
def sfrTab0_2 : ℕ → Bool := fun n => decide (n ≤ sfirst0_2)

set_option backward.proofsInPublic true in
def frMask0_2 : ℕ := 0xffffffffffffffffffffffffffffffffffffffff

def frTab0_2 : ℕ → Bool
  | 0 => true
  | n + 1 => (frMask0_2).testBit n

end Cert.KernelIdeal.Mla

end
-- ==== Proof.MlaRuns.lean ====
module

public import proofs.«01_k».proof.Proof.Gen.KernelIdeal.Skeleton
public import proofs.«01_k».proof.Proof.MlaTables

@[expose] public section

set_option maxRecDepth 16384
set_option Elab.async false

noncomputable section

namespace Cert.KernelIdeal.Mla

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev VO0_2 : View sig .tc .vmem S1x8x256x256 .f32 := (Memref.whole cc0_stg2_0 : Memref sig .tc .vmem S1x8x256x256 .f32).view

set_option backward.proofsInPublic true in
set_option maxHeartbeats 8000000 in
noncomputable def kernelRun0_A (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Ideal .i32)) (T1 : (S80.Idx → Elt Ideal .i32)) (T2 : (S80.Idx → Elt Ideal .i32)) (T3 : (S80.Idx → Elt Ideal .i32)) (T4 : (S80.Idx → Elt Ideal .i32))
     (x0 : (S1x8x256x384.Idx → Elt Ideal .bf16)) (x1 : (S1x2048x384.Idx → Elt Ideal .bf16)) (hc0 : (Scalar.cmpi .ne (Scalar.extui (Scalar.cmpi .eq (View.readAt (Elt Ideal) (tbM0_2).view (Rect.unit (s := S80) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Ideal) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S80) (k0_off5 i) S1.size (k0_off5_inb i)).toLoadRect T3 (Shape.Idx.first (numel1_S1.symm ▸ Nat.one_pos))) = 1#1) :
    Σ' (out0 : List (View.Piece (Elt Ideal) S1x8x256x256 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_flash_dk384 i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 scM0_0 (Memref.isWhole_whole _) scM0_1 (Memref.isWhole_whole _) scM0_2 (Memref.isWhole_whole _)) K } :=
  ⟨_, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_flash_dk384_eq_skeleton]; unfold cc0_flash_dk384_skel
    iintro ⟨H0, H1, HT0, HT1, HT2, HT3, HT4, ⟨%d2, %f2, -, HO2⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [HT0]; · iexact HT0
    isplitl [HT1]; · iexact HT1
    isplitl [HT2]; · iexact HT2
    isplitl [HT3]; · iexact HT3
    isplitl [HT4]; · iexact HT4
    isplitl [HO2]; · iexists _; iexact HO2
    isplitl [HS0]; · iexact HS0
    isplitl [HS1]; · iexact HS1
    iexact HS2⟩

/-- At a block row's first and last point the stores cover the whole output block. -/
theorem cover0_A_2 (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Ideal .i32)) (T1 : (S80.Idx → Elt Ideal .i32)) (T2 : (S80.Idx → Elt Ideal .i32)) (T3 : (S80.Idx → Elt Ideal .i32)) (T4 : (S80.Idx → Elt Ideal .i32))
     (x0 : (S1x8x256x384.Idx → Elt Ideal .bf16)) (x1 : (S1x2048x384.Idx → Elt Ideal .bf16)) (hc0 : (Scalar.cmpi .ne (Scalar.extui (Scalar.cmpi .eq (View.readAt (Elt Ideal) (tbM0_2).view (Rect.unit (s := S80) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Ideal) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S80) (k0_off5 i) S1.size (k0_off5_inb i)).toLoadRect T3 (Shape.Idx.first (numel1_S1.symm ▸ Nat.one_pos))) = 1#1) (y : S1x8x256x256.Idx) :
    ∃ pc ∈ (kernelRun0_A c i arg7 harg7 arg8 harg8 arg9 harg9 T0 T1 T2 T3 T4 x0 x1 hc0 hc1 hc2 k0_h4).1, y ∈ pc.1.set :=
  View.cover_of_tiledL (kernelRun0_A c i arg7 harg7 arg8 harg8 arg9 harg9 T0 T1 T2 T3 T4 x0 x1 hc0 hc1 hc2 k0_h4).1 S1x2x256x256.size (by sl_kernel_rfl) y

def out0_A_2 (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Ideal .i32)) (T1 : (S80.Idx → Elt Ideal .i32)) (T2 : (S80.Idx → Elt Ideal .i32)) (T3 : (S80.Idx → Elt Ideal .i32)) (T4 : (S80.Idx → Elt Ideal .i32))
     (x0 : (S1x8x256x384.Idx → Elt Ideal .bf16)) (x1 : (S1x2048x384.Idx → Elt Ideal .bf16)) (hc0 : (Scalar.cmpi .ne (Scalar.extui (Scalar.cmpi .eq (View.readAt (Elt Ideal) (tbM0_2).view (Rect.unit (s := S80) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Ideal) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S80) (k0_off5 i) S1.size (k0_off5_inb i)).toLoadRect T3 (Shape.Idx.first (numel1_S1.symm ▸ Nat.one_pos))) = 1#1) : (S1x8x256x256.Idx → Elt Ideal .f32) :=
  VO0_2.read (Elt Ideal) (VO0_2.writes (Elt Ideal) VO0_2.junk (kernelRun0_A c i arg7 harg7 arg8 harg8 arg9 harg9 T0 T1 T2 T3 T4 x0 x1 hc0 hc1 hc2 k0_h4).1)

set_option backward.proofsInPublic true in
set_option maxHeartbeats 8000000 in
noncomputable def kernelRun0_B (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Ideal .i32)) (T1 : (S80.Idx → Elt Ideal .i32)) (T2 : (S80.Idx → Elt Ideal .i32)) (T3 : (S80.Idx → Elt Ideal .i32)) (T4 : (S80.Idx → Elt Ideal .i32))
     (x0 : (S1x8x256x384.Idx → Elt Ideal .bf16)) (x1 : (S1x2048x384.Idx → Elt Ideal .bf16)) (hc0 : (Scalar.cmpi .ne (Scalar.extui (Scalar.cmpi .eq (View.readAt (Elt Ideal) (tbM0_2).view (Rect.unit (s := S80) (k0_off1 i) S1.size (k0_off1_inb i)).toLoadRect T2 (Shape.Idx.first (numel1_S1.symm ▸ Nat.one_pos))) 1#32)) 0#32) = 1#1) (hc1 : (Scalar.cmpi .ne (Scalar.extui (Scalar.cmpi .eq (View.readAt (Elt Ideal) (tbM0_4).view (Rect.unit (s := S80) (k0_off2 i) S1.size (k0_off2_inb i)).toLoadRect T4 (Shape.Idx.first (numel1_S1.symm ▸ Nat.one_pos))) 0#32)) 0#32) = 1#1) (hc2 : ¬((Scalar.cmpi .ne (Scalar.extui (Scalar.cmpi .eq (View.readAt (Elt Ideal) (tbM0_4).view (Rect.unit (s := S80) (k0_off3 i) S1.size (k0_off3_inb i)).toLoadRect T4 (Shape.Idx.first (numel1_S1.symm ▸ Nat.one_pos))) 1#32)) 0#32) = 1#1)) (k0_h4 : ¬(k0_cond4 (View.readAt (Elt Ideal) (tbM0_3).view (Rect.unit (s := S80) (k0_off5 i) S1.size (k0_off5_inb i)).toLoadRect T3 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y2 : (S1x8x256x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ owns (c : Thread nD τ) arg9 fullShare y2
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ owns (c : Thread nD τ) arg9 fullShare y2
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_flash_dk384 i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 scM0_0 (Memref.isWhole_whole _) scM0_1 (Memref.isWhole_whole _) scM0_2 (Memref.isWhole_whole _)) K } :=
  ⟨_, _, _, fun (y2 : (S1x8x256x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_flash_dk384_eq_skeleton]; unfold cc0_flash_dk384_skel
    iintro ⟨H0, H1, HT0, HT1, HT2, HT3, HT4, ⟨%f2, %hf2, HO2⟩, HS0, HS1, HS2, Hk⟩
    obtain rfl := harg9.eq_unread hf2
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [HT0]; · iexact HT0
    isplitl [HT1]; · iexact HT1
    isplitl [HT2]; · iexact HT2
    isplitl [HT3]; · iexact HT3
    isplitl [HT4]; · iexact HT4
    isplitl [HO2]
    · iexists _; isplitr; · ipureintro; exact harg9.read_unread _
      iexact HO2
    isplitl [HS0]; · iexact HS0
    isplitl [HS1]; · iexact HS1
    iexact HS2⟩

set_option backward.proofsInPublic true in
set_option maxHeartbeats 8000000 in
noncomputable def kernelRun0_C (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Ideal .i32)) (T1 : (S80.Idx → Elt Ideal .i32)) (T2 : (S80.Idx → Elt Ideal .i32)) (T3 : (S80.Idx → Elt Ideal .i32)) (T4 : (S80.Idx → Elt Ideal .i32))
     (x0 : (S1x8x256x384.Idx → Elt Ideal .bf16)) (x1 : (S1x2048x384.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_2).view (Rect.unit (s := S80) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Ideal) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S80) (k0_off5 i) S1.size (k0_off5_inb i)).toLoadRect T3 (Shape.Idx.first (numel1_S1.symm ▸ Nat.one_pos))) = 1#1) :
    Σ' (out0 : List (View.Piece (Elt Ideal) S1x8x256x256 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_flash_dk384 i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 scM0_0 (Memref.isWhole_whole _) scM0_1 (Memref.isWhole_whole _) scM0_2 (Memref.isWhole_whole _)) K } :=
  ⟨_, _, _, _, fun K => by
    unfold owns
    rw [cc0_flash_dk384_eq_skeleton]; unfold cc0_flash_dk384_skel
    iintro ⟨H0, H1, HT0, HT1, HT2, HT3, HT4, ⟨%d2, %f2, -, HO2⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [HT0]; · iexact HT0
    isplitl [HT1]; · iexact HT1
    isplitl [HT2]; · iexact HT2
    isplitl [HT3]; · iexact HT3
    isplitl [HT4]; · iexact HT4
    isplitl [HO2]; · iexists _; iexact HO2
    isplitl [HS0]; · iexact HS0
    isplitl [HS1]; · iexact HS1
    iexact HS2⟩

/-- At a last point that is not a first one the stores cover the whole output block. -/
theorem cover0_C_2 (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Ideal .i32)) (T1 : (S80.Idx → Elt Ideal .i32)) (T2 : (S80.Idx → Elt Ideal .i32)) (T3 : (S80.Idx → Elt Ideal .i32)) (T4 : (S80.Idx → Elt Ideal .i32))
     (x0 : (S1x8x256x384.Idx → Elt Ideal .bf16)) (x1 : (S1x2048x384.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_2).view (Rect.unit (s := S80) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Ideal) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S80) (k0_off5 i) S1.size (k0_off5_inb i)).toLoadRect T3 (Shape.Idx.first (numel1_S1.symm ▸ Nat.one_pos))) = 1#1) (y : S1x8x256x256.Idx) :
    ∃ pc ∈ (kernelRun0_C c i arg7 harg7 arg8 harg8 arg9 harg9 T0 T1 T2 T3 T4 x0 x1 xa0 xa1 xa2 hc0 hc1 hc2 k0_h4).1, y ∈ pc.1.set :=
  View.cover_of_tiledL (kernelRun0_C c i arg7 harg7 arg8 harg8 arg9 harg9 T0 T1 T2 T3 T4 x0 x1 xa0 xa1 xa2 hc0 hc1 hc2 k0_h4).1 S1x2x256x256.size (by sl_kernel_rfl) y

def out0_C_2 (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Ideal .i32)) (T1 : (S80.Idx → Elt Ideal .i32)) (T2 : (S80.Idx → Elt Ideal .i32)) (T3 : (S80.Idx → Elt Ideal .i32)) (T4 : (S80.Idx → Elt Ideal .i32))
     (x0 : (S1x8x256x384.Idx → Elt Ideal .bf16)) (x1 : (S1x2048x384.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_2).view (Rect.unit (s := S80) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Ideal) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S80) (k0_off5 i) S1.size (k0_off5_inb i)).toLoadRect T3 (Shape.Idx.first (numel1_S1.symm ▸ Nat.one_pos))) = 1#1) : (S1x8x256x256.Idx → Elt Ideal .f32) :=
  VO0_2.read (Elt Ideal) (VO0_2.writes (Elt Ideal) VO0_2.junk (kernelRun0_C c i arg7 harg7 arg8 harg8 arg9 harg9 T0 T1 T2 T3 T4 x0 x1 xa0 xa1 xa2 hc0 hc1 hc2 k0_h4).1)

set_option backward.proofsInPublic true in
set_option maxHeartbeats 8000000 in
noncomputable def kernelRun0_D (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Ideal .i32)) (T1 : (S80.Idx → Elt Ideal .i32)) (T2 : (S80.Idx → Elt Ideal .i32)) (T3 : (S80.Idx → Elt Ideal .i32)) (T4 : (S80.Idx → Elt Ideal .i32))
     (x0 : (S1x8x256x384.Idx → Elt Ideal .bf16)) (x1 : (S1x2048x384.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_2).view (Rect.unit (s := S80) (k0_off1 i) S1.size (k0_off1_inb i)).toLoadRect T2 (Shape.Idx.first (numel1_S1.symm ▸ Nat.one_pos))) 1#32)) 0#32) = 1#1)) (hc1 : (Scalar.cmpi .ne (Scalar.extui (Scalar.cmpi .eq (View.readAt (Elt Ideal) (tbM0_4).view (Rect.unit (s := S80) (k0_off2 i) S1.size (k0_off2_inb i)).toLoadRect T4 (Shape.Idx.first (numel1_S1.symm ▸ Nat.one_pos))) 0#32)) 0#32) = 1#1) (hc2 : ¬((Scalar.cmpi .ne (Scalar.extui (Scalar.cmpi .eq (View.readAt (Elt Ideal) (tbM0_4).view (Rect.unit (s := S80) (k0_off3 i) S1.size (k0_off3_inb i)).toLoadRect T4 (Shape.Idx.first (numel1_S1.symm ▸ Nat.one_pos))) 1#32)) 0#32) = 1#1)) (k0_h4 : ¬(k0_cond4 (View.readAt (Elt Ideal) (tbM0_3).view (Rect.unit (s := S80) (k0_off5 i) S1.size (k0_off5_inb i)).toLoadRect T3 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y2 : (S1x8x256x256.Idx → Elt Ideal .f32)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ owns (c : Thread nD τ) arg9 fullShare y2
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ owns (c : Thread nD τ) arg9 fullShare y2
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_flash_dk384 i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 scM0_0 (Memref.isWhole_whole _) scM0_1 (Memref.isWhole_whole _) scM0_2 (Memref.isWhole_whole _)) K } :=
  ⟨_, _, _, fun (y2 : (S1x8x256x256.Idx → Elt Ideal .f32)) K => by
    unfold owns
    rw [cc0_flash_dk384_eq_skeleton]; unfold cc0_flash_dk384_skel
    iintro ⟨H0, H1, HT0, HT1, HT2, HT3, HT4, ⟨%f2, %hf2, HO2⟩, HS0, HS1, HS2, Hk⟩
    obtain rfl := harg9.eq_unread hf2
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [HT0]; · iexact HT0
    isplitl [HT1]; · iexact HT1
    isplitl [HT2]; · iexact HT2
    isplitl [HT3]; · iexact HT3
    isplitl [HT4]; · iexact HT4
    isplitl [HO2]
    · iexists _; isplitr; · ipureintro; exact harg9.read_unread _
      iexact HO2
    isplitl [HS0]; · iexact HS0
    isplitl [HS1]; · iexact HS1
    iexact HS2⟩

end Cert.KernelIdeal.Mla

end
-- ==== Proof.MlaFacts.lean ====
module

public import proofs.«01_k».proof.Proof.MlaTables

@[expose] public section

set_option maxRecDepth 16384
set_option Elab.async false

noncomputable section

namespace Cert.KernelIdeal.Mla

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

abbrev FactsAt (t : Fin (cfgA).N) : Prop :=
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (sfrTab0_2 (t.val + 1) = (if P0_0 t then (if P0_1 t then false else false) else (if P0_1 t then sfrTab0_2 t.val else sfrTab0_2 t.val)))
  ∧ (frTab0_2 (t.val + 1) = (((cfgA).win (2 : Fin 3)).flush t || ((cfgA).idle (2 : Fin 3) ((cfgA).grid.coords t) && frTab0_2 t.val)))
  ∧ (P0_0 t → ¬P0_1 t → ((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1) ∧ ((¬((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1) ∧ ((k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1) ∧ (True)))))
  ∧ (P0_0 t → ¬P0_1 t → (cfgA).idle (2 : Fin 3) ((cfgA).grid.coords t) = false ∧ ((cfgA).win (2 : Fin 3)).flush t = true ∧ frTab0_2 t.val = true ∧ sfrTab0_0 (t.val + 1) = false ∧ sfrTab0_1 (t.val + 1) = false ∧ sfrTab0_2 (t.val + 1) = false)
  ∧ (P0_0 t → P0_1 t → ((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1) ∧ (((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1)) ∧ ((¬(k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1)) ∧ (True)))))
  ∧ (P0_0 t → P0_1 t → (cfgA).idle (2 : Fin 3) ((cfgA).grid.coords t) = true ∧ ((cfgA).win (2 : Fin 3)).flush t = false ∧ frTab0_2 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → ¬P0_1 t → (¬((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1)) ∧ ((¬((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1) ∧ ((k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1) ∧ (True)))))
  ∧ (¬P0_0 t → ¬P0_1 t → (cfgA).idle (2 : Fin 3) ((cfgA).grid.coords t) = false ∧ ((cfgA).win (2 : Fin 3)).flush t = true ∧ frTab0_2 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → P0_1 t → (¬((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1)) ∧ (((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1)) ∧ ((¬(k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1)) ∧ (True)))))
  ∧ (¬P0_0 t → P0_1 t → (cfgA).idle (2 : Fin 3) ((cfgA).grid.coords t) = true ∧ ((cfgA).win (2 : Fin 3)).flush t = false ∧ frTab0_2 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)

set_option synthInstance.maxSize 65536 in
instance FactsAt.dec (t : Fin (cfgA).N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

/-- The facts of the schedule at these points, each decided from the tables. -/
theorem allFacts_0_0 : ∀ t : Fin (cfgA).N, 0 ≤ t.val → t.val < 20 → FactsAt t := by decide +kernel
/-- The facts of the schedule at these points, each decided from the tables. -/
theorem allFacts_0_1 : ∀ t : Fin (cfgA).N, 20 ≤ t.val → t.val < 40 → FactsAt t := by decide +kernel
/-- The facts of the schedule at these points, each decided from the tables. -/
theorem allFacts_0_2 : ∀ t : Fin (cfgA).N, 40 ≤ t.val → t.val < 60 → FactsAt t := by decide +kernel
/-- The facts of the schedule at these points, each decided from the tables. -/
theorem allFacts_0_3 : ∀ t : Fin (cfgA).N, 60 ≤ t.val → t.val < 80 → FactsAt t := by decide +kernel
/-- The facts of the schedule at these points, each decided from the tables. -/
theorem allFacts_0_4 : ∀ t : Fin (cfgA).N, 80 ≤ t.val → t.val < 100 → FactsAt t := by decide +kernel
/-- The facts of the schedule at these points, each decided from the tables. -/
theorem allFacts_0_5 : ∀ t : Fin (cfgA).N, 100 ≤ t.val → t.val < 120 → FactsAt t := by decide +kernel
/-- The facts of the schedule at these points, each decided from the tables. -/
theorem allFacts_0_6 : ∀ t : Fin (cfgA).N, 120 ≤ t.val → t.val < 140 → FactsAt t := by decide +kernel
/-- The facts of the schedule at these points, each decided from the tables. -/
theorem allFacts_0_7 : ∀ t : Fin (cfgA).N, 140 ≤ t.val → t.val < 160 → FactsAt t := by decide +kernel
/-- The facts of the schedule at every point. -/
theorem allFacts : ∀ t : Fin (cfgA).N, FactsAt t := fun t => by
  have h0 : 0 ≤ t.val := Nat.zero_le _
  rcases Nat.lt_or_ge t.val 20 with h1 | h1; · exact allFacts_0_0 t h0 h1
  rcases Nat.lt_or_ge t.val 40 with h2 | h2; · exact allFacts_0_1 t h1 h2
  rcases Nat.lt_or_ge t.val 60 with h3 | h3; · exact allFacts_0_2 t h2 h3
  rcases Nat.lt_or_ge t.val 80 with h4 | h4; · exact allFacts_0_3 t h3 h4
  rcases Nat.lt_or_ge t.val 100 with h5 | h5; · exact allFacts_0_4 t h4 h5
  rcases Nat.lt_or_ge t.val 120 with h6 | h6; · exact allFacts_0_5 t h5 h6
  rcases Nat.lt_or_ge t.val 140 with h7 | h7; · exact allFacts_0_6 t h6 h7
  exact allFacts_0_7 t h7 t.isLt

end Cert.KernelIdeal.Mla

end
-- ==== Proof.MlaFrame.lean ====
module

public import proofs.«01_k».proof.Proof.MlaRuns
public import proofs.«01_k».proof.Proof.MlaFacts
public import Idealize.ShloMosaic.Lib.Pipeline.Quiescent
public import Idealize.ShloMosaic.Lib.Pipeline.Frame
public import Idealize.ShloMosaic.Lib.Claim

@[expose] public section

set_option maxRecDepth 16384
set_option Elab.async false

noncomputable section

namespace Cert.KernelIdeal.Mla

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (m : (ℓ : Loc nD τ sig) → Buf (Elt Ideal) ℓ) (ρ : Dev nD → PrngReg)

/-- The table saying whether the running maximum is still untouched follows the schedule by one point. -/
theorem sfrTab0_0_step : ∀ (t : Fin (cfgA).N), sfrTab0_0 (t.val + 1) = (if P0_0 t then (if P0_1 t then false else false) else (if P0_1 t then sfrTab0_0 t.val else sfrTab0_0 t.val)) := fun t => (allFacts t).1
/-- The table saying whether the running maximum is still untouched agrees with the recursion. -/
theorem sfresh0_0_eq : ∀ n, n ≤ (cfgA).N → sfresh0_0 n = sfrTab0_0 n
  | 0, _ => by simp only [sfresh0_0, sfrTab0_0, Nat.zero_le, decide_true]
  | n + 1, h => by simp only [sfresh0_0, dif_pos (show n < (cfgA).N from h), sfresh0_0_eq n (Nat.le_of_lt h), sfrTab0_0_step ⟨n, h⟩]
/-- Before a point, the running maximum is untouched exactly when the table says so. -/
theorem sfreshF0_0 (t : Fin (cfgA).N) : sfresh0_0 t.val = sfrTab0_0 t.val := sfresh0_0_eq t.val (Nat.le_of_lt t.isLt)
/-- After a point, the running maximum is untouched exactly when the table says so. -/
theorem sfreshS0_0 (t : Fin (cfgA).N) : sfresh0_0 (t.val + 1) = sfrTab0_0 (t.val + 1) := sfresh0_0_eq (t.val + 1) t.isLt

/-- The table saying whether the running sum is still untouched follows the schedule by one point. -/
theorem sfrTab0_1_step : ∀ (t : Fin (cfgA).N), sfrTab0_1 (t.val + 1) = (if P0_0 t then (if P0_1 t then false else false) else (if P0_1 t then sfrTab0_1 t.val else sfrTab0_1 t.val)) := fun t => (allFacts t).2.1
/-- The table saying whether the running sum is still untouched agrees with the recursion. -/
theorem sfresh0_1_eq : ∀ n, n ≤ (cfgA).N → sfresh0_1 n = sfrTab0_1 n
  | 0, _ => by simp only [sfresh0_1, sfrTab0_1, Nat.zero_le, decide_true]
  | n + 1, h => by simp only [sfresh0_1, dif_pos (show n < (cfgA).N from h), sfresh0_1_eq n (Nat.le_of_lt h), sfrTab0_1_step ⟨n, h⟩]
/-- Before a point, the running sum is untouched exactly when the table says so. -/
theorem sfreshF0_1 (t : Fin (cfgA).N) : sfresh0_1 t.val = sfrTab0_1 t.val := sfresh0_1_eq t.val (Nat.le_of_lt t.isLt)
/-- After a point, the running sum is untouched exactly when the table says so. -/
theorem sfreshS0_1 (t : Fin (cfgA).N) : sfresh0_1 (t.val + 1) = sfrTab0_1 (t.val + 1) := sfresh0_1_eq (t.val + 1) t.isLt

/-- The table saying whether the accumulator is still untouched follows the schedule by one point. -/
theorem sfrTab0_2_step : ∀ (t : Fin (cfgA).N), sfrTab0_2 (t.val + 1) = (if P0_0 t then (if P0_1 t then false else false) else (if P0_1 t then sfrTab0_2 t.val else sfrTab0_2 t.val)) := fun t => (allFacts t).2.2.1
/-- The table saying whether the accumulator is still untouched agrees with the recursion. -/
theorem sfresh0_2_eq : ∀ n, n ≤ (cfgA).N → sfresh0_2 n = sfrTab0_2 n
  | 0, _ => by simp only [sfresh0_2, sfrTab0_2, Nat.zero_le, decide_true]
  | n + 1, h => by simp only [sfresh0_2, dif_pos (show n < (cfgA).N from h), sfresh0_2_eq n (Nat.le_of_lt h), sfrTab0_2_step ⟨n, h⟩]
/-- Before a point, the accumulator is untouched exactly when the table says so. -/
theorem sfreshF0_2 (t : Fin (cfgA).N) : sfresh0_2 t.val = sfrTab0_2 t.val := sfresh0_2_eq t.val (Nat.le_of_lt t.isLt)
/-- After a point, the accumulator is untouched exactly when the table says so. -/
theorem sfreshS0_2 (t : Fin (cfgA).N) : sfresh0_2 (t.val + 1) = sfrTab0_2 (t.val + 1) := sfresh0_2_eq (t.val + 1) t.isLt

/-- The table saying whether the output window is fresh follows the schedule by one point. -/
theorem frTab0_2_step : ∀ (t : Fin (cfgA).N),
    frTab0_2 (t.val + 1) = (((cfgA).win (2 : Fin 3)).flush t || ((cfgA).idle (2 : Fin 3) ((cfgA).grid.coords t) && frTab0_2 t.val)) := fun t => (allFacts t).2.2.2.1
/-- The output window is fresh exactly when the table says so. -/
theorem freshF0_2 (t : Fin (cfgA).N) : (cfgA).fresh (2 : Fin 3) t.val = frTab0_2 t.val :=
  Pipeline.Cfg.fresh_tab (cfgA) (2 : Fin 3) (frTab0_2) rfl (frTab0_2_step) t.val (Nat.le_of_lt t.isLt)

/-- What a block row's first and last point asks of the grid coordinates. -/
theorem hyps0_A : ∀ (t : Fin (cfgA).N), P0_0 t → ¬P0_1 t →
    ((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1) ∧ ((¬((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1) ∧ ((k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1) ∧ (True)))) := fun t => (allFacts t).2.2.2.2.1

/-- What a block row's first and last point asks of the blocks it reads. -/
theorem hypsR0_A : ∀ (t : Fin (cfgA).N), P0_0 t → ¬P0_1 t →
    ((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1) ∧ ((¬((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1) ∧ ((k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1) ∧ (True)))) := hyps0_A

/-- Which windows are idle at a block row's first and last point. -/
theorem sched0_A : ∀ (t : Fin (cfgA).N), P0_0 t → ¬P0_1 t →
    (cfgA).idle (2 : Fin 3) ((cfgA).grid.coords t) = false ∧ ((cfgA).win (2 : Fin 3)).flush t = true ∧ (cfgA).fresh (2 : Fin 3) t.val = true ∧ sfresh0_0 (t.val + 1) = false ∧ sfresh0_1 (t.val + 1) = false ∧ sfresh0_2 (t.val + 1) = false := by
  intro t; rw [freshF0_2 t, sfreshS0_0 t, sfreshS0_1 t, sfreshS0_2 t]; exact (fun t => (allFacts t).2.2.2.2.2.1) t

/-- What a first point that is not a last one asks of the grid coordinates. -/
theorem hyps0_B : ∀ (t : Fin (cfgA).N), P0_0 t → P0_1 t →
    ((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1) ∧ (((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1)) ∧ ((¬(k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1)) ∧ (True)))) := fun t => (allFacts t).2.2.2.2.2.2.1

/-- What a first point that is not a last one asks of the blocks it reads. -/
theorem hypsR0_B : ∀ (t : Fin (cfgA).N), P0_0 t → P0_1 t →
    ((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1) ∧ (((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1)) ∧ ((¬(k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1)) ∧ (True)))) := hyps0_B

/-- Which windows are idle at a first point that is not a last one. -/
theorem sched0_B : ∀ (t : Fin (cfgA).N), P0_0 t → P0_1 t →
    (cfgA).idle (2 : Fin 3) ((cfgA).grid.coords t) = true ∧ ((cfgA).win (2 : Fin 3)).flush t = false ∧ (cfgA).fresh (2 : Fin 3) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_2 t, sfreshF0_0 t, sfreshS0_0 t, sfreshF0_1 t, sfreshS0_1 t, sfreshF0_2 t, sfreshS0_2 t]; exact (fun t => (allFacts t).2.2.2.2.2.2.2.1) t

/-- What a last point that is not a first one asks of the grid coordinates. -/
theorem hyps0_C : ∀ (t : Fin (cfgA).N), ¬P0_0 t → ¬P0_1 t →
    (¬((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1)) ∧ ((¬((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1) ∧ ((k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1) ∧ (True)))) := fun t => (allFacts t).2.2.2.2.2.2.2.2.1

/-- What a last point that is not a first one asks of the blocks it reads. -/
theorem hypsR0_C : ∀ (t : Fin (cfgA).N), ¬P0_0 t → ¬P0_1 t →
    (¬((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1)) ∧ ((¬((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1) ∧ ((k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1) ∧ (True)))) := hyps0_C

/-- Which windows are idle at a last point that is not a first one. -/
theorem sched0_C : ∀ (t : Fin (cfgA).N), ¬P0_0 t → ¬P0_1 t →
    (cfgA).idle (2 : Fin 3) ((cfgA).grid.coords t) = false ∧ ((cfgA).win (2 : Fin 3)).flush t = true ∧ (cfgA).fresh (2 : Fin 3) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_2 t, sfreshF0_0 t, sfreshS0_0 t, sfreshF0_1 t, sfreshS0_1 t, sfreshF0_2 t, sfreshS0_2 t]; exact (fun t => (allFacts t).2.2.2.2.2.2.2.2.2.1) t

/-- What a point between the first and the last asks of the grid coordinates. -/
theorem hyps0_D : ∀ (t : Fin (cfgA).N), ¬P0_0 t → P0_1 t →
    (¬((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1)) ∧ (((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1)) ∧ ((¬(k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1)) ∧ (True)))) := fun t => (allFacts t).2.2.2.2.2.2.2.2.2.2.1

/-- What a point between the first and the last asks of the blocks it reads. -/
theorem hypsR0_D : ∀ (t : Fin (cfgA).N), ¬P0_0 t → P0_1 t →
    (¬((Scalar.cmpi .ne (Scalar.extui (Scalar.cmpi .eq (View.readAt (Elt Ideal) (tbM0_2).view (Rect.unit (s := S80) (k0_off1 (crd t)) S1.size (k0_off1_inb (crd t))).toLoadRect (pinT_2) (Shape.Idx.first (numel1_S1.symm ▸ Nat.one_pos))) 1#32)) 0#32) = 1#1)) ∧ (((Scalar.cmpi .ne (Scalar.extui (Scalar.cmpi .eq (View.readAt (Elt Ideal) (tbM0_4).view (Rect.unit (s := S80) (k0_off2 (crd t)) S1.size (k0_off2_inb (crd t))).toLoadRect (pinT_4) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S80) (k0_off3 (crd t)) S1.size (k0_off3_inb (crd t))).toLoadRect (pinT_4) (Shape.Idx.first (numel1_S1.symm ▸ Nat.one_pos))) 1#32)) 0#32) = 1#1)) ∧ ((¬(k0_cond4 (View.readAt (Elt Ideal) (tbM0_3).view (Rect.unit (s := S80) (k0_off5 (crd t)) S1.size (k0_off5_inb (crd t))).toLoadRect (pinT_3) (Shape.Idx.first (numel1_S1.symm ▸ Nat.one_pos))) = 1#1)) ∧ (True)))) := hyps0_D

/-- Which windows are idle at a point between the first and the last. -/
theorem sched0_D : ∀ (t : Fin (cfgA).N), ¬P0_0 t → P0_1 t →
    (cfgA).idle (2 : Fin 3) ((cfgA).grid.coords t) = true ∧ ((cfgA).win (2 : Fin 3)).flush t = false ∧ (cfgA).fresh (2 : Fin 3) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_2 t, sfreshF0_0 t, sfreshS0_0 t, sfreshF0_1 t, sfreshS0_1 t, sfreshF0_2 t, sfreshS0_2 t]; exact (fun t => (allFacts t).2.2.2.2.2.2.2.2.2.2.2) t

def step0 (c : Dev nD) (t : Fin (cfgA).N) (prev : Tr c) : Tr c :=
  if q0 : P0_0 t then
    if q1 : P0_1 t then
      ((if (cfgA).fresh (2 : Fin 3) t.val then default else prev.1), (kernelRun0_B c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_B t q0 q1).1 (hypsR0_B t q0 q1).2.1 (hypsR0_B t q0 q1).2.2.1 (hypsR0_B t q0 q1).2.2.2.1).1, (kernelRun0_B c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_B t q0 q1).1 (hypsR0_B t q0 q1).2.1 (hypsR0_B t q0 q1).2.2.1 (hypsR0_B t q0 q1).2.2.2.1).2.1, (kernelRun0_B c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_B t q0 q1).1 (hypsR0_B t q0 q1).2.1 (hypsR0_B t q0 q1).2.2.1 (hypsR0_B t q0 q1).2.2.2.1).2.2.1)
    else
      (out0_A_2 c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_A t q0 q1).1 (hypsR0_A t q0 q1).2.1 (hypsR0_A t q0 q1).2.2.1 (hypsR0_A t q0 q1).2.2.2.1, (kernelRun0_A c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_A t q0 q1).1 (hypsR0_A t q0 q1).2.1 (hypsR0_A t q0 q1).2.2.1 (hypsR0_A t q0 q1).2.2.2.1).2.1, (kernelRun0_A c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_A t q0 q1).1 (hypsR0_A t q0 q1).2.1 (hypsR0_A t q0 q1).2.2.1 (hypsR0_A t q0 q1).2.2.2.1).2.2.1, (kernelRun0_A c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_A t q0 q1).1 (hypsR0_A t q0 q1).2.1 (hypsR0_A t q0 q1).2.2.1 (hypsR0_A t q0 q1).2.2.2.1).2.2.2.1)
  else
    if q1 : P0_1 t then
      ((if (cfgA).fresh (2 : Fin 3) t.val then default else prev.1), (kernelRun0_D c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_D t q0 q1).1 (hypsR0_D t q0 q1).2.1 (hypsR0_D t q0 q1).2.2.1 (hypsR0_D t q0 q1).2.2.2.1).1, (kernelRun0_D c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_D t q0 q1).1 (hypsR0_D t q0 q1).2.1 (hypsR0_D t q0 q1).2.2.1 (hypsR0_D t q0 q1).2.2.2.1).2.1, (kernelRun0_D c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_D t q0 q1).1 (hypsR0_D t q0 q1).2.1 (hypsR0_D t q0 q1).2.2.1 (hypsR0_D t q0 q1).2.2.2.1).2.2.1)
    else
      (out0_C_2 c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_C t q0 q1).1 (hypsR0_C t q0 q1).2.1 (hypsR0_C t q0 q1).2.2.1 (hypsR0_C t q0 q1).2.2.2.1, (kernelRun0_C c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_C t q0 q1).1 (hypsR0_C t q0 q1).2.1 (hypsR0_C t q0 q1).2.2.1 (hypsR0_C t q0 q1).2.2.2.1).2.1, (kernelRun0_C c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_C t q0 q1).1 (hypsR0_C t q0 q1).2.1 (hypsR0_C t q0 q1).2.2.1 (hypsR0_C t q0 q1).2.2.2.1).2.2.1, (kernelRun0_C c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_C t q0 q1).1 (hypsR0_C t q0 q1).2.1 (hypsR0_C t q0 q1).2.2.1 (hypsR0_C t q0 q1).2.2.2.1).2.2.2.1)

def traj0 (c : Dev nD) : (n : ℕ) → n < (cfgA).N → Tr c
  | 0, h => step0 m ρ c ⟨0, h⟩ (default, default, default, default)
  | n + 1, h => step0 m ρ c ⟨n + 1, h⟩ (traj0 c n (Nat.lt_of_succ_lt h))

def prev0 (c : Dev nD) (t : Fin (cfgA).N) : Tr c :=
  if h : t.val = 0 then (default, default, default, default) else traj0 m ρ c (t.val - 1) (by omega)

/-- The state after a point is one step from the state before it. -/
theorem traj0_eq (c : Dev nD) (t : Fin (cfgA).N) : traj0 m ρ c t.val t.isLt = step0 m ρ c t (prev0 m ρ c t) := by
  obtain ⟨n, hn⟩ := t
  cases n with
  | zero => rfl
  | succ n => unfold prev0; simp only [Nat.add_one_ne_zero, dif_neg, not_false_eq_true]; rfl

/-- The step of a block row's first and last point. -/
theorem step0_A (c : Dev nD) (t : Fin (cfgA).N) (prev : Tr c) (q0 : P0_0 t) (q1 : ¬P0_1 t) :
    step0 m ρ c t prev = (out0_A_2 c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_A t q0 q1).1 (hypsR0_A t q0 q1).2.1 (hypsR0_A t q0 q1).2.2.1 (hypsR0_A t q0 q1).2.2.2.1, (kernelRun0_A c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_A t q0 q1).1 (hypsR0_A t q0 q1).2.1 (hypsR0_A t q0 q1).2.2.1 (hypsR0_A t q0 q1).2.2.2.1).2.1, (kernelRun0_A c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_A t q0 q1).1 (hypsR0_A t q0 q1).2.1 (hypsR0_A t q0 q1).2.2.1 (hypsR0_A t q0 q1).2.2.2.1).2.2.1, (kernelRun0_A c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_A t q0 q1).1 (hypsR0_A t q0 q1).2.1 (hypsR0_A t q0 q1).2.2.1 (hypsR0_A t q0 q1).2.2.2.1).2.2.2.1) := by
  unfold step0; simp only [dif_pos q0, dif_neg q1]

/-- The step of a first point that is not a last one. -/
theorem step0_B (c : Dev nD) (t : Fin (cfgA).N) (prev : Tr c) (q0 : P0_0 t) (q1 : P0_1 t) :
    step0 m ρ c t prev = ((if (cfgA).fresh (2 : Fin 3) t.val then default else prev.1), (kernelRun0_B c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_B t q0 q1).1 (hypsR0_B t q0 q1).2.1 (hypsR0_B t q0 q1).2.2.1 (hypsR0_B t q0 q1).2.2.2.1).1, (kernelRun0_B c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_B t q0 q1).1 (hypsR0_B t q0 q1).2.1 (hypsR0_B t q0 q1).2.2.1 (hypsR0_B t q0 q1).2.2.2.1).2.1, (kernelRun0_B c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) (hypsR0_B t q0 q1).1 (hypsR0_B t q0 q1).2.1 (hypsR0_B t q0 q1).2.2.1 (hypsR0_B t q0 q1).2.2.2.1).2.2.1) := by
  unfold step0; simp only [dif_pos q0, dif_pos q1]

/-- The step of a last point that is not a first one. -/
theorem step0_C (c : Dev nD) (t : Fin (cfgA).N) (prev : Tr c) (q0 : ¬P0_0 t) (q1 : ¬P0_1 t) :
    step0 m ρ c t prev = (out0_C_2 c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_C t q0 q1).1 (hypsR0_C t q0 q1).2.1 (hypsR0_C t q0 q1).2.2.1 (hypsR0_C t q0 q1).2.2.2.1, (kernelRun0_C c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_C t q0 q1).1 (hypsR0_C t q0 q1).2.1 (hypsR0_C t q0 q1).2.2.1 (hypsR0_C t q0 q1).2.2.2.1).2.1, (kernelRun0_C c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_C t q0 q1).1 (hypsR0_C t q0 q1).2.1 (hypsR0_C t q0 q1).2.2.1 (hypsR0_C t q0 q1).2.2.2.1).2.2.1, (kernelRun0_C c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_C t q0 q1).1 (hypsR0_C t q0 q1).2.1 (hypsR0_C t q0 q1).2.2.1 (hypsR0_C t q0 q1).2.2.2.1).2.2.2.1) := by
  unfold step0; simp only [dif_neg q0, dif_neg q1]

/-- The step of a point between the first and the last. -/
theorem step0_D (c : Dev nD) (t : Fin (cfgA).N) (prev : Tr c) (q0 : ¬P0_0 t) (q1 : P0_1 t) :
    step0 m ρ c t prev = ((if (cfgA).fresh (2 : Fin 3) t.val then default else prev.1), (kernelRun0_D c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_D t q0 q1).1 (hypsR0_D t q0 q1).2.1 (hypsR0_D t q0 q1).2.2.1 (hypsR0_D t q0 q1).2.2.2.1).1, (kernelRun0_D c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_D t q0 q1).1 (hypsR0_D t q0 q1).2.1 (hypsR0_D t q0 q1).2.2.1 (hypsR0_D t q0 q1).2.2.2.1).2.1, (kernelRun0_D c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) prev.2.1 prev.2.2.1 prev.2.2.2 (hypsR0_D t q0 q1).1 (hypsR0_D t q0 q1).2.1 (hypsR0_D t q0 q1).2.2.1 (hypsR0_D t q0 q1).2.2.2.1).2.2.1) := by
  unfold step0; simp only [dif_neg q0, dif_pos q1]

def prev0T (c : Dev nD) (t : Fin ((cfgA).N + 1)) : Tr c :=
  if h : t.val = 0 then (default, default, default, default) else traj0 m ρ c (t.val - 1) (by omega)

/-- The state at the boundary in front of a point is the state before the point. -/
theorem prev0T_castSucc (c : Dev nD) (t : Fin (cfgA).N) : prev0T m ρ c t.castSucc = prev0 m ρ c t := by
  unfold prev0T prev0; simp only [Fin.val_castSucc]
/-- The state at the boundary behind a point is the state after the point. -/
theorem prev0T_succ (c : Dev nD) (t : Fin (cfgA).N) : prev0T m ρ c t.succ = traj0 m ρ c t.val t.isLt := by
  unfold prev0T; simp only [Fin.val_succ, Nat.add_one_ne_zero, ↓reduceDIte, Nat.add_one_sub_one]

def Phi (m : (ℓ : Loc nD τ sig) → Buf (Elt Ideal) ℓ) (ρ : Dev nD → PrngReg) (c : Dev nD) (t : Fin ((cfgA).N + 1)) : sProp 𝕄 :=
  iprop((∃ a, ⌜sfresh0_0 t.val = false → a = (prev0T m ρ c t).2.1⌝ ∗ (scM0_0.view.loc (c : Thread nD τ) ↦{fullShare} a)) ∗ (∃ a, ⌜sfresh0_1 t.val = false → a = (prev0T m ρ c t).2.2.1⌝ ∗ (scM0_1.view.loc (c : Thread nD τ) ↦{fullShare} a)) ∗ (∃ a, ⌜sfresh0_2 t.val = false → a = (prev0T m ρ c t).2.2.2⌝ ∗ (scM0_2.view.loc (c : Thread nD τ) ↦{fullShare} a)) ∗ (tbM0_0.view.loc (c : Thread nD τ) ↦{fullShare.right} pinT_0) ∗ (tbM0_1.view.loc (c : Thread nD τ) ↦{fullShare.right} pinT_1) ∗ (tbM0_2.view.loc (c : Thread nD τ) ↦{fullShare.right} pinT_2) ∗ (tbM0_3.view.loc (c : Thread nD τ) ↦{fullShare.right} pinT_3) ∗ (tbM0_4.view.loc (c : Thread nD τ) ↦{fullShare.right} pinT_4))

def dats (_ : Fin 1) (c : Dev nD) : Dat τ (Elt Ideal) Unit ℕ (UR sig nD τ) ℕ (cfgA) c where
  A w := V m c (Pipeline.arrRef spec0 w)
  after w t := match w with
    | ⟨0, _⟩ => iblk m ρ c (0 : Fin 3) t
    | ⟨1, _⟩ => iblk m ρ c (1 : Fin 3) t
    | ⟨2, _⟩ => (traj0 m ρ c t.val t.isLt).1
  Φ t := Phi m ρ c t
  q _ := fullShare
  owed _ := 0

/-- What the query window holds after a point. -/
theorem after0_0 (c : Dev nD) (t : Fin (cfgA).N) : (dats m ρ 0 c).after (0 : Fin 3) t = iblk m ρ c (0 : Fin 3) t := rfl
/-- What the key window holds after a point. -/
theorem after0_1 (c : Dev nD) (t : Fin (cfgA).N) : (dats m ρ 0 c).after (1 : Fin 3) t = iblk m ρ c (1 : Fin 3) t := rfl
/-- What the output window holds after a point. -/
theorem after0_2 (c : Dev nD) (t : Fin (cfgA).N) : (dats m ρ 0 c).after (2 : Fin 3) t = (traj0 m ρ c t.val t.isLt).1 := rfl

/-- What the query window holds before a point. -/
theorem before0_0 (c : Dev nD) (t : Fin (cfgA).N) (d) : (dats m ρ 0 c).before (0 : Fin 3) t d = iblk m ρ c (0 : Fin 3) t :=
  ((dats m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

/-- What the key window holds before a point. -/
theorem before0_1 (c : Dev nD) (t : Fin (cfgA).N) (d) : (dats m ρ 0 c).before (1 : Fin 3) t d = iblk m ρ c (1 : Fin 3) t :=
  ((dats m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- An idle output window carries its block over from the point before. -/
theorem hcarry0_2 (c : Dev nD) : ∀ (t : Fin (cfgA).N) (ht : t.val ≠ 0), (cfgA).idle (2 : Fin 3) ((cfgA).grid.coords t) = true → (cfgA).fresh (2 : Fin 3) t.val = false →
    (dats m ρ 0 c).after (2 : Fin 3) t = (dats m ρ 0 c).after (2 : Fin 3) ⟨t.val - 1, by omega⟩ := by
  intro t ht hi hf
  rw [after0_2, after0_2, traj0_eq]
  by_cases q0 : P0_0 t
  · by_cases q1 : P0_1 t
    · rw [step0_B m ρ c t _ q0 q1]
      simp only [hf, Bool.false_eq_true, ↓reduceIte]
      unfold prev0; rw [dif_neg ht]
    · obtain ⟨i2, -, -, -, -, -⟩ := sched0_A t q0 q1
      rw [i2] at hi; exact absurd hi (by decide)
  · by_cases q1 : P0_1 t
    · rw [step0_D m ρ c t _ q0 q1]
      simp only [hf, Bool.false_eq_true, ↓reduceIte]
      unfold prev0; rw [dif_neg ht]
    · obtain ⟨i2, -, -, -, -, -, -, -, -⟩ := sched0_C t q0 q1
      rw [i2] at hi; exact absurd hi (by decide)

/-- What the output window holds before a point. -/
theorem before0_2 (c : Dev nD) (t : Fin (cfgA).N) (d) :
    (dats m ρ 0 c).before (2 : Fin 3) t d = if (cfgA).fresh (2 : Fin 3) t.val then d else (prev0 m ρ c t).1 := by
  rw [(dats m ρ 0 c).before_out_traj (2 : Fin 3) rfl (fun _ _ => rfl) (hcarry0_2 m ρ c) t.val t rfl d]
  by_cases hf : (cfgA).fresh (2 : Fin 3) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_2]; unfold prev0; rw [dif_neg h0]

abbrev bodyAt0 (t : Fin (cfgA).N) : Prog (TpuEff nD τ sig (Elt Ideal) Λ₀ .tc) PUnit :=
  cc0_flash_dk384 (crd t) (Memref.whole main_c) (Memref.isWhole_whole _) (Memref.whole main_c_0) (Memref.isWhole_whole _) (Memref.whole main_c_1) (Memref.isWhole_whole _) (Memref.whole main_c_2) (Memref.isWhole_whole _) (Memref.whole main_c_3) (Memref.isWhole_whole _) (ms0_0 t) (hs0_0 t) (ms0_1 t) (hs0_1 t) (ms0_2 t) (hs0_2 t) (Memref.whole cc0_scratch0) (Memref.isWhole_whole _) (Memref.whole cc0_scratch1) (Memref.isWhole_whole _) (Memref.whole cc0_scratch2) (Memref.isWhole_whole _)

set_option maxHeartbeats 4000000 in
/-- The body takes the state before a point to the state after it. -/
theorem sound_body (c : Dev nD) (t : Fin (cfgA).N) :
    iprop((dats m ρ 0 c).Φ t.castSucc ∗ (dats m ρ 0 c).owesAt () t.castSucc
        ∗ (∃ d, owns (c : Thread nD τ) (ms0_0 t) fullShare ((dats m ρ 0 c).before (0 : Fin 3) t d))
        ∗ (∃ d, owns (c : Thread nD τ) (ms0_1 t) fullShare ((dats m ρ 0 c).before (1 : Fin 3) t d))
        ∗ (∃ d, owns (c : Thread nD τ) (ms0_2 t) fullShare ((dats m ρ 0 c).before (2 : Fin 3) t d)))
      ⊢ wp frame (wpE (defs₀ (F := Ideal)) Variants.none c none) Set.univ (bodyAt0 t) fun _ =>
          iprop((dats m ρ 0 c).Φ t.succ ∗ (dats m ρ 0 c).owesAt () t.succ
            ∗ bigSep Finset.univ fun w : Fin (cfgA).W =>
                match (cfgA).idle w ((cfgA).grid.coords t) with
                | true =>
                  match ((cfgA).win w).flush t with
                  | false => iprop(∃ d, owns (c : Thread nD τ) (((cfgA).win w).stage ((cfgA).slots t w)) fullShare ((dats m ρ 0 c).before w t d))
                  | true => owns (c : Thread nD τ) (((cfgA).win w).stage ((cfgA).slots t w)) fullShare ((dats m ρ 0 c).after w t)
                | false => owns (c : Thread nD τ) (((cfgA).win w).stage ((cfgA).slots t w)) fullShare ((dats m ρ 0 c).after w t)) := by
  rw [bigSep_W0]
  by_cases q0 : P0_0 t
  · by_cases q1 : P0_1 t
    · obtain ⟨i2, f2, fr2, sf0, sfn0, sf1, sfn1, sf2, sfn2⟩ := sched0_B t q0 q1
      have F0 := hypsR0_B t q0 q1
      have hc0 := F0.1; have F1 := F0.2
      have hc1 := F1.1; have F2 := F1.2
      have hc2 := F2.1; have F3 := F2.2
      have k0_h4 := F3.1; have F4 := F3.2
      clear F0 F1 F2 F3 F4
      rewrite [i2]
      simp only [before0_0, before0_1, before0_2, after0_0, after0_1, after0_2, f2]
      simp only [fr2, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_B m ρ c t _ q0 q1]
      unfold Phi; simp only [prev0T_castSucc, prev0T_succ, traj0_eq, step0_B m ρ c t _ q0 q1, Fin.val_castSucc, Fin.val_succ]
      iintro ⟨⟨⟨%a0, %ha0, HS0⟩, ⟨%a1, %ha1, HS1⟩, ⟨%a2, %ha2, HS2⟩, HT0, HT1, HT2, HT3, HT4⟩, Ho, ⟨%d0, H0⟩, ⟨%d1, H1⟩, ⟨%d2, H2⟩⟩
      iapply ((kernelRun0_B c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) hc0 hc1 hc2 k0_h4).2.2.2 _ a0 a1 a2 _)
      isplitl [H0]; · iapply rep_of_owns; iexact H0
      isplitl [H1]; · iapply rep_of_owns; iexact H1
      isplitl [HT0]; · iexact HT0
      isplitl [HT1]; · iexact HT1
      isplitl [HT2]; · iexact HT2
      isplitl [HT3]; · iexact HT3
      isplitl [HT4]; · iexact HT4
      isplitl [H2]; · iexact H2
      isplitl [HS0]; · iexact HS0
      isplitl [HS1]; · iexact HS1
      isplitl [HS2]; · iexact HS2
      iintro ⟨H0, H1, HT0, HT1, HT2, HT3, HT4, H2, HS0, HS1, HS2⟩
      isplitl [HS0 HS1 HS2 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      first | (iexists d2; iexact H2) | iexact H2
    · obtain ⟨i2, f2, fr2, sfn0, sfn1, sfn2⟩ := sched0_A t q0 q1
      have F0 := hypsR0_A t q0 q1
      have hc0 := F0.1; have F1 := F0.2
      have hc1 := F1.1; have F2 := F1.2
      have hc2 := F2.1; have F3 := F2.2
      have k0_h4 := F3.1; have F4 := F3.2
      clear F0 F1 F2 F3 F4
      rewrite [i2]
      simp only [before0_0, before0_1, before0_2, after0_0, after0_1, after0_2, f2]
      simp only [fr2, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_A m ρ c t _ q0 q1]
      unfold Phi; simp only [prev0T_castSucc, prev0T_succ, traj0_eq, step0_A m ρ c t _ q0 q1, Fin.val_castSucc, Fin.val_succ]
      iintro ⟨⟨⟨%a0, %ha0, HS0⟩, ⟨%a1, %ha1, HS1⟩, ⟨%a2, %ha2, HS2⟩, HT0, HT1, HT2, HT3, HT4⟩, Ho, ⟨%d0, H0⟩, ⟨%d1, H1⟩, ⟨%d2, H2⟩⟩
      iapply ((kernelRun0_A c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) hc0 hc1 hc2 k0_h4).2.2.2.2 a0 a1 a2 _)
      isplitl [H0]; · iapply rep_of_owns; iexact H0
      isplitl [H1]; · iapply rep_of_owns; iexact H1
      isplitl [HT0]; · iexact HT0
      isplitl [HT1]; · iexact HT1
      isplitl [HT2]; · iexact HT2
      isplitl [HT3]; · iexact HT3
      isplitl [HT4]; · iexact HT4
      isplitl [H2]; · iexists _; iexact H2
      isplitl [HS0]; · iexact HS0
      isplitl [HS1]; · iexact HS1
      isplitl [HS2]; · iexact HS2
      iintro ⟨H0, H1, HT0, HT1, HT2, HT3, HT4, ⟨%e2, H2⟩, HS0, HS1, HS2⟩
      isplitl [HS0 HS1 HS2 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_A_2 c _ _ _ _ _ _ _ _ _ _ _ _ _ _ _ _ _ _)
  · by_cases q1 : P0_1 t
    · obtain ⟨i2, f2, fr2, sf0, sfn0, sf1, sfn1, sf2, sfn2⟩ := sched0_D t q0 q1
      have F0 := hypsR0_D t q0 q1
      have hc0 := F0.1; have F1 := F0.2
      have hc1 := F1.1; have F2 := F1.2
      have hc2 := F2.1; have F3 := F2.2
      have k0_h4 := F3.1; have F4 := F3.2
      clear F0 F1 F2 F3 F4
      rewrite [i2]
      simp only [before0_0, before0_1, before0_2, after0_0, after0_1, after0_2, f2]
      simp only [fr2, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_D m ρ c t _ q0 q1]
      unfold Phi; simp only [prev0T_castSucc, prev0T_succ, traj0_eq, step0_D m ρ c t _ q0 q1, Fin.val_castSucc, Fin.val_succ]
      simp only [exists_held sf0, exists_held sf1, exists_held sf2]
      iintro ⟨⟨HS0, HS1, HS2, HT0, HT1, HT2, HT3, HT4⟩, Ho, ⟨%d0, H0⟩, ⟨%d1, H1⟩, ⟨%d2, H2⟩⟩
      iapply ((kernelRun0_D c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) _ _ _ hc0 hc1 hc2 k0_h4).2.2.2 _ _)
      isplitl [H0]; · iapply rep_of_owns; iexact H0
      isplitl [H1]; · iapply rep_of_owns; iexact H1
      isplitl [HT0]; · iexact HT0
      isplitl [HT1]; · iexact HT1
      isplitl [HT2]; · iexact HT2
      isplitl [HT3]; · iexact HT3
      isplitl [HT4]; · iexact HT4
      isplitl [H2]; · iexact H2
      isplitl [HS0]; · iexact HS0
      isplitl [HS1]; · iexact HS1
      isplitl [HS2]; · iexact HS2
      iintro ⟨H0, H1, HT0, HT1, HT2, HT3, HT4, H2, HS0, HS1, HS2⟩
      isplitl [HS0 HS1 HS2 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      first | (iexists d2; iexact H2) | iexact H2
    · obtain ⟨i2, f2, fr2, sf0, sfn0, sf1, sfn1, sf2, sfn2⟩ := sched0_C t q0 q1
      have F0 := hypsR0_C t q0 q1
      have hc0 := F0.1; have F1 := F0.2
      have hc1 := F1.1; have F2 := F1.2
      have hc2 := F2.1; have F3 := F2.2
      have k0_h4 := F3.1; have F4 := F3.2
      clear F0 F1 F2 F3 F4
      rewrite [i2]
      simp only [before0_0, before0_1, before0_2, after0_0, after0_1, after0_2, f2]
      simp only [fr2, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_C m ρ c t _ q0 q1]
      unfold Phi; simp only [prev0T_castSucc, prev0T_succ, traj0_eq, step0_C m ρ c t _ q0 q1, Fin.val_castSucc, Fin.val_succ]
      simp only [exists_held sf0, exists_held sf1, exists_held sf2]
      iintro ⟨⟨HS0, HS1, HS2, HT0, HT1, HT2, HT3, HT4⟩, Ho, ⟨%d0, H0⟩, ⟨%d1, H1⟩, ⟨%d2, H2⟩⟩
      iapply ((kernelRun0_C c (crd t) (ms0_0 t) (hs0_0 t) (ms0_1 t) (hs0_1 t) (ms0_2 t) (hs0_2 t) (pinT_0) (pinT_1) (pinT_2) (pinT_3) (pinT_4) (iblk m ρ c (0 : Fin 3) t) (iblk m ρ c (1 : Fin 3) t) _ _ _ hc0 hc1 hc2 k0_h4).2.2.2.2 _)
      isplitl [H0]; · iapply rep_of_owns; iexact H0
      isplitl [H1]; · iapply rep_of_owns; iexact H1
      isplitl [HT0]; · iexact HT0
      isplitl [HT1]; · iexact HT1
      isplitl [HT2]; · iexact HT2
      isplitl [HT3]; · iexact HT3
      isplitl [HT4]; · iexact HT4
      isplitl [H2]; · iexists _; iexact H2
      isplitl [HS0]; · iexact HS0
      isplitl [HS1]; · iexact HS1
      isplitl [HS2]; · iexact HS2
      iintro ⟨H0, H1, HT0, HT1, HT2, HT3, HT4, ⟨%e2, H2⟩, HS0, HS1, HS2⟩
      isplitl [HS0 HS1 HS2 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_C_2 c _ _ _ _ _ _ _ _ _ _ _ _ _ _ _ _ _ _ _ _ _)

/-- The body meets its obligation at every point. -/
theorem body_obligation (c : Dev nD) : BodyObligation (dats m ρ 0 c) (defs₀ (F := Ideal)) Variants.none () Set.univ := fun t => by
  rw [bigSep_W0]
  exact sound_body m ρ c t

def u₀ : UR sig nD τ :=
  initOf (Pipeline.cells (pcs) ((launch0 (F := Ideal)).cellOf_inj fun _ => adm))
    (Pipeline.launchToks (pcs) ((launch0 (F := Ideal)).cellOf_inj fun _ => adm))

/-- Every window holds its array whole. -/
theorem share_eq (c : Dev nD) (w : Fin (cfgA).W) : (dats m ρ 0 c).share w = fullShare := by unfold Dat.share; split <;> rfl

/-- The five tables held one by one. -/
theorem prefHeld_eq (c : Dev nD) (q : Fin 5 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_c_1) ↦{q 2} v 2) ∗ (((c : Thread nD τ).loc main_c_2) ↦{q 3} v 3) ∗ (((c : Thread nD τ).loc main_c_3) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The invariant holds in front of the first point. -/
theorem phi0_intro (c : Dev nD) :
    iprop(BI.emp ∗ Pipeline.prefHeld pre0 c (fun _ => fullShare.right) (adm).1 ∗ Pipeline.scopedRest spec0 c) ⊢ (dats m ρ 0 c).Φ 0 := by
  rw [prefHeld_eq, scopedRest0_eq, show (dats m ρ 0 c).Φ 0 = Phi m ρ c 0 from rfl]
  unfold Phi
  iintro ⟨-, ⟨HT0, HT1, HT2, HT3, HT4⟩, ⟨%a0, HS0⟩, ⟨%a1, HS1⟩, ⟨%a2, HS2⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HS2]
  · iexists a2; isplitr; swap
    · iexact HS2
    · ipureintro; intro h; exact absurd (h.symm.trans (show sfresh0_2 0 = true from rfl)) Bool.false_ne_true
  isplitl [HT0]
  · iexact HT0
  isplitl [HT1]
  · iexact HT1
  isplitl [HT2]
  · iexact HT2
  isplitl [HT3]
  · iexact HT3
  iexact HT4

/-- Behind the last point the scratch is given back. -/
theorem phiN_exit (c : Dev nD) : (dats m ρ 0 c).Φ (Fin.last (cfgA).N) ⊢ iprop(BI.emp ∗ Pipeline.scopedRest spec0 c) := by
  rw [scopedRest0_eq, show (dats m ρ 0 c).Φ (Fin.last (cfgA).N) = Phi m ρ c (Fin.last _) from rfl]
  unfold Phi
  iintro ⟨⟨%a0, -, HS0⟩, ⟨%a1, -, HS1⟩, ⟨%a2, -, HS2⟩, -, -, -, -, -⟩
  isplitr; · iempintro
  isplitl [HS0]
  · iexists a0; iexact HS0
  isplitl [HS1]
  · iexists a1; iexact HS1
  iexists a2; iexact HS2

def QC : PUnit × MemSt nD τ sig (Elt Ideal) → Prop := fun r =>
  ∀ c : Dev nD, (∀ w : Fin (cfgA).W, r.2.mem (((cfgA).win w).arr.view.loc (c : Thread nD τ)) = (dats m ρ 0 c).arrAt w (cfgA).N)
    ∧ r.2.mem ((c : Thread nD τ).loc main_arg1) = V m c main_arg1

set_option maxHeartbeats 4000000 in
/-- The five tables hold the pinned words when the launch begins. -/
theorem V_pre (c : Dev nD) (j : Fin 5) : V m c (pre0.ref j) = (adm).1 j := by
  fin_cases j
  · show V m c main_c = pinT_0; unfold_abbrev_sides; after_results; rfl
  · show V m c main_c_0 = pinT_1; unfold_abbrev_sides; after_results; rfl
  · show V m c main_c_1 = pinT_2; unfold_abbrev_sides; after_results; rfl
  · show V m c main_c_2 = pinT_3; unfold_abbrev_sides; after_results; rfl
  · show V m c main_c_3 = pinT_4; unfold_abbrev_sides; after_results; rfl

set_option backward.isDefEq.respectTransparency.types false in
set_option maxHeartbeats 4000000 in
/-- The run ends with the arrays at their final contents and every counter at zero. -/
theorem run_main_quiescent : θ_run (defs (F := Ideal)) (onTc (τ := τ) (main (F := Ideal))) (s₀ m ρ) (fun r => QC m ρ r ∧ r.2.sem = fun _ => 0) :=
  Pipeline.θ_run_region_noSem_pf_quiescent pcfgs (fun _ => adm) (dats m ρ) () ((launch0 (F := Ideal)).cellOf_inj fun _ => adm) (0 : Fin 1)
    (launch0 (F := Ideal)).win.to₀ (launch0 (F := Ideal)).pre EP defs₀ Variants.none m ρ main
    (hbody := fun c => (body_obligation m ρ c).loose) (hne := (launch0 (F := Ideal)).block_pos)
    (harr := (launch0 (F := Ideal)).arr_whole) (hstage := (launch0 (F := Ideal)).stage_whole) (howed := fun _ _ => rfl)
    (u₀ := u₀) (hu₀ := .rfl)
    (V := V m)
    (hmain := hmain m)
    (hsplit := fun c => Pipeline.arrays_split (pcs) (dats m ρ) 0 (launch0 (F := Ideal)).win.arr_inj c (launch0 (F := Ideal)).arr_whole
      (share_eq m ρ c) _ _ fun _ => rfl)
    (hpf := V_pre m)
    (X := fun _ => iprop(emp)) (Y := fun _ => iprop(emp))
    (Z := fun c => iprop(((c : Thread nD τ).loc main_arg1) ↦{fullShare} V m c main_arg1))
    (hX := fun c => by
      rw [unscopedRestP0_eq]; iintro H
      isplitr
      · iempintro
      · iexact H)
    (hin := phi0_intro m ρ)
    (hout := phiN_exit m ρ)
    (QY := fun c s' => s'.mem ((c : Thread nD τ).loc main_arg1) = V m c main_arg1)
    (hY := fun c s' => by
      iintro ⟨-, HZ, HSI⟩
      icombine HSI HZ gives %h0
      imodintro
      isplitr; · ipureintro; exact Buf.eq_of_forall_mem_univ h0
      iexact HSI)
    (hQ := fun _ h hz => ⟨fun c => ⟨(h c).1, (h c).2.2⟩, hz⟩)

/-- The run ends with the arrays at their final contents. -/
theorem run_main : θ_run (defs (F := Ideal)) (onTc (τ := τ) (main (F := Ideal))) (s₀ m ρ) (QC m ρ) :=
  (θ_run defs _ _).mono (fun _ h => h.1) (run_main_quiescent m ρ)

/-- The run leaves both arguments alone. -/
theorem unchanged :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 (0 : Fin 3)).trans (((dats m ρ 0 c).arrAt_in (0 : Fin 3) rfl _).trans (V_main_arg0 m c)),
      ((h c).2).trans (V_main_arg1 m c)⟩) (run_main m ρ)

/-- The run leaves both arguments alone and every counter at zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Mla

end
-- ==== Proof.MlaBTables.lean ====
module

public import proofs.«01_k».proof.Defs
public import proofs.«01_k».proof.Proof.Gen.Kernel
public import proofs.«01_k».proof.Proof.Gen.Kernel.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps
public import Idealize.ShloMosaic.Adequacy
public import Idealize.ShloMosaic.Init

@[expose] public section

set_option maxRecDepth 16384
set_option Elab.async false

noncomputable section

namespace Cert.Kernel.Mla

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev Tr (c : Dev nD) : Type := (S1x8x256x256.Idx → Elt Bits .f32) × Buf (Elt Bits) ((c : Thread nD τ).loc cc0_scratch0) × Buf (Elt Bits) ((c : Thread nD τ).loc cc0_scratch1) × Buf (Elt Bits) ((c : Thread nD τ).loc cc0_scratch2)

abbrev tbM0_0 : Memref sig .tc .smem S80 .i32 := Memref.whole main_c
abbrev tbM0_1 : Memref sig .tc .smem S80 .i32 := Memref.whole main_c_0
abbrev tbM0_2 : Memref sig .tc .smem S80 .i32 := Memref.whole main_c_1
abbrev tbM0_3 : Memref sig .tc .smem S80 .i32 := Memref.whole main_c_2
abbrev tbM0_4 : Memref sig .tc .smem S80 .i32 := Memref.whole main_c_3
abbrev scM0_0 : Memref sig .tc .vmem S4x512x1 .f32 := Memref.whole cc0_scratch0
abbrev scM0_1 : Memref sig .tc .vmem S4x512x1 .f32 := Memref.whole cc0_scratch1
abbrev scM0_2 : Memref sig .tc .vmem S4x512x256 .f32 := Memref.whole cc0_scratch2

def pinT_0 : S80.Idx → BitVec 32 := fun x => lit0 (S80.rowMajor x)

def pinT_1 : S80.Idx → BitVec 32 := fun x => lit1 (S80.rowMajor x)

def pinT_2 : S80.Idx → BitVec 32 := fun x => lit2 (S80.rowMajor x)

def pinT_3 : S80.Idx → BitVec 32 := fun x => lit3 (S80.rowMajor x)

def pinT_4 : S80.Idx → BitVec 32 := fun x => lit4 (S80.rowMajor x)

set_option backward.proofsInPublic true in
def pfN : pre0.Contents (Elt Bits) := fun | ⟨0, _⟩ => pinT_0 | ⟨1, _⟩ => pinT_1 | ⟨2, _⟩ => pinT_2 | ⟨3, _⟩ => pinT_3 | ⟨4, _⟩ => pinT_4 | ⟨_ + 5, h⟩ => absurd h (by simp)
/-- A block index that stays in bounds on its own axis stays in bounds with the first axis in front. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The block that the query window takes from the pinned tables ends inside its array. -/
theorem ok_pfN_0_0_inb : ∀ i : grid0.Coords, ∀ a, (cc0_transform_0 k0_off1_inb numel1_S1 (pfN) i a + 1) * S1x8x256x384.size a ≤ S2x8x8192x384.size a := by decide +kernel
/-- The pinned tables give the query window a block inside its array at every point. -/
theorem ok_pfN_0_0 : (∀ i : grid0.Coords, ∃ h : (∀ a, (cc0_transform_0 k0_off1_inb numel1_S1 (pfN) i a + 1) * S1x8x256x384.size a ≤ S2x8x8192x384.size a), EltTy.bits .bf16 = 32 ∨ (Rect.block (s := S2x8x8192x384) S1x8x256x384.size (cc0_transform_0 k0_off1_inb numel1_S1 (pfN) i) h).WholeWords (EltTy.packing .bf16)) := fun i => ⟨ok_pfN_0_0_inb i, .inr (Affine.block_words_dvd (s := S2x8x8192x384) (p := EltTy.packing .bf16) (by decide) (by decide))⟩
/-- The block that the key window takes from the pinned tables ends inside its array. -/
theorem ok_pfN_0_1_inb : ∀ i : grid0.Coords, ∀ a, (cc0_transform_1 k0_off1_inb numel1_S1 (pfN) i a + 1) * S1x2048x384.size a ≤ S2x8192x384.size a := by decide +kernel
/-- The pinned tables give the key window a block inside its array at every point. -/
theorem ok_pfN_0_1 : (∀ i : grid0.Coords, ∃ h : (∀ a, (cc0_transform_1 k0_off1_inb numel1_S1 (pfN) i a + 1) * S1x2048x384.size a ≤ S2x8192x384.size a), EltTy.bits .bf16 = 32 ∨ (Rect.block (s := S2x8192x384) S1x2048x384.size (cc0_transform_1 k0_off1_inb numel1_S1 (pfN) i) h).WholeWords (EltTy.packing .bf16)) := fun i => ⟨ok_pfN_0_1_inb i, .inr (Affine.block_words_dvd (s := S2x8192x384) (p := EltTy.packing .bf16) (by decide) (by decide))⟩
/-- The block that the output window takes from the pinned tables ends inside its array. -/
theorem ok_pfN_0_2_inb : ∀ i : grid0.Coords, ∀ a, (cc0_transform_2 k0_off1_inb numel1_S1 (pfN) i a + 1) * S1x8x256x256.size a ≤ S2x8x8192x256.size a := by decide +kernel
/-- The pinned tables give the output window a block inside its array at every point. -/
theorem ok_pfN_0_2 : (∀ i : grid0.Coords, ∃ h : (∀ a, (cc0_transform_2 k0_off1_inb numel1_S1 (pfN) i a + 1) * S1x8x256x256.size a ≤ S2x8x8192x256.size a), EltTy.bits .f32 = 32 ∨ (Rect.block (s := S2x8x8192x256) S1x8x256x256.size (cc0_transform_2 k0_off1_inb numel1_S1 (pfN) i) h).WholeWords (EltTy.packing .f32)) := fun i => ⟨ok_pfN_0_2_inb i, .inl rfl⟩
/-- The pinned tables are admissible: every window takes a block inside its array. -/
theorem ok_pfN : ok0 (F := Bits) (pfN) := ⟨ok_pfN_0_0, ok_pfN_0_1, ok_pfN_0_2⟩

def adm : (pcfg0 (F := Bits)).Adm := ⟨pfN, ok_pfN⟩
abbrev cfgA : Pipeline.Cfg sig Λ₀ := cfg0 (F := Bits) (adm)
abbrev pcs : Fin 1 → Pipeline.Cfg sig Λ₀ := Pipeline.pin (pcfgs (F := Bits)) fun _ => adm

variable (m : (ℓ : Loc nD τ sig) → Buf (Elt Bits) ℓ) (ρ : Dev nD → PrngReg)

abbrev V (c : Dev nD) (b : Ref sig .tc) : Buf (Elt Bits) ((c : Thread nD τ).loc b) :=
  StableHlo.after (hostOps0 (F := Bits)) (fun b => m (c, b)) b

/-- No operation in front of the launch allocates a buffer. -/
theorem hostOps0_fresh : (hostOps0 (F := Bits) : List (HloOp τ sig (Elt Bits))).Forall fun op => op.fresh = ∅ := by
  simp only [List.Forall]; repeat' constructor

abbrev hostOps0_W : List (Ref sig .tc) := [main_c, main_c_0, main_c_1, main_c_2, main_c_3, main_v0]

/-- The operations in front of the launch write the five tables and the reshaped keys only. -/
theorem hostOps0_writes : (hostOps0 (F := Bits) : List (HloOp τ sig (Elt Bits))).Forall fun op =>
    op.writes ⊆ (hostOps0_W.map (Proc.devRef (τ := τ) .tc)).toFinset :=
  StableHlo.forall_writes_sub_of_map rfl

set_option maxHeartbeats 4000000 in
/-- The entry function is the operations in front of the launch and then the launch itself. -/
theorem hmain : Pipeline.HMainP (Ix := Unit) (Name := ℕ) (U := UR sig nD τ) (Lvl := ℕ) (pcfgs (F := Bits)) 0 defs₀ Variants.none m (main (F := Bits)) (V m) :=
  Pipeline.hmainP_prefix (pcfgs (F := Bits)) 0 defs₀ Variants.none m main (hostOps0 (F := Bits)) hostOps0_sub hostOps0_fresh main_chain

/-- The operations in front of the launch leave argument 0 alone. -/
theorem V_main_arg0 (c : Dev nD) : V m c main_arg0 = m ((c : Thread nD τ).loc main_arg0) :=
  StableHlo.after_of_writes_sub (hostOps0 (F := Bits)) _ hostOps0_writes (by decide)
/-- The operations in front of the launch leave argument 1 alone. -/
theorem V_main_arg1 (c : Dev nD) : V m c main_arg1 = m ((c : Thread nD τ).loc main_arg1) :=
  StableHlo.after_of_writes_sub (hostOps0 (F := Bits)) _ hostOps0_writes (by decide)

abbrev crd (t : Fin (cfgA).N) : (cfgA).grid.Coords := (cfgA).grid.coords t

abbrev ms0_0 (t : Fin (cfgA).N) : Memref sig .tc .vmem S1x8x256x384 .bf16 := spec0_0.stage ((cfgA).slots t (0 : Fin 3))
abbrev hs0_0 (t : Fin (cfgA).N) : (ms0_0 t).IsWhole := hstage0_0 (((cfgA).slots t (0 : Fin 3)).cast nbuf0_0)
abbrev ms0_1 (t : Fin (cfgA).N) : Memref sig .tc .vmem S1x2048x384 .bf16 := spec0_1.stage ((cfgA).slots t (1 : Fin 3))
abbrev hs0_1 (t : Fin (cfgA).N) : (ms0_1 t).IsWhole := hstage0_1 (((cfgA).slots t (1 : Fin 3)).cast nbuf0_1)
abbrev ms0_2 (t : Fin (cfgA).N) : Memref sig .tc .vmem S1x8x256x256 .f32 := spec0_2.stage ((cfgA).slots t (2 : Fin 3))
abbrev hs0_2 (t : Fin (cfgA).N) : (ms0_2 t).IsWhole := hstage0_2 (((cfgA).slots t (2 : Fin 3)).cast nbuf0_2)

def iblk (ρ : Dev nD → PrngReg) (c : Dev nD) (w : Fin (cfgA).W) (t : Fin (cfgA).N) : (((cfgA).win w).xblock (crd t)).Idx → Elt Bits ((cfgA).win w).elt :=
  (((cfgA).win w).blk t).view.read (Elt Bits) (V m c (Pipeline.arrRef spec0 w))

abbrev P0_0 (t : Fin (cfgA).N) : Prop := (Scalar.cmpi .ne (Scalar.extui (Scalar.cmpi .eq (View.readAt (Elt Bits) (tbM0_2).view (Rect.unit (s := S80) (k0_off1 (crd t)) S1.size (k0_off1_inb (crd t))).toLoadRect (pinT_2) (Shape.Idx.first (numel1_S1.symm ▸ Nat.one_pos))) 1#32)) 0#32) = 1#1
abbrev P0_1 (t : Fin (cfgA).N) : Prop := (Scalar.cmpi .ne (Scalar.extui (Scalar.cmpi .eq (View.readAt (Elt Bits) (tbM0_4).view (Rect.unit (s := S80) (k0_off2 (crd t)) S1.size (k0_off2_inb (crd t))).toLoadRect (pinT_4) (Shape.Idx.first (numel1_S1.symm ▸ Nat.one_pos))) 0#32)) 0#32) = 1#1

def sfresh0_0 : ℕ → Bool
  | 0 => true
  | n + 1 => if h : n < (cfgA).N then (if P0_0 ⟨n, h⟩ then (if P0_1 ⟨n, h⟩ then false else false) else (if P0_1 ⟨n, h⟩ then sfresh0_0 n else sfresh0_0 n)) else true

def sfirst0_0 : ℕ := 0
def sfrTab0_0 : ℕ → Bool := fun n => decide (n ≤ sfirst0_0)

def sfresh0_1 : ℕ → Bool
  | 0 => true
  | n + 1 => if h : n < (cfgA).N then (if P0_0 ⟨n, h⟩ then (if P0_1 ⟨n, h⟩ then false else false) else (if P0_1 ⟨n, h⟩ then sfresh0_1 n else sfresh0_1 n)) else true

def sfirst0_1 : ℕ := 0
def sfrTab0_1 : ℕ → Bool := fun n => decide (n ≤ sfirst0_1)

def sfresh0_2 : ℕ → Bool
  | 0 => true
  | n + 1 => if h : n < (cfgA).N then (if P0_0 ⟨n, h⟩ then (if P0_1 ⟨n, h⟩ then false else false) else (if P0_1 ⟨n, h⟩ then sfresh0_2 n else sfresh0_2 n)) else true

def sfirst0_2 : ℕ := 0
def sfrTab0_2 : ℕ → Bool := fun n => decide (n ≤ sfirst0_2)

set_option backward.proofsInPublic true in
def frMask0_2 : ℕ := 0xffffffffffffffffffffffffffffffffffffffff

def frTab0_2 : ℕ → Bool
  | 0 => true
  | n + 1 => (frMask0_2).testBit n

end Cert.Kernel.Mla

end
-- ==== Proof.MlaBRuns.lean ====
module

public import proofs.«01_k».proof.Proof.Gen.Kernel.Skeleton
public import proofs.«01_k».proof.Proof.MlaBTables

@[expose] public section

set_option maxRecDepth 16384
set_option Elab.async false

noncomputable section

namespace Cert.Kernel.Mla

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev VO0_2 : View sig .tc .vmem S1x8x256x256 .f32 := (Memref.whole cc0_stg2_0 : Memref sig .tc .vmem S1x8x256x256 .f32).view

set_option backward.proofsInPublic true in
set_option maxHeartbeats 8000000 in
noncomputable def kernelRun0_A (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Bits .i32)) (T1 : (S80.Idx → Elt Bits .i32)) (T2 : (S80.Idx → Elt Bits .i32)) (T3 : (S80.Idx → Elt Bits .i32)) (T4 : (S80.Idx → Elt Bits .i32))
     (x0 : (S1x8x256x384.Idx → Elt Bits .bf16)) (x1 : (S1x2048x384.Idx → Elt Bits .bf16)) (hc0 : (Scalar.cmpi .ne (Scalar.extui (Scalar.cmpi .eq (View.readAt (Elt Bits) (tbM0_2).view (Rect.unit (s := S80) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Bits) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S80) (k0_off5 i) S1.size (k0_off5_inb i)).toLoadRect T3 (Shape.Idx.first (numel1_S1.symm ▸ Nat.one_pos))) = 1#1) :
    Σ' (out0 : List (View.Piece (Elt Bits) S1x8x256x256 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_flash_dk384 i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 scM0_0 (Memref.isWhole_whole _) scM0_1 (Memref.isWhole_whole _) scM0_2 (Memref.isWhole_whole _)) K } :=
  ⟨_, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_flash_dk384_eq_skeleton]; unfold cc0_flash_dk384_skel
    iintro ⟨H0, H1, HT0, HT1, HT2, HT3, HT4, ⟨%d2, %f2, -, HO2⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [HT0]; · iexact HT0
    isplitl [HT1]; · iexact HT1
    isplitl [HT2]; · iexact HT2
    isplitl [HT3]; · iexact HT3
    isplitl [HT4]; · iexact HT4
    isplitl [HO2]; · iexists _; iexact HO2
    isplitl [HS0]; · iexact HS0
    isplitl [HS1]; · iexact HS1
    iexact HS2⟩

/-- At a block row's first and last point the stores cover the whole output block. -/
theorem cover0_A_2 (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Bits .i32)) (T1 : (S80.Idx → Elt Bits .i32)) (T2 : (S80.Idx → Elt Bits .i32)) (T3 : (S80.Idx → Elt Bits .i32)) (T4 : (S80.Idx → Elt Bits .i32))
     (x0 : (S1x8x256x384.Idx → Elt Bits .bf16)) (x1 : (S1x2048x384.Idx → Elt Bits .bf16)) (hc0 : (Scalar.cmpi .ne (Scalar.extui (Scalar.cmpi .eq (View.readAt (Elt Bits) (tbM0_2).view (Rect.unit (s := S80) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Bits) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S80) (k0_off5 i) S1.size (k0_off5_inb i)).toLoadRect T3 (Shape.Idx.first (numel1_S1.symm ▸ Nat.one_pos))) = 1#1) (y : S1x8x256x256.Idx) :
    ∃ pc ∈ (kernelRun0_A c i arg7 harg7 arg8 harg8 arg9 harg9 T0 T1 T2 T3 T4 x0 x1 hc0 hc1 hc2 k0_h4).1, y ∈ pc.1.set :=
  View.cover_of_tiledL (kernelRun0_A c i arg7 harg7 arg8 harg8 arg9 harg9 T0 T1 T2 T3 T4 x0 x1 hc0 hc1 hc2 k0_h4).1 S1x2x256x256.size (by sl_kernel_rfl) y

def out0_A_2 (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Bits .i32)) (T1 : (S80.Idx → Elt Bits .i32)) (T2 : (S80.Idx → Elt Bits .i32)) (T3 : (S80.Idx → Elt Bits .i32)) (T4 : (S80.Idx → Elt Bits .i32))
     (x0 : (S1x8x256x384.Idx → Elt Bits .bf16)) (x1 : (S1x2048x384.Idx → Elt Bits .bf16)) (hc0 : (Scalar.cmpi .ne (Scalar.extui (Scalar.cmpi .eq (View.readAt (Elt Bits) (tbM0_2).view (Rect.unit (s := S80) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Bits) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S80) (k0_off5 i) S1.size (k0_off5_inb i)).toLoadRect T3 (Shape.Idx.first (numel1_S1.symm ▸ Nat.one_pos))) = 1#1) : (S1x8x256x256.Idx → Elt Bits .f32) :=
  VO0_2.read (Elt Bits) (VO0_2.writes (Elt Bits) VO0_2.junk (kernelRun0_A c i arg7 harg7 arg8 harg8 arg9 harg9 T0 T1 T2 T3 T4 x0 x1 hc0 hc1 hc2 k0_h4).1)

set_option backward.proofsInPublic true in
set_option maxHeartbeats 8000000 in
noncomputable def kernelRun0_B (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Bits .i32)) (T1 : (S80.Idx → Elt Bits .i32)) (T2 : (S80.Idx → Elt Bits .i32)) (T3 : (S80.Idx → Elt Bits .i32)) (T4 : (S80.Idx → Elt Bits .i32))
     (x0 : (S1x8x256x384.Idx → Elt Bits .bf16)) (x1 : (S1x2048x384.Idx → Elt Bits .bf16)) (hc0 : (Scalar.cmpi .ne (Scalar.extui (Scalar.cmpi .eq (View.readAt (Elt Bits) (tbM0_2).view (Rect.unit (s := S80) (k0_off1 i) S1.size (k0_off1_inb i)).toLoadRect T2 (Shape.Idx.first (numel1_S1.symm ▸ Nat.one_pos))) 1#32)) 0#32) = 1#1) (hc1 : (Scalar.cmpi .ne (Scalar.extui (Scalar.cmpi .eq (View.readAt (Elt Bits) (tbM0_4).view (Rect.unit (s := S80) (k0_off2 i) S1.size (k0_off2_inb i)).toLoadRect T4 (Shape.Idx.first (numel1_S1.symm ▸ Nat.one_pos))) 0#32)) 0#32) = 1#1) (hc2 : ¬((Scalar.cmpi .ne (Scalar.extui (Scalar.cmpi .eq (View.readAt (Elt Bits) (tbM0_4).view (Rect.unit (s := S80) (k0_off3 i) S1.size (k0_off3_inb i)).toLoadRect T4 (Shape.Idx.first (numel1_S1.symm ▸ Nat.one_pos))) 1#32)) 0#32) = 1#1)) (k0_h4 : ¬(k0_cond4 (View.readAt (Elt Bits) (tbM0_3).view (Rect.unit (s := S80) (k0_off5 i) S1.size (k0_off5_inb i)).toLoadRect T3 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y2 : (S1x8x256x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ owns (c : Thread nD τ) arg9 fullShare y2
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ owns (c : Thread nD τ) arg9 fullShare y2
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_flash_dk384 i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 scM0_0 (Memref.isWhole_whole _) scM0_1 (Memref.isWhole_whole _) scM0_2 (Memref.isWhole_whole _)) K } :=
  ⟨_, _, _, fun (y2 : (S1x8x256x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_flash_dk384_eq_skeleton]; unfold cc0_flash_dk384_skel
    iintro ⟨H0, H1, HT0, HT1, HT2, HT3, HT4, ⟨%f2, %hf2, HO2⟩, HS0, HS1, HS2, Hk⟩
    obtain rfl := harg9.eq_unread hf2
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [HT0]; · iexact HT0
    isplitl [HT1]; · iexact HT1
    isplitl [HT2]; · iexact HT2
    isplitl [HT3]; · iexact HT3
    isplitl [HT4]; · iexact HT4
    isplitl [HO2]
    · iexists _; isplitr; · ipureintro; exact harg9.read_unread _
      iexact HO2
    isplitl [HS0]; · iexact HS0
    isplitl [HS1]; · iexact HS1
    iexact HS2⟩

set_option backward.proofsInPublic true in
set_option maxHeartbeats 8000000 in
noncomputable def kernelRun0_C (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Bits .i32)) (T1 : (S80.Idx → Elt Bits .i32)) (T2 : (S80.Idx → Elt Bits .i32)) (T3 : (S80.Idx → Elt Bits .i32)) (T4 : (S80.Idx → Elt Bits .i32))
     (x0 : (S1x8x256x384.Idx → Elt Bits .bf16)) (x1 : (S1x2048x384.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_2).view (Rect.unit (s := S80) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Bits) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S80) (k0_off5 i) S1.size (k0_off5_inb i)).toLoadRect T3 (Shape.Idx.first (numel1_S1.symm ▸ Nat.one_pos))) = 1#1) :
    Σ' (out0 : List (View.Piece (Elt Bits) S1x8x256x256 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_flash_dk384 i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 scM0_0 (Memref.isWhole_whole _) scM0_1 (Memref.isWhole_whole _) scM0_2 (Memref.isWhole_whole _)) K } :=
  ⟨_, _, _, _, fun K => by
    unfold owns
    rw [cc0_flash_dk384_eq_skeleton]; unfold cc0_flash_dk384_skel
    iintro ⟨H0, H1, HT0, HT1, HT2, HT3, HT4, ⟨%d2, %f2, -, HO2⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [HT0]; · iexact HT0
    isplitl [HT1]; · iexact HT1
    isplitl [HT2]; · iexact HT2
    isplitl [HT3]; · iexact HT3
    isplitl [HT4]; · iexact HT4
    isplitl [HO2]; · iexists _; iexact HO2
    isplitl [HS0]; · iexact HS0
    isplitl [HS1]; · iexact HS1
    iexact HS2⟩

/-- At a last point that is not a first one the stores cover the whole output block. -/
theorem cover0_C_2 (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Bits .i32)) (T1 : (S80.Idx → Elt Bits .i32)) (T2 : (S80.Idx → Elt Bits .i32)) (T3 : (S80.Idx → Elt Bits .i32)) (T4 : (S80.Idx → Elt Bits .i32))
     (x0 : (S1x8x256x384.Idx → Elt Bits .bf16)) (x1 : (S1x2048x384.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_2).view (Rect.unit (s := S80) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Bits) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S80) (k0_off5 i) S1.size (k0_off5_inb i)).toLoadRect T3 (Shape.Idx.first (numel1_S1.symm ▸ Nat.one_pos))) = 1#1) (y : S1x8x256x256.Idx) :
    ∃ pc ∈ (kernelRun0_C c i arg7 harg7 arg8 harg8 arg9 harg9 T0 T1 T2 T3 T4 x0 x1 xa0 xa1 xa2 hc0 hc1 hc2 k0_h4).1, y ∈ pc.1.set :=
  View.cover_of_tiledL (kernelRun0_C c i arg7 harg7 arg8 harg8 arg9 harg9 T0 T1 T2 T3 T4 x0 x1 xa0 xa1 xa2 hc0 hc1 hc2 k0_h4).1 S1x2x256x256.size (by sl_kernel_rfl) y

def out0_C_2 (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Bits .i32)) (T1 : (S80.Idx → Elt Bits .i32)) (T2 : (S80.Idx → Elt Bits .i32)) (T3 : (S80.Idx → Elt Bits .i32)) (T4 : (S80.Idx → Elt Bits .i32))
     (x0 : (S1x8x256x384.Idx → Elt Bits .bf16)) (x1 : (S1x2048x384.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_2).view (Rect.unit (s := S80) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Bits) (tbM0_4).view (Rect.unit (s := S80) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S80) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S80) (k0_off5 i) S1.size (k0_off5_inb i)).toLoadRect T3 (Shape.Idx.first (numel1_S1.symm ▸ Nat.one_pos))) = 1#1) : (S1x8x256x256.Idx → Elt Bits .f32) :=
  VO0_2.read (Elt Bits) (VO0_2.writes (Elt Bits) VO0_2.junk (kernelRun0_C c i arg7 harg7 arg8 harg8 arg9 harg9 T0 T1 T2 T3 T4 x0 x1 xa0 xa1 xa2 hc0 hc1 hc2 k0_h4).1)

set_option backward.proofsInPublic true in
set_option maxHeartbeats 8000000 in
noncomputable def kernelRun0_D (c : Dev nD) (i : grid0.Coords) (arg7 : Memref sig .tc .vmem S1x8x256x384 .bf16) (harg7 : arg7.IsWhole) (arg8 : Memref sig .tc .vmem S1x2048x384 .bf16) (harg8 : arg8.IsWhole) (arg9 : Memref sig .tc .vmem S1x8x256x256 .f32) (harg9 : arg9.IsWhole) (T0 : (S80.Idx → Elt Bits .i32)) (T1 : (S80.Idx → Elt Bits .i32)) (T2 : (S80.Idx → Elt Bits .i32)) (T3 : (S80.Idx → Elt Bits .i32)) (T4 : (S80.Idx → Elt Bits .i32))
     (x0 : (S1x8x256x384.Idx → Elt Bits .bf16)) (x1 : (S1x2048x384.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_2).view (Rect.unit (s := S80) (k0_off1 i) S1.size (k0_off1_inb i)).toLoadRect T2 (Shape.Idx.first (numel1_S1.symm ▸ Nat.one_pos))) 1#32)) 0#32) = 1#1)) (hc1 : (Scalar.cmpi .ne (Scalar.extui (Scalar.cmpi .eq (View.readAt (Elt Bits) (tbM0_4).view (Rect.unit (s := S80) (k0_off2 i) S1.size (k0_off2_inb i)).toLoadRect T4 (Shape.Idx.first (numel1_S1.symm ▸ Nat.one_pos))) 0#32)) 0#32) = 1#1) (hc2 : ¬((Scalar.cmpi .ne (Scalar.extui (Scalar.cmpi .eq (View.readAt (Elt Bits) (tbM0_4).view (Rect.unit (s := S80) (k0_off3 i) S1.size (k0_off3_inb i)).toLoadRect T4 (Shape.Idx.first (numel1_S1.symm ▸ Nat.one_pos))) 1#32)) 0#32) = 1#1)) (k0_h4 : ¬(k0_cond4 (View.readAt (Elt Bits) (tbM0_3).view (Rect.unit (s := S80) (k0_off5 i) S1.size (k0_off5_inb i)).toLoadRect T3 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y2 : (S1x8x256x256.Idx → Elt Bits .f32)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ owns (c : Thread nD τ) arg9 fullShare y2
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ owns (c : Thread nD τ) arg9 fullShare y2
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_flash_dk384 i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 scM0_0 (Memref.isWhole_whole _) scM0_1 (Memref.isWhole_whole _) scM0_2 (Memref.isWhole_whole _)) K } :=
  ⟨_, _, _, fun (y2 : (S1x8x256x256.Idx → Elt Bits .f32)) K => by
    unfold owns
    rw [cc0_flash_dk384_eq_skeleton]; unfold cc0_flash_dk384_skel
    iintro ⟨H0, H1, HT0, HT1, HT2, HT3, HT4, ⟨%f2, %hf2, HO2⟩, HS0, HS1, HS2, Hk⟩
    obtain rfl := harg9.eq_unread hf2
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [HT0]; · iexact HT0
    isplitl [HT1]; · iexact HT1
    isplitl [HT2]; · iexact HT2
    isplitl [HT3]; · iexact HT3
    isplitl [HT4]; · iexact HT4
    isplitl [HO2]
    · iexists _; isplitr; · ipureintro; exact harg9.read_unread _
      iexact HO2
    isplitl [HS0]; · iexact HS0
    isplitl [HS1]; · iexact HS1
    iexact HS2⟩

end Cert.Kernel.Mla

end
-- ==== Proof.MlaBFacts.lean ====
module

public import proofs.«01_k».proof.Proof.MlaBTables

@[expose] public section

set_option maxRecDepth 16384
set_option Elab.async false

noncomputable section

namespace Cert.Kernel.Mla

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

abbrev FactsAt (t : Fin (cfgA).N) : Prop :=
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (sfrTab0_2 (t.val + 1) = (if P0_0 t then (if P0_1 t then false else false) else (if P0_1 t then sfrTab0_2 t.val else sfrTab0_2 t.val)))
  ∧ (frTab0_2 (t.val + 1) = (((cfgA).win (2 : Fin 3)).flush t || ((cfgA).idle (2 : Fin 3) ((cfgA).grid.coords t) && frTab0_2 t.val)))
  ∧ (P0_0 t → ¬P0_1 t → ((Scalar.cmpi .ne (Scalar.extui (Scalar.cmpi .eq (View.readAt (Elt Bits) (tbM0_2).view (Rect.unit (s := S80) (k0_off1 (crd t)) S1.size (k0_off1_inb (crd t))).toLoadRect (pinT_2) (Shape.Idx.first (numel1_S1.symm ▸ Nat.one_pos))) 1#32)) 0#32) = 1#1) ∧ ((¬((Scalar.cmpi .ne (Scalar.extui (Scalar.cmpi .eq (View.readAt (Elt Bits) (tbM0_4).view (Rect.unit (s := S80) (k0_off2 (crd t)) S1.size (k0_off2_inb (crd t))).toLoadRect (pinT_4) (Shape.Idx.first (numel1_S1.symm ▸ Nat.one_pos))) 0#32)) 0#32) = 1#1)) ∧ (((Scalar.cmpi .ne (Scalar.extui (Scalar.cmpi .eq (View.readAt (Elt Bits) (tbM0_4).view (Rect.unit (s := S80) (k0_off3 (crd t)) S1.size (k0_off3_inb (crd t))).toLoadRect (pinT_4) (Shape.Idx.first (numel1_S1.symm ▸ Nat.one_pos))) 1#32)) 0#32) = 1#1) ∧ ((k0_cond4 (View.readAt (Elt Bits) (tbM0_3).view (Rect.unit (s := S80) (k0_off5 (crd t)) S1.size (k0_off5_inb (crd t))).toLoadRect (pinT_3) (Shape.Idx.first (numel1_S1.symm ▸ Nat.one_pos))) = 1#1) ∧ (True)))))
  ∧ (P0_0 t → ¬P0_1 t → (cfgA).idle (2 : Fin 3) ((cfgA).grid.coords t) = false ∧ ((cfgA).win (2 : Fin 3)).flush t = true ∧ frTab0_2 t.val = true ∧ sfrTab0_0 (t.val + 1) = false ∧ sfrTab0_1 (t.val + 1) = false ∧ sfrTab0_2 (t.val + 1) = false)
  ∧ (P0_0 t → P0_1 t → ((Scalar.cmpi .ne (Scalar.extui (Scalar.cmpi .eq (View.readAt (Elt Bits) (tbM0_2).view (Rect.unit (s := S80) (k0_off1 (crd t)) S1.size (k0_off1_inb (crd t))).toLoadRect (pinT_2) (Shape.Idx.first (numel1_S1.symm ▸ Nat.one_pos))) 1#32)) 0#32) = 1#1) ∧ (((Scalar.cmpi .ne (Scalar.extui (Scalar.cmpi .eq (View.readAt (Elt Bits) (tbM0_4).view (Rect.unit (s := S80) (k0_off2 (crd t)) S1.size (k0_off2_inb (crd t))).toLoadRect (pinT_4) (Shape.Idx.first (numel1_S1.symm ▸ Nat.one_pos))) 0#32)) 0#32) = 1#1) ∧ ((¬((Scalar.cmpi .ne (Scalar.extui (Scalar.cmpi .eq (View.readAt (Elt Bits) (tbM0_4).view (Rect.unit (s := S80) (k0_off3 (crd t)) S1.size (k0_off3_inb (crd t))).toLoadRect (pinT_4) (Shape.Idx.first (numel1_S1.symm ▸ Nat.one_pos))) 1#32)) 0#32) = 1#1)) ∧ ((¬(k0_cond4 (View.readAt (Elt Bits) (tbM0_3).view (Rect.unit (s := S80) (k0_off5 (crd t)) S1.size (k0_off5_inb (crd t))).toLoadRect (pinT_3) (Shape.Idx.first (numel1_S1.symm ▸ Nat.one_pos))) = 1#1)) ∧ (True)))))
  ∧ (P0_0 t → P0_1 t → (cfgA).idle (2 : Fin 3) ((cfgA).grid.coords t) = true ∧ ((cfgA).win (2 : Fin 3)).flush t = false ∧ frTab0_2 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → ¬P0_1 t → (¬((Scalar.cmpi .ne (Scalar.extui (Scalar.cmpi .eq (View.readAt (Elt Bits) (tbM0_2).view (Rect.unit (s := S80) (k0_off1 (crd t)) S1.size (k0_off1_inb (crd t))).toLoadRect (pinT_2) (Shape.Idx.first (numel1_S1.symm ▸ Nat.one_pos))) 1#32)) 0#32) = 1#1)) ∧ ((¬((Scalar.cmpi .ne (Scalar.extui (Scalar.cmpi .eq (View.readAt (Elt Bits) (tbM0_4).view (Rect.unit (s := S80) (k0_off2 (crd t)) S1.size (k0_off2_inb (crd t))).toLoadRect (pinT_4) (Shape.Idx.first (numel1_S1.symm ▸ Nat.one_pos))) 0#32)) 0#32) = 1#1)) ∧ (((Scalar.cmpi .ne (Scalar.extui (Scalar.cmpi .eq (View.readAt (Elt Bits) (tbM0_4).view (Rect.unit (s := S80) (k0_off3 (crd t)) S1.size (k0_off3_inb (crd t))).toLoadRect (pinT_4) (Shape.Idx.first (numel1_S1.symm ▸ Nat.one_pos))) 1#32)) 0#32) = 1#1) ∧ ((k0_cond4 (View.readAt (Elt Bits) (tbM0_3).view (Rect.unit (s := S80) (k0_off5 (crd t)) S1.size (k0_off5_inb (crd t))).toLoadRect (pinT_3) (Shape.Idx.first (numel1_S1.symm ▸ Nat.one_pos))) = 1#1) ∧ (True)))))
  ∧ (¬P0_0 t → ¬P0_1 t → (cfgA).idle (2 : Fin 3) ((cfgA).grid.coords t) = false ∧ ((cfgA).win (2 : Fin 3)).flush t = true ∧ frTab0_2 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → P0_1 t → (¬((Scalar.cmpi .ne (Scalar.extui (Scalar.cmpi .eq (View.readAt (Elt Bits) (tbM0_2).view (Rect.unit (s := S80) (k0_off1 (crd t)) S1.size (k0_off1_inb (crd t))).toLoadRect (pinT_2) (Shape.Idx.first (numel1_S1.symm ▸ Nat.one_pos))) 1#32)) 0#32) = 1#1)) ∧ (((Scalar.cmpi .ne (Scalar.extui (Scalar.cmpi .eq (View.readAt (Elt Bits) (tbM0_4).view (Rect.unit (s := S80) (k0_off2 (crd t)) S1.size (k0_off2_inb (crd t))).toLoadRect (pinT_4) (Shape.Idx.first (numel1_S1.symm ▸ Nat.one_pos))) 0#32)) 0#32) = 1#1) ∧ ((¬((Scalar.cmpi .ne (Scalar.extui (Scalar.cmpi .eq (View.readAt (Elt Bits) (tbM0_4).view (Rect.unit (s := S80) (k0_off3 (crd t)) S1.size (k0_off3_inb (crd t))).toLoadRect (pinT_4) (Shape.Idx.first (numel1_S1.symm ▸ Nat.one_pos))) 1#32)) 0#32) = 1#1)) ∧ ((¬(k0_cond4 (View.readAt (Elt Bits) (tbM0_3).view (Rect.unit (s := S80) (k0_off5 (crd t)) S1.size (k0_off5_inb (crd t))).toLoadRect (pinT_3) (Shape.Idx.first (numel1_S1.symm ▸ Nat.one_pos))) = 1#1)) ∧ (True)))))
  ∧ (¬P0_0 t → P0_1 t → (cfgA).idle (2 : Fin 3) ((cfgA).grid.coords t) = true ∧ ((cfgA).win (2 : Fin 3)).flush t = false ∧ frTab0_2 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)

set_option synthInstance.maxSize 65536 in
instance FactsAt.dec (t : Fin (cfgA).N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

/-- The facts of the schedule at these points, each decided from the tables. -/
theorem allFacts_0_0 : ∀ t : Fin (cfgA).N, 0 ≤ t.val → t.val < 20 → FactsAt t := by decide +kernel
/-- The facts of the schedule at these points, each decided from the tables. -/
theorem allFacts_0_1 : ∀ t : Fin (cfgA).N, 20 ≤ t.val → t.val < 40 → FactsAt t := by decide +kernel
/-- The facts of the schedule at these points, each decided from the tables. -/
theorem allFacts_0_2 : ∀ t : Fin (cfgA).N, 40 ≤ t.val → t.val < 60 → FactsAt t := by decide +kernel
/-- The facts of the schedule at these points, each decided from the tables. -/
theorem allFacts_0_3 : ∀ t : Fin (cfgA).N, 60 ≤ t.val → t.val < 80 → FactsAt t := by decide +kernel
/-- The facts of the schedule at these points, each decided from the tables. -/
theorem allFacts_0_4 : ∀ t : Fin (cfgA).N, 80 ≤ t.val → t.val < 100 → FactsAt t := by decide +kernel
/-- The facts of the schedule at these points, each decided from the tables. -/
theorem allFacts_0_5 : ∀ t : Fin (cfgA).N, 100 ≤ t.val → t.val < 120 → FactsAt t := by decide +kernel
/-- The facts of the schedule at these points, each decided from the tables. -/
theorem allFacts_0_6 : ∀ t : Fin (cfgA).N, 120 ≤ t.val → t.val < 140 → FactsAt t := by decide +kernel
/-- The facts of the schedule at these points, each decided from the tables. -/
theorem allFacts_0_7 : ∀ t : Fin (cfgA).N, 140 ≤ t.val → t.val < 160 → FactsAt t := by decide +kernel
/-- The facts of the schedule at every point. -/
theorem allFacts : ∀ t : Fin (cfgA).N, FactsAt t := fun t => by
  have h0 : 0 ≤ t.val := Nat.zero_le _
  rcases Nat.lt_or_ge t.val 20 with h1 | h1; · exact allFacts_0_0 t h0 h1
  rcases Nat.lt_or_ge t.val 40 with h2 | h2; · exact allFacts_0_1 t h1 h2
  rcases Nat.lt_or_ge t.val 60 with h3 | h3; · exact allFacts_0_2 t h2 h3
  rcases Nat.lt_or_ge t.val 80 with h4 | h4; · exact allFacts_0_3 t h3 h4
  rcases Nat.lt_or_ge t.val 100 with h5 | h5; · exact allFacts_0_4 t h4 h5
  rcases Nat.lt_or_ge t.val 120 with h6 | h6; · exact allFacts_0_5 t h5 h6
  rcases Nat.lt_or_ge t.val 140 with h7 | h7; · exact allFacts_0_6 t h6 h7
  exact allFacts_0_7 t h7 t.isLt

end Cert.Kernel.Mla

end
-- ==== Proof.MlaRef.lean ====
module

public import proofs.«01_k».proof.Defs
public import Idealize.ShloMosaic.Lib.StableHlo.RunHlo
public import Idealize.ShloMosaic.Lib.Claim
public import Idealize.ShloMosaic.Adequacy
public import Idealize.ShloMosaic.Init

@[expose] public section

noncomputable section

namespace Cert.ReferenceIdeal.Mla

open Idealize.ShloMosaic Idealize.ShloMosaic.TcCoe Idealize.ShloMosaic.StableHlo Idealize.SL.Sem

/-- The shape facts the reference states. -/
theorem facts : Cert.ReferenceIdeal.Facts where
  slices_S2x8x8192x384_S2x8x8192x256_0_0_0_0 := by decide
  bitsLt_bf16_f32 := by decide
  slices_S2x8x8192x384_S2x8x8192x128_0_0_0_256 := by decide
  shapeCasts_S16384x384_S2x8192x384 := by decide
  slices_S2x8192x384_S2x8192x256_0_0_0 := by decide
  slices_S2x8192x384_S2x8192x128_0_0_256 := by decide
  bcast_S8192_S1x1x1x8192_3 := by decide
  bcast_S8192_S1x1x8192x1_2 := by decide
  bcast_S1x1x1x8192_S1x1x8192x8192_0_1_2_3 := by decide
  bcast_S1x1x8192x1_S1x1x8192x8192_0_1_2_3 := by decide
  bcast_S1x1x8192x8192_S2x8x8192x8192_0_1_2_3 := by decide
  bcast_S_S2x8x8192x8192 := by decide
  reducesTo_S2x8x8192x8192_S2x8x8192_d3 := by decide
  h_S_ := by decide
  bcast_S_S2x8x8192 := by decide
  bcast_S2x8x8192_S2x8x8192x1_0_1_2 := by decide
  bcast_S2x8x8192x1_S2x8x8192x8192_0_1_2_3 := by decide
  dot_S2x8x8192x256_S2x8192x256_S2x8x8192x8192_3_2_12_1_0_0_wf := by decide
  dot_S2x8x8192x128_S2x8192x128_S2x8x8192x8192_3_2_12_1_0_0_wf := by decide
  dot_S2x8x8192x8192_S2x8192x256_S2x8x8192x256_3_1_12_2_0_0_wf := by decide

/-- The shape facts the precondition states. -/
theorem preFacts : Cert.Pre_finite.Facts where
  bitsLt_bf16_f32 := by decide
  bcast_S_S2x8x8192x384 := by decide
  reducesTo_S2x8x8192x384_S_d0_1_2_3 := by decide
  h_S_ := by decide
  bcast_S_S16384x384 := by decide
  reducesTo_S16384x384_S_d0_1 := by decide

attribute [local instance] facts

/-- The reference leaves its arguments alone and every counter at zero. -/
theorem frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
          r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
          ∧ r.2.sem = fun _ => 0) := by
  hlo_run
  · exact fun _ => ⟨trivial, trivial⟩
  · exact sem_eq_zero_of_no_sems (sig := Cert.ReferenceIdeal.sig) (by decide) _

end Cert.ReferenceIdeal.Mla

end
-- ==== Proof.MlaMath.lean ====
module

public import Idealize.ShloMosaic.Lib.IdealHost
public import Idealize.ShloMosaic.Lib.Pointwise

@[expose] public section

noncomputable section

namespace Cert.MlaMath

open Idealize.ShloMosaic

/-! ## A softmax taken in blocks -/

/-- The weight of a score under a maximum: nothing for a masked key. -/
def w (s : EReal) (M : ℝ) : ℝ := if s = ⊥ then 0 else Real.exp (s.toReal - M)

/-- A weight is nonnegative. -/
theorem w_nonneg (s : EReal) (M : ℝ) : 0 ≤ w s M := by
  unfold w; split
  · exact le_rfl
  · exact (Real.exp_pos _).le

/-- An unmasked key's weight is positive. -/
theorem w_pos {s : EReal} (h : s ≠ ⊥) (M : ℝ) : 0 < w s M := by
  unfold w; rw [if_neg h]; exact Real.exp_pos _

/-- Changing the maximum rescales a weight. -/
theorem w_rescale (s : EReal) (M M' : ℝ) : Real.exp (M - M') * w s M = w s M' := by
  unfold w; split
  · rw [mul_zero]
  · rw [← Real.exp_add]; congr 1; ring

/-- The exponential of a score less the maximum is its weight. -/
theorem exp_sub {s : EReal} (h : s ≠ ⊤) (M : ℝ) : Ideal.exp (s - (M : EReal)) = ((w s M : ℝ) : EReal) := by
  induction s using EReal.rec with
  | bot => rw [EReal.bot_sub]; simp [w]
  | top => exact absurd rfl h
  | coe x => rw [← EReal.coe_sub, Ideal.exp_coe]; simp [w]

/-- A sum of reals is the real sum. -/
theorem coe_sum {ι : Type*} (t : Finset ι) (f : ι → ℝ) : (∑ i ∈ t, ((f i : ℝ) : EReal)) = ((∑ i ∈ t, f i : ℝ) : EReal) := by
  classical
  induction t using Finset.induction_on with
  | empty => simp
  | insert a s ha ih => rw [Finset.sum_insert ha, Finset.sum_insert ha, ih, EReal.coe_add]

/-- The largest of values below ⊤, none of them required, is below ⊤. -/
theorem fold_max_ne_top {ι : Type*} (t : Finset ι) (f : ι → EReal) (h : ∀ i ∈ t, f i ≠ ⊤) : t.fold max ⊥ f ≠ ⊤ := by
  classical
  induction t using Finset.induction_on with
  | empty => simp
  | insert a s ha ih =>
    rw [Finset.fold_insert ha]
    have h1 := h a (Finset.mem_insert_self a s)
    have h2 := ih fun i hi => h i (Finset.mem_insert_of_mem hi)
    rcases max_choice (f a) (s.fold max ⊥ f) with e | e <;> rw [e] <;> assumption

/-- A value above ⊥ keeps the largest above ⊥. -/
theorem fold_max_ne_bot {ι : Type*} (t : Finset ι) (f : ι → EReal) (i : ι) (hi : i ∈ t) (h : f i ≠ ⊥) : t.fold max ⊥ f ≠ ⊥ := by
  intro e
  have : f i ≤ t.fold max ⊥ f := (Finset.le_fold_max _).2 (.inr ⟨i, hi, le_rfl⟩)
  rw [e] at this
  exact h (le_bot_iff.1 this)

/-- A value that is neither infinity is a real. -/
theorem real_of {x : EReal} (h1 : x ≠ ⊤) (h2 : x ≠ ⊥) : ∃ M : ℝ, x = (M : EReal) := ⟨x.toReal, (EReal.coe_toReal h1 h2).symm⟩

/-- What a row holds when its first `n` keys are summed: a real maximum, the sum of the weights under it, and the weighted sums of the values. -/
def Inv {D : Type} (S : ℕ → EReal) (v : ℕ → D → ℝ) (n : ℕ) (m l : EReal) (a : D → EReal) : Prop :=
  ∃ M : ℝ, m = (M : EReal) ∧ l = ((∑ k ∈ Finset.range n, w (S k) M : ℝ) : EReal) ∧
    ∀ d, a d = ((∑ k ∈ Finset.range n, w (S k) M * v k d : ℝ) : EReal)

/-- What a row holds before a block: nothing at the start, the invariant later. -/
def Pre {D : Type} (S : ℕ → EReal) (v : ℕ → D → ℝ) (n : ℕ) (m l : EReal) (a : D → EReal) : Prop :=
  (n = 0 ∧ m = ⊥ ∧ l = 0 ∧ ∀ d, a d = 0) ∨ Inv S v n m l a

/-- A block of keys carries the invariant on. -/
theorem step {D : Type} {B : ℕ} (S : ℕ → EReal) (v : ℕ → D → ℝ) (n : ℕ) (m l : EReal) (a : D → EReal)
    (s : Fin B → EReal) (hs : ∀ j : Fin B, s j = S (n + j.val)) (x : Fin B → D → EReal) (hx : ∀ j d, x j d = ((v (n + j.val) d : ℝ) : EReal))
    (hT : ∀ k, S k ≠ ⊤) (hB : n = 0 → ∃ j : Fin B, S j.val ≠ ⊥) (h : Pre S v n m l a) (m' : EReal) (hm' : m' = max m (Finset.univ.fold max ⊥ s)) :
    Inv S v (n + B) m' (Ideal.exp (m - m') * l + ∑ j, Ideal.exp (s j - m'))
      (fun d => Ideal.exp (m - m') * a d + ∑ j, Ideal.exp (s j - m') * x j d) := by
  have hsT : ∀ j, s j ≠ ⊤ := fun j => by rw [hs]; exact hT _
  have hfT : Finset.univ.fold max ⊥ s ≠ ⊤ := fold_max_ne_top _ _ fun j _ => hsT j
  have hreal : ∃ M : ℝ, m' = (M : EReal) := by
    rcases h with ⟨h0, hm, -, -⟩ | ⟨M, hm, -, -⟩
    · obtain ⟨j, hj⟩ := hB h0
      have hb : Finset.univ.fold max ⊥ s ≠ ⊥ := fold_max_ne_bot _ _ j (Finset.mem_univ _) (by rw [hs, h0, Nat.zero_add]; exact hj)
      rw [hm, max_eq_right bot_le] at hm'
      exact hm' ▸ real_of hfT hb
    · refine hm' ▸ real_of ?_ ?_
      · rcases max_choice m (Finset.univ.fold max ⊥ s) with e | e <;> rw [e]
        · rw [hm]; exact EReal.coe_ne_top _
        · exact hfT
      · intro e
        have := le_max_left m (Finset.univ.fold max ⊥ s)
        rw [e, hm] at this
        exact EReal.coe_ne_bot _ (le_bot_iff.1 this)
  obtain ⟨M', rfl'⟩ := hreal
  have he : ∀ j, Ideal.exp (s j - m') = ((w (S (n + j.val)) M' : ℝ) : EReal) := fun j => by
    rw [rfl', exp_sub (hsT j), hs]
  have hsum : ∑ j, Ideal.exp (s j - m') = ((∑ j ∈ Finset.range B, w (S (n + j)) M' : ℝ) : EReal) := by
    rw [Finset.sum_congr rfl fun j _ => he j, coe_sum, Finset.sum_range]
  have hsum2 : ∀ d, ∑ j, Ideal.exp (s j - m') * x j d = ((∑ j ∈ Finset.range B, w (S (n + j)) M' * v (n + j) d : ℝ) : EReal) := fun d => by
    rw [Finset.sum_congr rfl fun j _ => by rw [he j, hx, ← EReal.coe_mul], coe_sum, Finset.sum_range]
  refine ⟨M', rfl', ?_, fun d => ?_⟩
  · rw [hsum, Finset.sum_range_add, EReal.coe_add]
    congr 1
    rcases h with ⟨h0, -, hl, -⟩ | ⟨M, hm, hl, -⟩
    · rw [hl, h0]; simp
    · rw [hl, hm, rfl', exp_sub (EReal.coe_ne_top _), ← EReal.coe_mul, Finset.mul_sum]
      congr 1
      refine Finset.sum_congr rfl fun k _ => ?_
      rw [show w (M : EReal) M' = Real.exp (M - M') by simp [w], w_rescale]
  · show _ * _ + _ = _
    rw [hsum2, Finset.sum_range_add, EReal.coe_add]
    congr 1
    rcases h with ⟨h0, -, -, ha⟩ | ⟨M, hm, -, ha⟩
    · rw [ha, h0]; simp
    · rw [ha, hm, rfl', exp_sub (EReal.coe_ne_top _), ← EReal.coe_mul, Finset.mul_sum]
      congr 1
      refine Finset.sum_congr rfl fun k _ => ?_
      rw [show w (M : EReal) M' = Real.exp (M - M') by simp [w], ← mul_assoc, w_rescale]

/-- The softmax-weighted mean of a row's first `N` keys. -/
def attn (S : ℕ → EReal) (v : ℕ → ℝ) (N : ℕ) : ℝ :=
  (∑ k ∈ Finset.range N, w (S k) 0 * v k) / ∑ k ∈ Finset.range N, w (S k) 0

/-- The mean does not depend on the maximum the weights are taken under. -/
theorem attn_eq (S : ℕ → EReal) (v : ℕ → ℝ) (N : ℕ) (M : ℝ) :
    (∑ k ∈ Finset.range N, w (S k) M * v k) / (∑ k ∈ Finset.range N, w (S k) M) = attn S v N := by
  have h1 : (∑ k ∈ Finset.range N, w (S k) M * v k) = Real.exp (0 - M) * ∑ k ∈ Finset.range N, w (S k) 0 * v k := by
    rw [Finset.mul_sum]; exact Finset.sum_congr rfl fun k _ => by rw [← mul_assoc, w_rescale]
  have h2 : (∑ k ∈ Finset.range N, w (S k) M) = Real.exp (0 - M) * ∑ k ∈ Finset.range N, w (S k) 0 := by
    rw [Finset.mul_sum]; exact Finset.sum_congr rfl fun k _ => by rw [w_rescale]
  rw [h1, h2, mul_div_mul_left _ _ (Real.exp_pos _).ne']
  rfl

/-- Masked keys at the end do not change the mean. -/
theorem attn_mono (S : ℕ → EReal) (v : ℕ → ℝ) (n N : ℕ) (hn : n ≤ N) (h : ∀ k, n ≤ k → k < N → S k = ⊥) : attn S v n = attn S v N := by
  unfold attn
  have hz : ∀ k ∈ Finset.range N, k ∉ Finset.range n → w (S k) 0 = 0 := fun k hk hk' => by
    rw [Finset.mem_range] at hk hk'
    rw [h k (by omega) hk]; simp [w]
  rw [Finset.sum_subset (Finset.range_mono hn) hz, Finset.sum_subset (Finset.range_mono hn) fun k hk hk' => by rw [hz k hk hk', zero_mul]]

/-- The weights of keys of which the first is unmasked sum to a positive number. -/
theorem sum_pos (S : ℕ → EReal) (N : ℕ) (hN : 0 < N) (h0 : S 0 ≠ ⊥) (M : ℝ) : 0 < ∑ k ∈ Finset.range N, w (S k) M :=
  Finset.sum_pos' (fun k _ => w_nonneg _ _) ⟨0, Finset.mem_range.2 hN, w_pos h0 M⟩

/-- A quotient of reals. -/
theorem div_real (x y : ℝ) (h : y ≠ 0) : Ideal.div (x : EReal) (y : EReal) = ((x / y : ℝ) : EReal) := by
  rw [Ideal.div_coe h, ← EReal.coe_mul, mul_one_div]

/-- The quotient that a row ends with is the mean. -/
theorem Inv.div {D : Type} {S : ℕ → EReal} {v : ℕ → D → ℝ} {n : ℕ} {m l : EReal} {a : D → EReal} (h : Inv S v n m l a) (hn : 0 < n)
    (h0 : S 0 ≠ ⊥) (d : D) : Ideal.div (a d) l = ((attn S (fun k => v k d) n : ℝ) : EReal) := by
  obtain ⟨M, -, hl, ha⟩ := h
  rw [hl, ha, div_real _ _ (sum_pos S n hn h0 M).ne', attn_eq S (fun k => v k d) n M]

/-- The softmax taken over all keys at once, and then the weighted sum of the values, is the mean. -/
theorem softmax {N : ℕ} (S : ℕ → EReal) (v : ℕ → ℝ) (hN : 0 < N) (hT : ∀ k, S k ≠ ⊤) (h0 : S 0 ≠ ⊥) (s : Fin N → EReal) (hs : ∀ k : Fin N, s k = S k.val)
    (x : Fin N → EReal) (hx : ∀ k : Fin N, x k = ((v k.val : ℝ) : EReal)) (m : EReal) (hm : m = Finset.univ.fold max ⊥ s) :
    ∑ k, Ideal.div (Ideal.exp (s k - m)) (∑ j, Ideal.exp (s j - m)) * x k = ((attn S v N : ℝ) : EReal) := by
  obtain ⟨M, hM⟩ : ∃ M : ℝ, m = (M : EReal) := hm ▸ real_of (fold_max_ne_top _ _ fun j _ => by rw [hs]; exact hT _)
    (fold_max_ne_bot _ _ ⟨0, hN⟩ (Finset.mem_univ _) (by rw [hs]; exact h0))
  have he : ∀ j, Ideal.exp (s j - m) = ((w (S j.val) M : ℝ) : EReal) := fun j => by
    rw [hM, hs, exp_sub (hT _)]
  have hsum : ∑ j, Ideal.exp (s j - m) = ((∑ j ∈ Finset.range N, w (S j) M : ℝ) : EReal) := by
    rw [Finset.sum_congr rfl fun j _ => he j, coe_sum, Finset.sum_range]
  rw [hsum, Finset.sum_congr rfl fun k _ => by rw [he k, hx, div_real _ _ (sum_pos S N hN h0 M).ne', ← EReal.coe_mul], coe_sum,
    ← attn_eq S v N M, Finset.sum_div, Finset.sum_range (fun i => w (S i) M * v i / _)]
  congr 1
  refine Finset.sum_congr rfl fun k _ => ?_
  rw [div_mul_eq_mul_div]

end Cert.MlaMath

end
-- ==== Proof.MlaRefVal.lean ====
module

public import proofs.«01_k».proof.Proof.MlaRef
public import proofs.«01_k».proof.Proof.MlaMath
public import Idealize.ShloMosaic.Lib.Pointwise
public import Idealize.ShloMosaic.Lib.IdealHost

@[expose] public section

set_option maxRecDepth 16384

noncomputable section

namespace Cert.ReferenceIdeal.Mla

open Cert.ReferenceIdeal Cert.ReferenceIdeal.Facts₀ Cert.ReferenceIdeal.Facts Cert.MlaMath
open Idealize.ShloMosaic Idealize.SL.Sem
open Idealize.ShloMosaic.TcCoe
open Idealize.ShloMosaic.Pointwise

attribute [local instance] facts

/-! ## The reference, stage by stage -/

/-- The keys by batch. -/
def rK (X : FVec Ideal S16384x384 .bf16) : FVec Ideal S2x8192x384 .f32 := shapeCast S2x8192x384 (extf .f32 X bitsLt_bf16_f32) shapeCasts_S16384x384_S2x8192x384
/-- The values: the keys' latent part. -/
def rV (X : FVec Ideal S16384x384 .bf16) : FVec Ideal S2x8192x256 .f32 := extractStridedSlice S2x8192x256 ![0, 0, 0] (rK X) slices_S2x8192x384_S2x8192x256_0_0_0
/-- The scores. -/
def rS (Q : FVec Ideal S2x8x8192x384 .bf16) (X : FVec Ideal S16384x384 .bf16) : FVec Ideal S2x8x8192x8192 .f32 :=
  addf (Host.dotGeneral dot_S2x8x8192x256_S2x8192x256_S2x8x8192x8192_3_2_12_1_0_0 none
      (extf .f32 (extractStridedSlice S2x8x8192x256 ![0, 0, 0, 0] Q slices_S2x8x8192x384_S2x8x8192x256_0_0_0_0) bitsLt_bf16_f32) (rV X))
    (Host.dotGeneral dot_S2x8x8192x128_S2x8192x128_S2x8x8192x8192_3_2_12_1_0_0 none
      (extf .f32 (extractStridedSlice S2x8x8192x128 ![0, 0, 0, 256] Q slices_S2x8x8192x384_S2x8x8192x128_0_0_0_256) bitsLt_bf16_f32)
      (extractStridedSlice S2x8192x128 ![0, 0, 256] (rK X) slices_S2x8192x384_S2x8192x128_0_0_256))
/-- The causal test. -/
def rC : IVec S2x8x8192x8192 1 :=
  broadcastInDim S2x8x8192x8192 ![0, 1, 2, 3] bcast_S1x1x8192x8192_S2x8x8192x8192_0_1_2_3
    (cmpi CmpIPredicate.sle
      (broadcastInDim S1x1x8192x8192 ![0, 1, 2, 3] bcast_S1x1x1x8192_S1x1x8192x8192_0_1_2_3 (broadcastInDim S1x1x1x8192 ![3] bcast_S8192_S1x1x1x8192_3 (iotaInDim S8192 32 0)))
      (broadcastInDim S1x1x8192x8192 ![0, 1, 2, 3] bcast_S1x1x8192x1_S1x1x8192x8192_0_1_2_3 (broadcastInDim S1x1x8192x1 ![2] bcast_S8192_S1x1x8192x1_2 (iotaInDim S8192 32 0))))
/-- The masked scores. -/
def rW (Q : FVec Ideal S2x8x8192x384 .bf16) (X : FVec Ideal S16384x384 .bf16) : FVec Ideal S2x8x8192x8192 .f32 :=
  select rC (rS Q X) (broadcastInDim S2x8x8192x8192 ![] bcast_S_S2x8x8192x8192 (constant S_ .f32 0xFF800000#32))
/-- The largest score of each row. -/
def rM (Q : FVec Ideal S2x8x8192x384 .bf16) (X : FVec Ideal S16384x384 .bf16) : FVec Ideal S2x8x8192 .f32 :=
  maximumf (broadcastInDim S2x8x8192 ![] bcast_S_S2x8x8192 (constant S_ .f32 0xFF800000#32))
    (Host.reduce FloatOps.maximumf (rW Q X) (constant S_ .f32 0xFF800000#32) reducesTo_S2x8x8192x8192_S2x8x8192_d3 h_S_)
/-- The exponentials. -/
def rE (Q : FVec Ideal S2x8x8192x384 .bf16) (X : FVec Ideal S16384x384 .bf16) : FVec Ideal S2x8x8192x8192 .f32 :=
  Host.exp (subf (rW Q X) (broadcastInDim S2x8x8192x8192 ![0, 1, 2, 3] bcast_S2x8x8192x1_S2x8x8192x8192_0_1_2_3
    (broadcastInDim S2x8x8192x1 ![0, 1, 2] bcast_S2x8x8192_S2x8x8192x1_0_1_2 (rM Q X))))
/-- Their sums. -/
def rL (Q : FVec Ideal S2x8x8192x384 .bf16) (X : FVec Ideal S16384x384 .bf16) : FVec Ideal S2x8x8192 .f32 :=
  Host.reduceAdd (rE Q X) (constant S_ .f32 0x00000000#32) reducesTo_S2x8x8192x8192_S2x8x8192_d3 h_S_
/-- The weights. -/
def rP (Q : FVec Ideal S2x8x8192x384 .bf16) (X : FVec Ideal S16384x384 .bf16) : FVec Ideal S2x8x8192x8192 .f32 :=
  Host.divf (rE Q X) (broadcastInDim S2x8x8192x8192 ![0, 1, 2, 3] bcast_S2x8x8192x1_S2x8x8192x8192_0_1_2_3
    (broadcastInDim S2x8x8192x1 ![0, 1, 2] bcast_S2x8x8192_S2x8x8192x1_0_1_2 (rL Q X)))
/-- The result. -/
def rO (Q : FVec Ideal S2x8x8192x384 .bf16) (X : FVec Ideal S16384x384 .bf16) : FVec Ideal S2x8x8192x256 .f32 :=
  Host.dotGeneral dot_S2x8x8192x8192_S2x8192x256_S2x8x8192x256_3_1_12_2_0_0 none (rP Q X) (rV X)

/-- The reference's run leaves its last stage in its result and its arguments alone. -/
theorem value (m : (ℓ : Loc nD τ sig) → Buf (Elt Ideal) ℓ) (g : Dev nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev nD,
          r.2.mem ((c.tc : Thread nD τ).loc main_v29) = rO (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1)) := by
  hlo_run
  rfl

variable (Q : FVec Ideal S2x8x8192x384 .bf16) (X : FVec Ideal S16384x384 .bf16)

/-- A key, by batch. -/
theorem rK_at (b : Fin 2) (k : Fin 8192) (e : Fin 384) : rK X (ix3 b k e) = X (ix2 ⟨b.val * 8192 + k.val, by omega⟩ e) := by
  pointwise [rK]

/-- A value. -/
theorem rV_at (b : Fin 2) (k : Fin 8192) (e : Fin 256) : rV X (ix3 b k e) = rK X (ix3 b k ⟨e.val, by omega⟩) := by
  pointwise [rV]

/-- A score. -/
theorem rS_at (b : Fin 2) (h : Fin 8) (q k : Fin 8192) : rS Q X (ix4 b h q k) = (∑ x : Fin 256, Q (ix4 b h q ⟨x.val, by omega⟩) * rV X (ix3 b k x) + ∑ x : Fin 128, Q (ix4 b h q ⟨256 + x.val, by omega⟩) * rK X (ix3 b k ⟨256 + x.val, by omega⟩) : EReal) := by
  pointwise [rS]

/-- The causal test at a query and a key. -/
theorem rC_at (b : Fin 2) (h : Fin 8) (q k : Fin 8192) : rC (ix4 b h q k) = IntOp.cmpi CmpIPredicate.sle (BitVec.ofNat 32 k.val) (BitVec.ofNat 32 q.val) := by
  pointwise [rC]

/-- A masked score. -/
theorem rW_at (b : Fin 2) (h : Fin 8) (q k : Fin 8192) : rW Q X (ix4 b h q k) = Scalar.select (rC (ix4 b h q k)) (rS Q X (ix4 b h q k)) (Ideal.ofBits FTy.f32 4286578688#32) := by
  pointwise [rW]

/-- A maximum over the keys, at an index. -/
theorem red_max (v : FVec Ideal S2x8x8192x8192 .f32) (c : FVec Ideal S_ .f32) (b : Fin 2) (h : Fin 8) (q : Fin 8192) :
    Host.reduce FloatOps.maximumf v c reducesTo_S2x8x8192x8192_S2x8x8192_d3 h_S_ (ix3 b h q)
      = (Finset.univ.fold max (c (Shape.Idx.first h_S_)) (fun x : Fin 8192 => v (ix4 b h q x)) : EReal) := by
  simp only [pointwise]

/-- A maximum of two arrays, at an index. -/
theorem max_at (u v : FVec Ideal S2x8x8192 .f32) (i : S2x8x8192.Idx) : maximumf u v i = (max (u i) (v i) : EReal) := rfl

/-- The starting value of a maximum, at an index. -/
theorem inf_at (i : S2x8x8192.Idx) :
    broadcastInDim S2x8x8192 ![] bcast_S_S2x8x8192 (constant S_ .f32 0xFF800000#32 : FVec Ideal S_ .f32) i = Ideal.ofBits FTy.f32 4286578688#32 := by
  pointwise

/-- The starting value of a maximum. -/
theorem inf_first : (constant S_ .f32 0xFF800000#32 : FVec Ideal S_ .f32) (Shape.Idx.first h_S_) = Ideal.ofBits FTy.f32 4286578688#32 := rfl

/-- The largest score of a row. -/
theorem rM_at (b : Fin 2) (h : Fin 8) (q : Fin 8192) : rM Q X (ix3 b h q) = (max (Ideal.ofBits FTy.f32 4286578688#32) (Finset.fold max (Ideal.ofBits FTy.f32 4286578688#32) (fun x => rW Q X (ix4 b h q x)) Finset.univ) : EReal) := by
  unfold rM
  generalize rW Q X = v
  rw [max_at, inf_at, red_max, inf_first]

/-- An exponential. -/
theorem rE_at (b : Fin 2) (h : Fin 8) (q k : Fin 8192) : rE Q X (ix4 b h q k) = Ideal.exp (rW Q X (ix4 b h q k) - rM Q X (ix3 b h q)) := by
  pointwise [rE]

/-- A sum of exponentials. -/
theorem rL_at (b : Fin 2) (h : Fin 8) (q : Fin 8192) : rL Q X (ix3 b h q) = (∑ x, rE Q X (ix4 b h q x) : EReal) := by
  pointwise [rL]

/-- A weight. -/
theorem rP_at (b : Fin 2) (h : Fin 8) (q k : Fin 8192) : rP Q X (ix4 b h q k) = Ideal.div (rE Q X (ix4 b h q k)) (rL Q X (ix3 b h q)) := by
  pointwise [rP]

/-- An element of the result. -/
theorem rO_at (b : Fin 2) (h : Fin 8) (q : Fin 8192) (d : Fin 256) : rO Q X (ix4 b h q d) = (∑ x, rP Q X (ix4 b h q x) * rV X (ix3 b x d) : EReal) := by
  pointwise [rO]

end Cert.ReferenceIdeal.Mla

end
-- ==== Proof.MlaGeo.lean ====
module

public import proofs.«01_k».proof.Proof.MlaFrame
public import Idealize.ShloMosaic.Lib.Pointwise
public import Idealize.ShloMosaic.Lib.Pipeline.ValueKit

@[expose] public section

set_option maxRecDepth 16384

noncomputable section

namespace Cert.KernelIdeal.Mla

open Cert.KernelIdeal Cert.KernelIdeal.Gen
open Idealize.ShloMosaic
open Idealize.ShloMosaic.TcCoe
open Idealize.ShloMosaic.Pointwise

variable (m : (ℓ : Loc nD τ sig) → Buf (Elt Ideal) ℓ) (ρ : Dev nD → PrngReg)

/-! ## Where a point stands -/

/-- The query block's number, as the body reads it. -/
abbrev w0 (t : Fin (cfgA).N) : BitVec 32 := kernelRun0_A.sl.r_3 (crd t) pinT_0
/-- The key block's number, as the body reads it. -/
abbrev w1 (t : Fin (cfgA).N) : BitVec 32 := kernelRun0_A.sl.r_4 (crd t) pinT_1

/-- The point's batch and block numbers are in range, its windows stand at them, and its tests say where the causal triangle puts it. -/
def Geo (t : Fin (cfgA).N) : Prop :=
  (w0 t).toNat < 32 ∧ (w1 t).toNat < 4
  ∧ (∀ a, ((cfgA).win (0 : Fin 3)).index t a = (![t.val / 80, 0, (w0 t).toNat, 0] : Fin 4 → ℕ) a)
  ∧ (∀ a, ((cfgA).win (1 : Fin 3)).index t a = (![t.val / 80, (w1 t).toNat, 0] : Fin 3 → ℕ) a)
  ∧ (∀ a, ((cfgA).win (2 : Fin 3)).index t a = (![t.val / 80, 0, (w0 t).toNat, 0] : Fin 4 → ℕ) a)
  ∧ (P0_0 t → (w1 t).toNat = 0)
  ∧ (P0_1 t → ((w1 t).toNat + 1) * 2048 ≤ (w0 t).toNat * 256 + 1)
  ∧ (¬P0_1 t → (w0 t).toNat * 256 + 256 ≤ ((w1 t).toNat + 1) * 2048)
  ∧ (((cfgA).win (2 : Fin 3)).flush t = true → ¬P0_1 t)

instance (t : Fin (cfgA).N) : Decidable (Geo t) := by unfold Geo; infer_instance

set_option maxHeartbeats 4000000 in
/-- The facts hold at every point, each decided from the tables. -/
theorem geo : ∀ t : Fin (cfgA).N, Geo t := by decide +kernel

/-- A point that is not the first of its rows goes on where the point before it stopped. -/
def Geo' (t : Fin (cfgA).N) : Prop :=
  ¬P0_0 t → 0 < t.val ∧ (t.val - 1) / 80 = t.val / 80 ∧ w0 ⟨t.val - 1, by omega⟩ = w0 t ∧ (w1 ⟨t.val - 1, by omega⟩).toNat + 1 = (w1 t).toNat

instance (t : Fin (cfgA).N) : Decidable (Geo' t) := by unfold Geo'; infer_instance

set_option maxHeartbeats 4000000 in
/-- The facts hold at every point, each decided from the tables. -/
theorem geo' : ∀ t : Fin (cfgA).N, Geo' t := by decide +kernel

end Cert.KernelIdeal.Mla

end
-- ==== Proof.MlaStep.lean ====
module

public import proofs.«01_k».proof.Proof.MlaRuns
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen
open Idealize.ShloMosaic
open Idealize.ShloMosaic.TcCoe

/-! ## One group's step over vectors -/

/-- The scores of a group's rows against a key block. -/
def sU (k : FVec Ideal S1x2048x384 .bf16) (q : FVec Ideal S1x2x256x384 .bf16) : FVec Ideal S512x2048 .f32 :=
  k0_pay11 k q

/-- The scores with the keys behind the query masked. -/
def sM (w0 w1 : BitVec 32) (k : FVec Ideal S1x2048x384 .bf16) (q : FVec Ideal S1x2x256x384 .bf16) : FVec Ideal S512x2048 .f32 :=
  select (k0_pay46 (F := Ideal) w0 w1) (sU k q) (broadcast S512x2048 (Named.named (F := Ideal) κ "mask" (φ := .f32) 0xF149F2CA#32))

/-- The running maximum after a block. -/
def mx (s : FVec Ideal S512x2048 .f32) (m : FVec Ideal S1x512x1 .f32) : FVec Ideal S512x1 .f32 :=
  maximumf (shapeCast S512x1 m shapeCasts_S1x512x1_S512x1)
    (shapeCast S512x1 (multiReduction .maximumf [1] S512 s 0xFF800000#32 reduces_S512x2048_S512 (.inl rfl) rfl) shapeCasts_S512_S512x1)

/-- The rescaling of what was summed before a block. -/
def al (s : FVec Ideal S512x2048 .f32) (m : FVec Ideal S1x512x1 .f32) : FVec Ideal S512x1 .f32 :=
  exp (subf (shapeCast S512x1 m shapeCasts_S1x512x1_S512x1) (mx s m))

/-- The weights of a block's keys. -/
def ew (s : FVec Ideal S512x2048 .f32) (m : FVec Ideal S1x512x1 .f32) : FVec Ideal S512x2048 .f32 :=
  exp (subf s (broadcastTo S512x2048 (mx s m) broadcasts_S512x1_S512x2048))

/-- The running maximum, as it is stored. -/
def stM (s : FVec Ideal S512x2048 .f32) (m : FVec Ideal S1x512x1 .f32) : FVec Ideal S1x512x1 .f32 :=
  shapeCast S1x512x1 (mx s m) shapeCasts_S512x1_S1x512x1

/-- The running sum, as it is stored. -/
def stL (s : FVec Ideal S512x2048 .f32) (m l : FVec Ideal S1x512x1 .f32) : FVec Ideal S1x512x1 .f32 :=
  shapeCast S1x512x1 (addf (mulf (al s m) (shapeCast S512x1 l shapeCasts_S1x512x1_S512x1))
    (shapeCast S512x1 (multiReduction .add [1] S512 (ew s m) 0x00000000#32 reduces_S512x2048_S512 (.inl rfl) rfl) shapeCasts_S512_S512x1))
    shapeCasts_S512x1_S1x512x1

/-- The accumulator, as it is stored. -/
def stA (s : FVec Ideal S512x2048 .f32) (k : FVec Ideal S1x2048x384 .bf16) (m : FVec Ideal S1x512x1 .f32) (a : FVec Ideal S1x512x256 .f32) :
    FVec Ideal S1x512x256 .f32 :=
  shapeCast S1x512x256 (addf (mulf (broadcastTo S512x256 (al s m) broadcasts_S512x1_S512x256) (shapeCast S512x256 a shapeCasts_S1x512x256_S512x256))
    (matmul dot_S512x2048_S2048x256_S512x256_1_0_0_1_n_n none (truncf .bf16 (ew s m) bitsLt_bf16_f32) (k0_pay10 k)
      (constant S512x256 .f32 0x00000000#32))) shapeCasts_S512x256_S1x512x256

/-- The quotient a group leaves in the output block. -/
def stO (a : FVec Ideal S1x512x256 .f32) (l : FVec Ideal S1x512x1 .f32) : FVec Ideal S1x2x256x256 .f32 :=
  k0_pay8 a l

/-! ## Stacks of a group's stores -/

/-- A store of each group's rows of a column, the last group's first. -/
def stk1 (f0 f1 f2 f3 : S1x512x1.Idx → Elt Ideal .f32) (T : List (View.Piece (Elt Ideal) S4x512x1 .f32)) : List (View.Piece (Elt Ideal) S4x512x1 .f32) :=
  ⟨Rect.unit ![3, 0, 0] S1x512x1.size inb_S4x512x1_S1x512x1_3_0_0, f3⟩ :: ⟨Rect.unit ![2, 0, 0] S1x512x1.size inb_S4x512x1_S1x512x1_2_0_0, f2⟩ ::
  ⟨Rect.unit ![1, 0, 0] S1x512x1.size inb_S4x512x1_S1x512x1_1_0_0, f1⟩ :: ⟨Rect.unit ![0, 0, 0] S1x512x1.size inb_S4x512x1_S1x512x1_0_0_0, f0⟩ :: T

/-- The same over the accumulator's rows. -/
def stk2 (f0 f1 f2 f3 : S1x512x256.Idx → Elt Ideal .f32) (T : List (View.Piece (Elt Ideal) S4x512x256 .f32)) : List (View.Piece (Elt Ideal) S4x512x256 .f32) :=
  ⟨Rect.unit ![3, 0, 0] S1x512x256.size inb_S4x512x256_S1x512x256_3_0_0, f3⟩ :: ⟨Rect.unit ![2, 0, 0] S1x512x256.size inb_S4x512x256_S1x512x256_2_0_0, f2⟩ ::
  ⟨Rect.unit ![1, 0, 0] S1x512x256.size inb_S4x512x256_S1x512x256_1_0_0, f1⟩ :: ⟨Rect.unit ![0, 0, 0] S1x512x256.size inb_S4x512x256_S1x512x256_0_0_0, f0⟩ :: T

/-- A group's query rows, as a load reads them. -/
def qrd (a7 : Memref sig .tc .vmem S1x8x256x384 .bf16) (x0 : S1x8x256x384.Idx → Elt Ideal .bf16) (off : Fin 4 → ℕ)
    (h : ∀ a, off a + S1x2x256x384.size a ≤ S1x8x256x384.size a) : FVec Ideal S1x2x256x384 .bf16 :=
  View.readAt (Elt Ideal) a7.view (Rect.unit (s := S1x8x256x384) off S1x2x256x384.size h).toLoadRect (a7.view.rep x0)

/-- The key block, as a load reads it. -/
def krd (a8 : Memref sig .tc .vmem S1x2048x384 .bf16) (x1 : S1x2048x384.Idx → Elt Ideal .bf16) : FVec Ideal S1x2048x384 .bf16 :=
  View.readAt (Elt Ideal) a8.view (Rect.unit (s := S1x2048x384) ![0, 0, 0] S1x2048x384.size inb_S1x2048x384_S1x2048x384_0_0_0).toLoadRect (a8.view.rep x1)

/-- A group's rows of a column, as a load reads them. -/
def crd1 (v : View sig .tc .vmem S4x512x1 .f32) (x : v.ty.Contents (Elt Ideal)) (off : Fin 3 → ℕ)
    (h : ∀ a, off a + S1x512x1.size a ≤ S4x512x1.size a) : FVec Ideal S1x512x1 .f32 :=
  View.readAt (Elt Ideal) v (Rect.unit (s := S4x512x1) off S1x512x1.size h).toLoadRect x

/-- A group's rows of the accumulator, as a load reads them. -/
def crd2 (v : View sig .tc .vmem S4x512x256 .f32) (x : v.ty.Contents (Elt Ideal)) (off : Fin 3 → ℕ)
    (h : ∀ a, off a + S1x512x256.size a ≤ S4x512x256.size a) : FVec Ideal S1x512x256 .f32 :=
  View.readAt (Elt Ideal) v (Rect.unit (s := S4x512x256) off S1x512x256.size h).toLoadRect x

/-- A group's rows of a column, as a load behind stores reads them. -/
def rcv1 (v : View sig .tc .vmem S4x512x1 .f32) (x : List (View.Piece (Elt Ideal) S4x512x1 .f32)) (off : Fin 3 → ℕ)
    (h : ∀ a, off a + S1x512x1.size a ≤ S4x512x1.size a) : FVec Ideal S1x512x1 .f32 :=
  v.readCov x (Rect.unit (s := S4x512x1) off S1x512x1.size h).toLoadRect

/-- A group's rows of the accumulator, as a load behind stores reads them. -/
def rcv2 (v : View sig .tc .vmem S4x512x256 .f32) (x : List (View.Piece (Elt Ideal) S4x512x256 .f32)) (off : Fin 3 → ℕ)
    (h : ∀ a, off a + S1x512x256.size a ≤ S4x512x256.size a) : FVec Ideal S1x512x256 .f32 :=
  v.readCov x (Rect.unit (s := S4x512x256) off S1x512x256.size h).toLoadRect

end Cert.KernelIdeal.Mla

end
-- ==== Proof.MlaRead.lean ====
module

public import proofs.«01_k».proof.Proof.MlaStep
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen
open Idealize.ShloMosaic
open Idealize.ShloMosaic.TcCoe

/-! ## Reading one group -/

/-- A group's rows of a column lie inside it. -/
theorem inb1 : ∀ (g : Fin 4) (a : Fin 3), (![g.val, 0, 0] : Fin 3 → ℕ) a + S1x512x1.size a ≤ S4x512x1.size a := by decide

/-- A group's rows of the accumulator lie inside it. -/
theorem inb2 : ∀ (g : Fin 4) (a : Fin 3), (![g.val, 0, 0] : Fin 3 → ℕ) a + S1x512x256.size a ≤ S4x512x256.size a := by decide

/-- A group's query rows lie inside the query block. -/
theorem inbq : ∀ (g : Fin 4) (a : Fin 4), (![0, 2 * g.val, 0, 0] : Fin 4 → ℕ) a + S1x2x256x384.size a ≤ S1x8x256x384.size a := by decide

/-- Reading a group behind a store of every group's rows gives what was stored for it. -/
theorem rcv1_stk (v : View sig .tc .vmem S4x512x1 .f32) (f0 f1 f2 f3 : S1x512x1.Idx → Elt Ideal .f32) (T : List (View.Piece (Elt Ideal) S4x512x1 .f32)) (g : Fin 4) :
    rcv1 v (stk1 f0 f1 f2 f3 T) ![g.val, 0, 0] (inb1 g) = (![f0, f1, f2, f3] : Fin 4 → S1x512x1.Idx → Elt Ideal .f32) g := by
  unfold rcv1 stk1
  fin_cases g
  · refine (View.readCov_skip v _ _ _ _ (by decide)).trans ((View.readCov_skip v _ _ _ _ (by decide)).trans ((View.readCov_skip v _ _ _ _ (by decide)).trans ?_))
    exact View.readCov_cons_toLoadRect v _ _ _
  · refine (View.readCov_skip v _ _ _ _ (by decide)).trans ((View.readCov_skip v _ _ _ _ (by decide)).trans ?_)
    exact View.readCov_cons_toLoadRect v _ _ _
  · refine (View.readCov_skip v _ _ _ _ (by decide)).trans ?_
    exact View.readCov_cons_toLoadRect v _ _ _
  · exact View.readCov_cons_toLoadRect v _ _ _

/-- The same for the accumulator. -/
theorem rcv2_stk (v : View sig .tc .vmem S4x512x256 .f32) (f0 f1 f2 f3 : S1x512x256.Idx → Elt Ideal .f32) (T : List (View.Piece (Elt Ideal) S4x512x256 .f32)) (g : Fin 4) :
    rcv2 v (stk2 f0 f1 f2 f3 T) ![g.val, 0, 0] (inb2 g) = (![f0, f1, f2, f3] : Fin 4 → S1x512x256.Idx → Elt Ideal .f32) g := by
  unfold rcv2 stk2
  fin_cases g
  · refine (View.readCov_skip v _ _ _ _ (by decide)).trans ((View.readCov_skip v _ _ _ _ (by decide)).trans ((View.readCov_skip v _ _ _ _ (by decide)).trans ?_))
    exact View.readCov_cons_toLoadRect v _ _ _
  · refine (View.readCov_skip v _ _ _ _ (by decide)).trans ((View.readCov_skip v _ _ _ _ (by decide)).trans ?_)
    exact View.readCov_cons_toLoadRect v _ _ _
  · refine (View.readCov_skip v _ _ _ _ (by decide)).trans ?_
    exact View.readCov_cons_toLoadRect v _ _ _
  · exact View.readCov_cons_toLoadRect v _ _ _

/-- A load over stored pieces is the read behind them. -/
theorem crd1_writes (v : View sig .tc .vmem S4x512x1 .f32) (L : List (View.Piece (Elt Ideal) S4x512x1 .f32)) (off : Fin 3 → ℕ)
    (h : ∀ a, off a + S1x512x1.size a ≤ S4x512x1.size a) : crd1 v (v.writes (Elt Ideal) v.junk L) off h = rcv1 v L off h := rfl

/-- The same for the accumulator. -/
theorem crd2_writes (v : View sig .tc .vmem S4x512x256 .f32) (L : List (View.Piece (Elt Ideal) S4x512x256 .f32)) (off : Fin 3 → ℕ)
    (h : ∀ a, off a + S1x512x256.size a ≤ S4x512x256.size a) : crd2 v (v.writes (Elt Ideal) v.junk L) off h = rcv2 v L off h := rfl

/-- The key block is read whole. -/
theorem krd_eq (a8 : Memref sig .tc .vmem S1x2048x384 .bf16) (x1 : S1x2048x384.Idx → Elt Ideal .bf16) : krd a8 x1 = x1 :=
  View.readAt_rep_full a8.view x1 _

/-- A group's rows of the query block. -/
def qg (x0 : S1x8x256x384.Idx → Elt Ideal .bf16) (g : Fin 4) : FVec Ideal S1x2x256x384 .bf16 :=
  VecWindow.window x0 ![0, 2 * g.val, 0, 0] S1x2x256x384.size (inbq g)

/-- A load of a group's query rows. -/
theorem qrd_eq (a7 : Memref sig .tc .vmem S1x8x256x384 .bf16) (x0 : S1x8x256x384.Idx → Elt Ideal .bf16) (g : Fin 4) :
    qrd a7 x0 ![0, 2 * g.val, 0, 0] (inbq g) = qg x0 g :=
  View.readAt_rep_unit a7.view x0 _ rfl _

end Cert.KernelIdeal.Mla

end
-- ==== Proof.MlaGroup.lean ====
module

public import proofs.«01_k».proof.Proof.MlaRead
public import Idealize.ShloMosaic.Lib.Pipeline.ReadBack
public import Idealize.ShloMosaic.Lib.VecWindow
public import Idealize.ShloMosaic.Lib.Pointwise

@[expose] public section

set_option maxRecDepth 16384

noncomputable section

namespace Cert.KernelIdeal.Mla

open Cert.KernelIdeal Cert.KernelIdeal.Gen
open Idealize.ShloMosaic
open Idealize.ShloMosaic.TcCoe
open Idealize.ShloMosaic.Pointwise

/-! ## What a path leaves each group -/

/-- The maximum before any key. -/
def m00 : FVec Ideal S1x512x1 .f32 := fun _ => Ideal.ofBits .f32 0xFF800000#32
/-- The sum before any key. -/
def l00 : FVec Ideal S1x512x1 .f32 := fun _ => Ideal.ofBits .f32 0x00000000#32
/-- The accumulator before any key. -/
def a00 : FVec Ideal S1x512x256 .f32 := fun _ => Ideal.ofBits .f32 0x00000000#32

/-- Equal scores and equal maxima store equal maxima. -/
theorem cM {s s' : FVec Ideal S512x2048 .f32} {m m' : FVec Ideal S1x512x1 .f32} (h : s = s') (h' : m = m') : stM s m = stM s' m' := by rw [h, h']
/-- Equal scores, maxima and sums store equal sums. -/
theorem cL {s s' : FVec Ideal S512x2048 .f32} {m m' l l' : FVec Ideal S1x512x1 .f32} (h : s = s') (h' : m = m') (h'' : l = l') : stL s m l = stL s' m' l' := by rw [h, h', h'']
/-- Equal scores, keys, maxima and accumulators store equal accumulators. -/
theorem cA {s s' : FVec Ideal S512x2048 .f32} {k k' : FVec Ideal S1x2048x384 .bf16} {m m' : FVec Ideal S1x512x1 .f32} {a a' : FVec Ideal S1x512x256 .f32}
    (h : s = s') (hk : k = k') (h' : m = m') (h'' : a = a') : stA s k m a = stA s' k' m' a' := by rw [h, hk, h', h'']

/-- A store of each group's rows of the output block. -/
def stk4 (f0 f1 f2 f3 : S1x2x256x256.Idx → Elt Ideal .f32) : List (View.Piece (Elt Ideal) S1x8x256x256 .f32) :=
  [⟨Rect.unit ![0, 6, 0, 0] S1x2x256x256.size inb_S1x8x256x256_S1x2x256x256_0_6_0_0, f3⟩, ⟨Rect.unit ![0, 4, 0, 0] S1x2x256x256.size inb_S1x8x256x256_S1x2x256x256_0_4_0_0, f2⟩,
   ⟨Rect.unit ![0, 2, 0, 0] S1x2x256x256.size inb_S1x8x256x256_S1x2x256x256_0_2_0_0, f1⟩, ⟨Rect.unit ![0, 0, 0, 0] S1x2x256x256.size inb_S1x8x256x256_S1x2x256x256_0_0_0_0, f0⟩]

/-- A group's rows of the output block, as a load behind stores reads them. -/
def rcv4 (v : View sig .tc .vmem S1x8x256x256 .f32) (x : List (View.Piece (Elt Ideal) S1x8x256x256 .f32)) (off : Fin 4 → ℕ)
    (h : ∀ a, off a + S1x2x256x256.size a ≤ S1x8x256x256.size a) : FVec Ideal S1x2x256x256 .f32 :=
  v.readCov x (Rect.unit (s := S1x8x256x256) off S1x2x256x256.size h).toLoadRect

/-- A group's rows lie inside the output block. -/
theorem inb4 : ∀ (g : Fin 4) (a : Fin 4), (![0, 2 * g.val, 0, 0] : Fin 4 → ℕ) a + S1x2x256x256.size a ≤ S1x8x256x256.size a := by decide

/-- Reading a group behind a store of every group's rows gives what was stored for it. -/
theorem rcv4_stk (v : View sig .tc .vmem S1x8x256x256 .f32) (f0 f1 f2 f3 : S1x2x256x256.Idx → Elt Ideal .f32) (g : Fin 4) :
    rcv4 v (stk4 f0 f1 f2 f3) ![0, 2 * g.val, 0, 0] (inb4 g) = (![f0, f1, f2, f3] : Fin 4 → S1x2x256x256.Idx → Elt Ideal .f32) g := by
  unfold rcv4 stk4
  fin_cases g
  · refine (View.readCov_skip v _ _ _ _ (by decide)).trans ((View.readCov_skip v _ _ _ _ (by decide)).trans ((View.readCov_skip v _ _ _ _ (by decide)).trans ?_))
    exact View.readCov_cons_toLoadRect v _ _ _
  · refine (View.readCov_skip v _ _ _ _ (by decide)).trans ((View.readCov_skip v _ _ _ _ (by decide)).trans ?_)
    exact View.readCov_cons_toLoadRect v _ _ _
  · refine (View.readCov_skip v _ _ _ _ (by decide)).trans ?_
    exact View.readCov_cons_toLoadRect v _ _ _
  · exact View.readCov_cons_toLoadRect v _ _ _

/-- One row of the output block is that row of its group. -/
theorem read_rcv4 (v : View sig .tc .vmem S1x8x256x256 .f32) (x : List (View.Piece (Elt Ideal) S1x8x256x256 .f32)) (g : Fin 4) (h : Fin 2) (q d : Fin 256) :
    v.read (Elt Ideal) (v.writes (Elt Ideal) v.junk x) (ix4 0 ⟨2 * g.val + h.val, by omega⟩ q d) = rcv4 v x ![0, 2 * g.val, 0, 0] (inb4 g) (ix4 0 h q d) := by
  show _ = v.read (Elt Ideal) (v.writes (Elt Ideal) v.junk x) _
  congr 1
  funext a
  fin_cases a
  · rfl
  · exact Fin.ext (by show 2 * g.val + h.val = 2 * g.val + 1 * h.val; omega)
  · exact Fin.ext (by show q.val = 0 + 1 * q.val; omega)
  · exact Fin.ext (by show d.val = 0 + 1 * d.val; omega)

end Cert.KernelIdeal.Mla

end
-- ==== Proof.MlaPathA.lean ====
module

public import proofs.«01_k».proof.Proof.MlaStep
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen
open Idealize.ShloMosaic
open Idealize.ShloMosaic.TcCoe

/-- The stores of the running maximum in this path. -/
theorem hsA_0 (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    kernelRun0_A.sl.HS0_5 i arg7 arg8 T0 T1 x0 x1 = stk1 (stM (sM (kernelRun0_A.sl.r_3 i T0) (kernelRun0_A.sl.r_4 i T1) (krd arg8 x1) (qrd arg7 x0 ![0, 0, 0, 0] inb_S1x8x256x384_S1x2x256x384_0_0_0_0)) (rcv1 scM0_0.view (kernelRun0_A.sl.HS0_1) ![0, 0, 0] inb_S4x512x1_S1x512x1_0_0_0)) (stM (sM (kernelRun0_A.sl.r_3 i T0) (kernelRun0_A.sl.r_4 i T1) (krd arg8 x1) (qrd arg7 x0 ![0, 2, 0, 0] inb_S1x8x256x384_S1x2x256x384_0_2_0_0)) (rcv1 scM0_0.view (kernelRun0_A.sl.HS0_2 i arg7 arg8 T0 T1 x0 x1) ![1, 0, 0] inb_S4x512x1_S1x512x1_1_0_0)) (stM (sM (kernelRun0_A.sl.r_3 i T0) (kernelRun0_A.sl.r_4 i T1) (krd arg8 x1) (qrd arg7 x0 ![0, 4, 0, 0] inb_S1x8x256x384_S1x2x256x384_0_4_0_0)) (rcv1 scM0_0.view (kernelRun0_A.sl.HS0_3 i arg7 arg8 T0 T1 x0 x1) ![2, 0, 0] inb_S4x512x1_S1x512x1_2_0_0)) (stM (sM (kernelRun0_A.sl.r_3 i T0) (kernelRun0_A.sl.r_4 i T1) (krd arg8 x1) (qrd arg7 x0 ![0, 6, 0, 0] inb_S1x8x256x384_S1x2x256x384_0_6_0_0)) (rcv1 scM0_0.view (kernelRun0_A.sl.HS0_4 i arg7 arg8 T0 T1 x0 x1) ![3, 0, 0] inb_S4x512x1_S1x512x1_3_0_0)) kernelRun0_A.sl.HS0_1 := rfl

/-- The stores of the running sum in this path. -/
theorem hsA_1 (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    kernelRun0_A.sl.HS1_5 i arg7 arg8 T0 T1 x0 x1 = stk1 (stL (sM (kernelRun0_A.sl.r_3 i T0) (kernelRun0_A.sl.r_4 i T1) (krd arg8 x1) (qrd arg7 x0 ![0, 0, 0, 0] inb_S1x8x256x384_S1x2x256x384_0_0_0_0)) (rcv1 scM0_0.view (kernelRun0_A.sl.HS0_1) ![0, 0, 0] inb_S4x512x1_S1x512x1_0_0_0) (rcv1 scM0_1.view (kernelRun0_A.sl.HS1_1) ![0, 0, 0] inb_S4x512x1_S1x512x1_0_0_0)) (stL (sM (kernelRun0_A.sl.r_3 i T0) (kernelRun0_A.sl.r_4 i T1) (krd arg8 x1) (qrd arg7 x0 ![0, 2, 0, 0] inb_S1x8x256x384_S1x2x256x384_0_2_0_0)) (rcv1 scM0_0.view (kernelRun0_A.sl.HS0_2 i arg7 arg8 T0 T1 x0 x1) ![1, 0, 0] inb_S4x512x1_S1x512x1_1_0_0) (rcv1 scM0_1.view (kernelRun0_A.sl.HS1_2 i arg7 arg8 T0 T1 x0 x1) ![1, 0, 0] inb_S4x512x1_S1x512x1_1_0_0)) (stL (sM (kernelRun0_A.sl.r_3 i T0) (kernelRun0_A.sl.r_4 i T1) (krd arg8 x1) (qrd arg7 x0 ![0, 4, 0, 0] inb_S1x8x256x384_S1x2x256x384_0_4_0_0)) (rcv1 scM0_0.view (kernelRun0_A.sl.HS0_3 i arg7 arg8 T0 T1 x0 x1) ![2, 0, 0] inb_S4x512x1_S1x512x1_2_0_0) (rcv1 scM0_1.view (kernelRun0_A.sl.HS1_3 i arg7 arg8 T0 T1 x0 x1) ![2, 0, 0] inb_S4x512x1_S1x512x1_2_0_0)) (stL (sM (kernelRun0_A.sl.r_3 i T0) (kernelRun0_A.sl.r_4 i T1) (krd arg8 x1) (qrd arg7 x0 ![0, 6, 0, 0] inb_S1x8x256x384_S1x2x256x384_0_6_0_0)) (rcv1 scM0_0.view (kernelRun0_A.sl.HS0_4 i arg7 arg8 T0 T1 x0 x1) ![3, 0, 0] inb_S4x512x1_S1x512x1_3_0_0) (rcv1 scM0_1.view (kernelRun0_A.sl.HS1_4 i arg7 arg8 T0 T1 x0 x1) ![3, 0, 0] inb_S4x512x1_S1x512x1_3_0_0)) kernelRun0_A.sl.HS1_1 := rfl

/-- The stores of the accumulator in this path. -/
theorem hsA_2 (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    kernelRun0_A.sl.HS2_5 i arg7 arg8 T0 T1 x0 x1 = stk2 (stA (sM (kernelRun0_A.sl.r_3 i T0) (kernelRun0_A.sl.r_4 i T1) (krd arg8 x1) (qrd arg7 x0 ![0, 0, 0, 0] inb_S1x8x256x384_S1x2x256x384_0_0_0_0)) (krd arg8 x1) (rcv1 scM0_0.view (kernelRun0_A.sl.HS0_1) ![0, 0, 0] inb_S4x512x1_S1x512x1_0_0_0) (rcv2 scM0_2.view (kernelRun0_A.sl.HS2_1) ![0, 0, 0] inb_S4x512x256_S1x512x256_0_0_0)) (stA (sM (kernelRun0_A.sl.r_3 i T0) (kernelRun0_A.sl.r_4 i T1) (krd arg8 x1) (qrd arg7 x0 ![0, 2, 0, 0] inb_S1x8x256x384_S1x2x256x384_0_2_0_0)) (krd arg8 x1) (rcv1 scM0_0.view (kernelRun0_A.sl.HS0_2 i arg7 arg8 T0 T1 x0 x1) ![1, 0, 0] inb_S4x512x1_S1x512x1_1_0_0) (rcv2 scM0_2.view (kernelRun0_A.sl.HS2_2 i arg7 arg8 T0 T1 x0 x1) ![1, 0, 0] inb_S4x512x256_S1x512x256_1_0_0)) (stA (sM (kernelRun0_A.sl.r_3 i T0) (kernelRun0_A.sl.r_4 i T1) (krd arg8 x1) (qrd arg7 x0 ![0, 4, 0, 0] inb_S1x8x256x384_S1x2x256x384_0_4_0_0)) (krd arg8 x1) (rcv1 scM0_0.view (kernelRun0_A.sl.HS0_3 i arg7 arg8 T0 T1 x0 x1) ![2, 0, 0] inb_S4x512x1_S1x512x1_2_0_0) (rcv2 scM0_2.view (kernelRun0_A.sl.HS2_3 i arg7 arg8 T0 T1 x0 x1) ![2, 0, 0] inb_S4x512x256_S1x512x256_2_0_0)) (stA (sM (kernelRun0_A.sl.r_3 i T0) (kernelRun0_A.sl.r_4 i T1) (krd arg8 x1) (qrd arg7 x0 ![0, 6, 0, 0] inb_S1x8x256x384_S1x2x256x384_0_6_0_0)) (krd arg8 x1) (rcv1 scM0_0.view (kernelRun0_A.sl.HS0_4 i arg7 arg8 T0 T1 x0 x1) ![3, 0, 0] inb_S4x512x1_S1x512x1_3_0_0) (rcv2 scM0_2.view (kernelRun0_A.sl.HS2_4 i arg7 arg8 T0 T1 x0 x1) ![3, 0, 0] inb_S4x512x256_S1x512x256_3_0_0)) kernelRun0_A.sl.HS2_1 := rfl

end Cert.KernelIdeal.Mla

end
-- ==== Proof.MlaGroupA.lean ====
module

public import proofs.«01_k».proof.Proof.MlaGroup
public import proofs.«01_k».proof.Proof.MlaPathA
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen
open Idealize.ShloMosaic
open Idealize.ShloMosaic.TcCoe

/-- Group 0 starts path A with its maximum at its first value. -/
theorem inA_0_0  :
    rcv1 scM0_0.view (kernelRun0_A.sl.HS0_1) ![0, 0, 0] inb_S4x512x1_S1x512x1_0_0_0 = m00 := by
  unfold rcv1 kernelRun0_A.sl.HS0_1
  exact View.readCov_fill scM0_0.view _ _ _ _ (by decide)

/-- Group 1 starts path A with its maximum at its first value. -/
theorem inA_0_1 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    rcv1 scM0_0.view (kernelRun0_A.sl.HS0_2 i arg7 arg8 T0 T1 x0 x1) ![1, 0, 0] inb_S4x512x1_S1x512x1_1_0_0 = m00 := by
  unfold rcv1 kernelRun0_A.sl.HS0_2 kernelRun0_A.sl.HS0_1
  exact (View.readCov_skip scM0_0.view _ _ _ _ (by decide)).trans (View.readCov_fill scM0_0.view _ _ _ _ (by decide))

/-- Group 2 starts path A with its maximum at its first value. -/
theorem inA_0_2 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    rcv1 scM0_0.view (kernelRun0_A.sl.HS0_3 i arg7 arg8 T0 T1 x0 x1) ![2, 0, 0] inb_S4x512x1_S1x512x1_2_0_0 = m00 := by
  unfold rcv1 kernelRun0_A.sl.HS0_3 kernelRun0_A.sl.HS0_2 kernelRun0_A.sl.HS0_1
  exact (View.readCov_skip scM0_0.view _ _ _ _ (by decide)).trans ((View.readCov_skip scM0_0.view _ _ _ _ (by decide)).trans (View.readCov_fill scM0_0.view _ _ _ _ (by decide)))

/-- Group 3 starts path A with its maximum at its first value. -/
theorem inA_0_3 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    rcv1 scM0_0.view (kernelRun0_A.sl.HS0_4 i arg7 arg8 T0 T1 x0 x1) ![3, 0, 0] inb_S4x512x1_S1x512x1_3_0_0 = m00 := by
  unfold rcv1 kernelRun0_A.sl.HS0_4 kernelRun0_A.sl.HS0_3 kernelRun0_A.sl.HS0_2 kernelRun0_A.sl.HS0_1
  exact (View.readCov_skip scM0_0.view _ _ _ _ (by decide)).trans ((View.readCov_skip scM0_0.view _ _ _ _ (by decide)).trans ((View.readCov_skip scM0_0.view _ _ _ _ (by decide)).trans (View.readCov_fill scM0_0.view _ _ _ _ (by decide))))

/-- Group 0 starts path A with its sum at its first value. -/
theorem inA_1_0  :
    rcv1 scM0_1.view (kernelRun0_A.sl.HS1_1) ![0, 0, 0] inb_S4x512x1_S1x512x1_0_0_0 = l00 := by
  unfold rcv1 kernelRun0_A.sl.HS1_1
  exact View.readCov_fill scM0_1.view _ _ _ _ (by decide)

/-- Group 1 starts path A with its sum at its first value. -/
theorem inA_1_1 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    rcv1 scM0_1.view (kernelRun0_A.sl.HS1_2 i arg7 arg8 T0 T1 x0 x1) ![1, 0, 0] inb_S4x512x1_S1x512x1_1_0_0 = l00 := by
  unfold rcv1 kernelRun0_A.sl.HS1_2 kernelRun0_A.sl.HS1_1
  exact (View.readCov_skip scM0_1.view _ _ _ _ (by decide)).trans (View.readCov_fill scM0_1.view _ _ _ _ (by decide))

/-- Group 2 starts path A with its sum at its first value. -/
theorem inA_1_2 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    rcv1 scM0_1.view (kernelRun0_A.sl.HS1_3 i arg7 arg8 T0 T1 x0 x1) ![2, 0, 0] inb_S4x512x1_S1x512x1_2_0_0 = l00 := by
  unfold rcv1 kernelRun0_A.sl.HS1_3 kernelRun0_A.sl.HS1_2 kernelRun0_A.sl.HS1_1
  exact (View.readCov_skip scM0_1.view _ _ _ _ (by decide)).trans ((View.readCov_skip scM0_1.view _ _ _ _ (by decide)).trans (View.readCov_fill scM0_1.view _ _ _ _ (by decide)))

/-- Group 3 starts path A with its sum at its first value. -/
theorem inA_1_3 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    rcv1 scM0_1.view (kernelRun0_A.sl.HS1_4 i arg7 arg8 T0 T1 x0 x1) ![3, 0, 0] inb_S4x512x1_S1x512x1_3_0_0 = l00 := by
  unfold rcv1 kernelRun0_A.sl.HS1_4 kernelRun0_A.sl.HS1_3 kernelRun0_A.sl.HS1_2 kernelRun0_A.sl.HS1_1
  exact (View.readCov_skip scM0_1.view _ _ _ _ (by decide)).trans ((View.readCov_skip scM0_1.view _ _ _ _ (by decide)).trans ((View.readCov_skip scM0_1.view _ _ _ _ (by decide)).trans (View.readCov_fill scM0_1.view _ _ _ _ (by decide))))

/-- Group 0 starts path A with its accumulator at its first value. -/
theorem inA_2_0  :
    rcv2 scM0_2.view (kernelRun0_A.sl.HS2_1) ![0, 0, 0] inb_S4x512x256_S1x512x256_0_0_0 = a00 := by
  unfold rcv2 kernelRun0_A.sl.HS2_1
  exact View.readCov_fill scM0_2.view _ _ _ _ (by decide)

/-- Group 1 starts path A with its accumulator at its first value. -/
theorem inA_2_1 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    rcv2 scM0_2.view (kernelRun0_A.sl.HS2_2 i arg7 arg8 T0 T1 x0 x1) ![1, 0, 0] inb_S4x512x256_S1x512x256_1_0_0 = a00 := by
  unfold rcv2 kernelRun0_A.sl.HS2_2 kernelRun0_A.sl.HS2_1
  exact (View.readCov_skip scM0_2.view _ _ _ _ (by decide)).trans (View.readCov_fill scM0_2.view _ _ _ _ (by decide))

/-- Group 2 starts path A with its accumulator at its first value. -/
theorem inA_2_2 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    rcv2 scM0_2.view (kernelRun0_A.sl.HS2_3 i arg7 arg8 T0 T1 x0 x1) ![2, 0, 0] inb_S4x512x256_S1x512x256_2_0_0 = a00 := by
  unfold rcv2 kernelRun0_A.sl.HS2_3 kernelRun0_A.sl.HS2_2 kernelRun0_A.sl.HS2_1
  exact (View.readCov_skip scM0_2.view _ _ _ _ (by decide)).trans ((View.readCov_skip scM0_2.view _ _ _ _ (by decide)).trans (View.readCov_fill scM0_2.view _ _ _ _ (by decide)))

/-- Group 3 starts path A with its accumulator at its first value. -/
theorem inA_2_3 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    rcv2 scM0_2.view (kernelRun0_A.sl.HS2_4 i arg7 arg8 T0 T1 x0 x1) ![3, 0, 0] inb_S4x512x256_S1x512x256_3_0_0 = a00 := by
  unfold rcv2 kernelRun0_A.sl.HS2_4 kernelRun0_A.sl.HS2_3 kernelRun0_A.sl.HS2_2 kernelRun0_A.sl.HS2_1
  exact (View.readCov_skip scM0_2.view _ _ _ _ (by decide)).trans ((View.readCov_skip scM0_2.view _ _ _ _ (by decide)).trans ((View.readCov_skip scM0_2.view _ _ _ _ (by decide)).trans (View.readCov_fill scM0_2.view _ _ _ _ (by decide))))

/-- The maximum that path A leaves a group. -/
theorem gA_0 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (g : Fin 4) :
    rcv1 scM0_0.view (kernelRun0_A.sl.HS0_5 i arg7 arg8 T0 T1 x0 x1) ![g.val, 0, 0] (inb1 g) = stM (sM (kernelRun0_A.sl.r_3 i T0) (kernelRun0_A.sl.r_4 i T1) x1 (qg x0 g)) m00 := by
  rw [hsA_0 (default : Dev nD) i arg7 arg8 T0 T1 x0 x1, rcv1_stk]
  fin_cases g
  · exact cM (congrArg₂ (sM _ _) (krd_eq arg8 x1) (qrd_eq arg7 x0 0)) (inA_0_0)
  · exact cM (congrArg₂ (sM _ _) (krd_eq arg8 x1) (qrd_eq arg7 x0 1)) (inA_0_1 i arg7 arg8 T0 T1 x0 x1)
  · exact cM (congrArg₂ (sM _ _) (krd_eq arg8 x1) (qrd_eq arg7 x0 2)) (inA_0_2 i arg7 arg8 T0 T1 x0 x1)
  · exact cM (congrArg₂ (sM _ _) (krd_eq arg8 x1) (qrd_eq arg7 x0 3)) (inA_0_3 i arg7 arg8 T0 T1 x0 x1)

/-- The sum that path A leaves a group. -/
theorem gA_1 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (g : Fin 4) :
    rcv1 scM0_1.view (kernelRun0_A.sl.HS1_5 i arg7 arg8 T0 T1 x0 x1) ![g.val, 0, 0] (inb1 g) = stL (sM (kernelRun0_A.sl.r_3 i T0) (kernelRun0_A.sl.r_4 i T1) x1 (qg x0 g)) m00 l00 := by
  rw [hsA_1 (default : Dev nD) i arg7 arg8 T0 T1 x0 x1, rcv1_stk]
  fin_cases g
  · exact cL (congrArg₂ (sM _ _) (krd_eq arg8 x1) (qrd_eq arg7 x0 0)) (inA_0_0) (inA_1_0)
  · exact cL (congrArg₂ (sM _ _) (krd_eq arg8 x1) (qrd_eq arg7 x0 1)) (inA_0_1 i arg7 arg8 T0 T1 x0 x1) (inA_1_1 i arg7 arg8 T0 T1 x0 x1)
  · exact cL (congrArg₂ (sM _ _) (krd_eq arg8 x1) (qrd_eq arg7 x0 2)) (inA_0_2 i arg7 arg8 T0 T1 x0 x1) (inA_1_2 i arg7 arg8 T0 T1 x0 x1)
  · exact cL (congrArg₂ (sM _ _) (krd_eq arg8 x1) (qrd_eq arg7 x0 3)) (inA_0_3 i arg7 arg8 T0 T1 x0 x1) (inA_1_3 i arg7 arg8 T0 T1 x0 x1)

/-- The accumulator that path A leaves a group. -/
theorem gA_2 (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (g : Fin 4) :
    rcv2 scM0_2.view (kernelRun0_A.sl.HS2_5 i arg7 arg8 T0 T1 x0 x1) ![g.val, 0, 0] (inb2 g) = stA (sM (kernelRun0_A.sl.r_3 i T0) (kernelRun0_A.sl.r_4 i T1) x1 (qg x0 g)) x1 m00 a00 := by
  rw [hsA_2 (default : Dev nD) i arg7 arg8 T0 T1 x0 x1, rcv2_stk]
  fin_cases g
  · exact cA (congrArg₂ (sM _ _) (krd_eq arg8 x1) (qrd_eq arg7 x0 0)) (krd_eq arg8 x1) (inA_0_0) (inA_2_0)
  · exact cA (congrArg₂ (sM _ _) (krd_eq arg8 x1) (qrd_eq arg7 x0 1)) (krd_eq arg8 x1) (inA_0_1 i arg7 arg8 T0 T1 x0 x1) (inA_2_1 i arg7 arg8 T0 T1 x0 x1)
  · exact cA (congrArg₂ (sM _ _) (krd_eq arg8 x1) (qrd_eq arg7 x0 2)) (krd_eq arg8 x1) (inA_0_2 i arg7 arg8 T0 T1 x0 x1) (inA_2_2 i arg7 arg8 T0 T1 x0 x1)
  · exact cA (congrArg₂ (sM _ _) (krd_eq arg8 x1) (qrd_eq arg7 x0 3)) (krd_eq arg8 x1) (inA_0_3 i arg7 arg8 T0 T1 x0 x1) (inA_2_3 i arg7 arg8 T0 T1 x0 x1)

/-- The quotients that path A stores. -/
theorem hoA (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) :
    kernelRun0_A.sl.HO2_4 i arg7 arg8 T0 T1 x0 x1 = stk4 (stO (rcv2 scM0_2.view (kernelRun0_A.sl.HS2_5 i arg7 arg8 T0 T1 x0 x1) ![0, 0, 0] inb_S4x512x256_S1x512x256_0_0_0) (rcv1 scM0_1.view (kernelRun0_A.sl.HS1_5 i arg7 arg8 T0 T1 x0 x1) ![0, 0, 0] inb_S4x512x1_S1x512x1_0_0_0)) (stO (rcv2 scM0_2.view (kernelRun0_A.sl.HS2_5 i arg7 arg8 T0 T1 x0 x1) ![1, 0, 0] inb_S4x512x256_S1x512x256_1_0_0) (rcv1 scM0_1.view (kernelRun0_A.sl.HS1_5 i arg7 arg8 T0 T1 x0 x1) ![1, 0, 0] inb_S4x512x1_S1x512x1_1_0_0)) (stO (rcv2 scM0_2.view (kernelRun0_A.sl.HS2_5 i arg7 arg8 T0 T1 x0 x1) ![2, 0, 0] inb_S4x512x256_S1x512x256_2_0_0) (rcv1 scM0_1.view (kernelRun0_A.sl.HS1_5 i arg7 arg8 T0 T1 x0 x1) ![2, 0, 0] inb_S4x512x1_S1x512x1_2_0_0)) (stO (rcv2 scM0_2.view (kernelRun0_A.sl.HS2_5 i arg7 arg8 T0 T1 x0 x1) ![3, 0, 0] inb_S4x512x256_S1x512x256_3_0_0) (rcv1 scM0_1.view (kernelRun0_A.sl.HS1_5 i arg7 arg8 T0 T1 x0 x1) ![3, 0, 0] inb_S4x512x1_S1x512x1_3_0_0)) := rfl

/-- The quotients that path A leaves a group. -/
theorem gA_o (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (g : Fin 4) :
    rcv4 VO0_2 (kernelRun0_A.sl.HO2_4 i arg7 arg8 T0 T1 x0 x1) ![0, 2 * g.val, 0, 0] (inb4 g) = stO (stA (sM (kernelRun0_A.sl.r_3 i T0) (kernelRun0_A.sl.r_4 i T1) x1 (qg x0 g)) x1 m00 a00) (stL (sM (kernelRun0_A.sl.r_3 i T0) (kernelRun0_A.sl.r_4 i T1) x1 (qg x0 g)) m00 l00) := by
  rw [hoA, rcv4_stk, ← gA_1 i arg7 arg8 T0 T1 x0 x1, ← gA_2 i arg7 arg8 T0 T1 x0 x1]
  fin_cases g <;> rfl

end Cert.KernelIdeal.Mla

end
-- ==== Proof.MlaPathB.lean ====
module

public import proofs.«01_k».proof.Proof.MlaStep
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen
open Idealize.ShloMosaic
open Idealize.ShloMosaic.TcCoe

/-- The stores of the running maximum in this path. -/
theorem hsB_0 (c : Dev nD) (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    kernelRun0_B.sl.HS0_5 arg7 arg8 x0 x1 = stk1 (stM (sU (krd arg8 x1) (qrd arg7 x0 ![0, 0, 0, 0] inb_S1x8x256x384_S1x2x256x384_0_0_0_0)) (rcv1 scM0_0.view (kernelRun0_B.sl.HS0_1) ![0, 0, 0] inb_S4x512x1_S1x512x1_0_0_0)) (stM (sU (krd arg8 x1) (qrd arg7 x0 ![0, 2, 0, 0] inb_S1x8x256x384_S1x2x256x384_0_2_0_0)) (rcv1 scM0_0.view (kernelRun0_B.sl.HS0_2 arg7 arg8 x0 x1) ![1, 0, 0] inb_S4x512x1_S1x512x1_1_0_0)) (stM (sU (krd arg8 x1) (qrd arg7 x0 ![0, 4, 0, 0] inb_S1x8x256x384_S1x2x256x384_0_4_0_0)) (rcv1 scM0_0.view (kernelRun0_B.sl.HS0_3 arg7 arg8 x0 x1) ![2, 0, 0] inb_S4x512x1_S1x512x1_2_0_0)) (stM (sU (krd arg8 x1) (qrd arg7 x0 ![0, 6, 0, 0] inb_S1x8x256x384_S1x2x256x384_0_6_0_0)) (rcv1 scM0_0.view (kernelRun0_B.sl.HS0_4 arg7 arg8 x0 x1) ![3, 0, 0] inb_S4x512x1_S1x512x1_3_0_0)) kernelRun0_B.sl.HS0_1 := rfl

/-- The stores of the running sum in this path. -/
theorem hsB_1 (c : Dev nD) (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    kernelRun0_B.sl.HS1_5 arg7 arg8 x0 x1 = stk1 (stL (sU (krd arg8 x1) (qrd arg7 x0 ![0, 0, 0, 0] inb_S1x8x256x384_S1x2x256x384_0_0_0_0)) (rcv1 scM0_0.view (kernelRun0_B.sl.HS0_1) ![0, 0, 0] inb_S4x512x1_S1x512x1_0_0_0) (rcv1 scM0_1.view (kernelRun0_B.sl.HS1_1) ![0, 0, 0] inb_S4x512x1_S1x512x1_0_0_0)) (stL (sU (krd arg8 x1) (qrd arg7 x0 ![0, 2, 0, 0] inb_S1x8x256x384_S1x2x256x384_0_2_0_0)) (rcv1 scM0_0.view (kernelRun0_B.sl.HS0_2 arg7 arg8 x0 x1) ![1, 0, 0] inb_S4x512x1_S1x512x1_1_0_0) (rcv1 scM0_1.view (kernelRun0_B.sl.HS1_2 arg7 arg8 x0 x1) ![1, 0, 0] inb_S4x512x1_S1x512x1_1_0_0)) (stL (sU (krd arg8 x1) (qrd arg7 x0 ![0, 4, 0, 0] inb_S1x8x256x384_S1x2x256x384_0_4_0_0)) (rcv1 scM0_0.view (kernelRun0_B.sl.HS0_3 arg7 arg8 x0 x1) ![2, 0, 0] inb_S4x512x1_S1x512x1_2_0_0) (rcv1 scM0_1.view (kernelRun0_B.sl.HS1_3 arg7 arg8 x0 x1) ![2, 0, 0] inb_S4x512x1_S1x512x1_2_0_0)) (stL (sU (krd arg8 x1) (qrd arg7 x0 ![0, 6, 0, 0] inb_S1x8x256x384_S1x2x256x384_0_6_0_0)) (rcv1 scM0_0.view (kernelRun0_B.sl.HS0_4 arg7 arg8 x0 x1) ![3, 0, 0] inb_S4x512x1_S1x512x1_3_0_0) (rcv1 scM0_1.view (kernelRun0_B.sl.HS1_4 arg7 arg8 x0 x1) ![3, 0, 0] inb_S4x512x1_S1x512x1_3_0_0)) kernelRun0_B.sl.HS1_1 := rfl

/-- The stores of the accumulator in this path. -/
theorem hsB_2 (c : Dev nD) (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    kernelRun0_B.sl.HS2_5 arg7 arg8 x0 x1 = stk2 (stA (sU (krd arg8 x1) (qrd arg7 x0 ![0, 0, 0, 0] inb_S1x8x256x384_S1x2x256x384_0_0_0_0)) (krd arg8 x1) (rcv1 scM0_0.view (kernelRun0_B.sl.HS0_1) ![0, 0, 0] inb_S4x512x1_S1x512x1_0_0_0) (rcv2 scM0_2.view (kernelRun0_B.sl.HS2_1) ![0, 0, 0] inb_S4x512x256_S1x512x256_0_0_0)) (stA (sU (krd arg8 x1) (qrd arg7 x0 ![0, 2, 0, 0] inb_S1x8x256x384_S1x2x256x384_0_2_0_0)) (krd arg8 x1) (rcv1 scM0_0.view (kernelRun0_B.sl.HS0_2 arg7 arg8 x0 x1) ![1, 0, 0] inb_S4x512x1_S1x512x1_1_0_0) (rcv2 scM0_2.view (kernelRun0_B.sl.HS2_2 arg7 arg8 x0 x1) ![1, 0, 0] inb_S4x512x256_S1x512x256_1_0_0)) (stA (sU (krd arg8 x1) (qrd arg7 x0 ![0, 4, 0, 0] inb_S1x8x256x384_S1x2x256x384_0_4_0_0)) (krd arg8 x1) (rcv1 scM0_0.view (kernelRun0_B.sl.HS0_3 arg7 arg8 x0 x1) ![2, 0, 0] inb_S4x512x1_S1x512x1_2_0_0) (rcv2 scM0_2.view (kernelRun0_B.sl.HS2_3 arg7 arg8 x0 x1) ![2, 0, 0] inb_S4x512x256_S1x512x256_2_0_0)) (stA (sU (krd arg8 x1) (qrd arg7 x0 ![0, 6, 0, 0] inb_S1x8x256x384_S1x2x256x384_0_6_0_0)) (krd arg8 x1) (rcv1 scM0_0.view (kernelRun0_B.sl.HS0_4 arg7 arg8 x0 x1) ![3, 0, 0] inb_S4x512x1_S1x512x1_3_0_0) (rcv2 scM0_2.view (kernelRun0_B.sl.HS2_4 arg7 arg8 x0 x1) ![3, 0, 0] inb_S4x512x256_S1x512x256_3_0_0)) kernelRun0_B.sl.HS2_1 := rfl

end Cert.KernelIdeal.Mla

end
-- ==== Proof.MlaGroupB.lean ====
module

public import proofs.«01_k».proof.Proof.MlaGroup
public import proofs.«01_k».proof.Proof.MlaPathB
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen
open Idealize.ShloMosaic
open Idealize.ShloMosaic.TcCoe

/-- Group 0 starts path B with its maximum at its first value. -/
theorem inB_0_0  :
    rcv1 scM0_0.view (kernelRun0_B.sl.HS0_1) ![0, 0, 0] inb_S4x512x1_S1x512x1_0_0_0 = m00 := by
  unfold rcv1 kernelRun0_B.sl.HS0_1
  exact View.readCov_fill scM0_0.view _ _ _ _ (by decide)

/-- Group 1 starts path B with its maximum at its first value. -/
theorem inB_0_1 (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    rcv1 scM0_0.view (kernelRun0_B.sl.HS0_2 arg7 arg8 x0 x1) ![1, 0, 0] inb_S4x512x1_S1x512x1_1_0_0 = m00 := by
  unfold rcv1 kernelRun0_B.sl.HS0_2 kernelRun0_B.sl.HS0_1
  exact (View.readCov_skip scM0_0.view _ _ _ _ (by decide)).trans (View.readCov_fill scM0_0.view _ _ _ _ (by decide))

/-- Group 2 starts path B with its maximum at its first value. -/
theorem inB_0_2 (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    rcv1 scM0_0.view (kernelRun0_B.sl.HS0_3 arg7 arg8 x0 x1) ![2, 0, 0] inb_S4x512x1_S1x512x1_2_0_0 = m00 := by
  unfold rcv1 kernelRun0_B.sl.HS0_3 kernelRun0_B.sl.HS0_2 kernelRun0_B.sl.HS0_1
  exact (View.readCov_skip scM0_0.view _ _ _ _ (by decide)).trans ((View.readCov_skip scM0_0.view _ _ _ _ (by decide)).trans (View.readCov_fill scM0_0.view _ _ _ _ (by decide)))

/-- Group 3 starts path B with its maximum at its first value. -/
theorem inB_0_3 (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    rcv1 scM0_0.view (kernelRun0_B.sl.HS0_4 arg7 arg8 x0 x1) ![3, 0, 0] inb_S4x512x1_S1x512x1_3_0_0 = m00 := by
  unfold rcv1 kernelRun0_B.sl.HS0_4 kernelRun0_B.sl.HS0_3 kernelRun0_B.sl.HS0_2 kernelRun0_B.sl.HS0_1
  exact (View.readCov_skip scM0_0.view _ _ _ _ (by decide)).trans ((View.readCov_skip scM0_0.view _ _ _ _ (by decide)).trans ((View.readCov_skip scM0_0.view _ _ _ _ (by decide)).trans (View.readCov_fill scM0_0.view _ _ _ _ (by decide))))

/-- Group 0 starts path B with its sum at its first value. -/
theorem inB_1_0  :
    rcv1 scM0_1.view (kernelRun0_B.sl.HS1_1) ![0, 0, 0] inb_S4x512x1_S1x512x1_0_0_0 = l00 := by
  unfold rcv1 kernelRun0_B.sl.HS1_1
  exact View.readCov_fill scM0_1.view _ _ _ _ (by decide)

/-- Group 1 starts path B with its sum at its first value. -/
theorem inB_1_1 (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    rcv1 scM0_1.view (kernelRun0_B.sl.HS1_2 arg7 arg8 x0 x1) ![1, 0, 0] inb_S4x512x1_S1x512x1_1_0_0 = l00 := by
  unfold rcv1 kernelRun0_B.sl.HS1_2 kernelRun0_B.sl.HS1_1
  exact (View.readCov_skip scM0_1.view _ _ _ _ (by decide)).trans (View.readCov_fill scM0_1.view _ _ _ _ (by decide))

/-- Group 2 starts path B with its sum at its first value. -/
theorem inB_1_2 (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    rcv1 scM0_1.view (kernelRun0_B.sl.HS1_3 arg7 arg8 x0 x1) ![2, 0, 0] inb_S4x512x1_S1x512x1_2_0_0 = l00 := by
  unfold rcv1 kernelRun0_B.sl.HS1_3 kernelRun0_B.sl.HS1_2 kernelRun0_B.sl.HS1_1
  exact (View.readCov_skip scM0_1.view _ _ _ _ (by decide)).trans ((View.readCov_skip scM0_1.view _ _ _ _ (by decide)).trans (View.readCov_fill scM0_1.view _ _ _ _ (by decide)))

/-- Group 3 starts path B with its sum at its first value. -/
theorem inB_1_3 (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    rcv1 scM0_1.view (kernelRun0_B.sl.HS1_4 arg7 arg8 x0 x1) ![3, 0, 0] inb_S4x512x1_S1x512x1_3_0_0 = l00 := by
  unfold rcv1 kernelRun0_B.sl.HS1_4 kernelRun0_B.sl.HS1_3 kernelRun0_B.sl.HS1_2 kernelRun0_B.sl.HS1_1
  exact (View.readCov_skip scM0_1.view _ _ _ _ (by decide)).trans ((View.readCov_skip scM0_1.view _ _ _ _ (by decide)).trans ((View.readCov_skip scM0_1.view _ _ _ _ (by decide)).trans (View.readCov_fill scM0_1.view _ _ _ _ (by decide))))

/-- Group 0 starts path B with its accumulator at its first value. -/
theorem inB_2_0  :
    rcv2 scM0_2.view (kernelRun0_B.sl.HS2_1) ![0, 0, 0] inb_S4x512x256_S1x512x256_0_0_0 = a00 := by
  unfold rcv2 kernelRun0_B.sl.HS2_1
  exact View.readCov_fill scM0_2.view _ _ _ _ (by decide)

/-- Group 1 starts path B with its accumulator at its first value. -/
theorem inB_2_1 (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    rcv2 scM0_2.view (kernelRun0_B.sl.HS2_2 arg7 arg8 x0 x1) ![1, 0, 0] inb_S4x512x256_S1x512x256_1_0_0 = a00 := by
  unfold rcv2 kernelRun0_B.sl.HS2_2 kernelRun0_B.sl.HS2_1
  exact (View.readCov_skip scM0_2.view _ _ _ _ (by decide)).trans (View.readCov_fill scM0_2.view _ _ _ _ (by decide))

/-- Group 2 starts path B with its accumulator at its first value. -/
theorem inB_2_2 (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    rcv2 scM0_2.view (kernelRun0_B.sl.HS2_3 arg7 arg8 x0 x1) ![2, 0, 0] inb_S4x512x256_S1x512x256_2_0_0 = a00 := by
  unfold rcv2 kernelRun0_B.sl.HS2_3 kernelRun0_B.sl.HS2_2 kernelRun0_B.sl.HS2_1
  exact (View.readCov_skip scM0_2.view _ _ _ _ (by decide)).trans ((View.readCov_skip scM0_2.view _ _ _ _ (by decide)).trans (View.readCov_fill scM0_2.view _ _ _ _ (by decide)))

/-- Group 3 starts path B with its accumulator at its first value. -/
theorem inB_2_3 (arg7 : Memref sig .tc .vmem S1x8x256x384 .bf16) (arg8 : Memref sig .tc .vmem S1x2048x384 .bf16) (x0 : S1x8x256x384.Idx → Elt Ideal .bf16) (x1 : S1x2048x384.Idx → Elt Ideal .bf16) :
    rcv2 scM0_2.view (kernelRun0_B.sl.HS2_4 arg7 arg8 x0 x1) ![3, 0, 0] inb_S4x512x256_S1x512x256_3_0_0 = a00 := by
  unfold rcv2 kernelRun0_B.sl.HS2_4 kernelRun0_B.sl.HS2_3 kernelRun0_B.sl.HS2_2 kernelRun0_B.sl.HS2_1
  exact (View.readCov_skip scM0_2.view _ _ _ _ (by decide)).trans ((View.readCov_skip scM0_2.view _ _ _ _ (by decide)).trans ((View.readCov_skip scM0_2.view _ _ _ _ (by decide)).trans (View.readCov_fill scM0_2.view _ _ _ _ (by decide))))

/-- The maximum that path B leaves a group. -/
theorem gB_0 (arg7 : Memref sig .tc .vmem S1x8x256x384 .bf16) (arg8 : Memref sig .tc .vmem S1x2048x384 .bf16) (x0 : S1x8x256x384.Idx → Elt Ideal .bf16) (x1 : S1x2048x384.Idx → Elt Ideal .bf16) (g : Fin 4) :
    rcv1 scM0_0.view (kernelRun0_B.sl.HS0_5 arg7 arg8 x0 x1) ![g.val, 0, 0] (inb1 g) = stM (sU x1 (qg x0 g)) m00 := by
  rw [hsB_0 (default : Dev nD) arg7 arg8 x0 x1, rcv1_stk]
  fin_cases g
  · exact cM (congrArg₂ sU (krd_eq arg8 x1) (qrd_eq arg7 x0 0)) (inB_0_0)
  · exact cM (congrArg₂ sU (krd_eq arg8 x1) (qrd_eq arg7 x0 1)) (inB_0_1 arg7 arg8 x0 x1)
  · exact cM (congrArg₂ sU (krd_eq arg8 x1) (qrd_eq arg7 x0 2)) (inB_0_2 arg7 arg8 x0 x1)
  · exact cM (congrArg₂ sU (krd_eq arg8 x1) (qrd_eq arg7 x0 3)) (inB_0_3 arg7 arg8 x0 x1)

/-- The sum that path B leaves a group. -/
theorem gB_1 (arg7 : Memref sig .tc .vmem S1x8x256x384 .bf16) (arg8 : Memref sig .tc .vmem S1x2048x384 .bf16) (x0 : S1x8x256x384.Idx → Elt Ideal .bf16) (x1 : S1x2048x384.Idx → Elt Ideal .bf16) (g : Fin 4) :
    rcv1 scM0_1.view (kernelRun0_B.sl.HS1_5 arg7 arg8 x0 x1) ![g.val, 0, 0] (inb1 g) = stL (sU x1 (qg x0 g)) m00 l00 := by
  rw [hsB_1 (default : Dev nD) arg7 arg8 x0 x1, rcv1_stk]
  fin_cases g
  · exact cL (congrArg₂ sU (krd_eq arg8 x1) (qrd_eq arg7 x0 0)) (inB_0_0) (inB_1_0)
  · exact cL (congrArg₂ sU (krd_eq arg8 x1) (qrd_eq arg7 x0 1)) (inB_0_1 arg7 arg8 x0 x1) (inB_1_1 arg7 arg8 x0 x1)
  · exact cL (congrArg₂ sU (krd_eq arg8 x1) (qrd_eq arg7 x0 2)) (inB_0_2 arg7 arg8 x0 x1) (inB_1_2 arg7 arg8 x0 x1)
  · exact cL (congrArg₂ sU (krd_eq arg8 x1) (qrd_eq arg7 x0 3)) (inB_0_3 arg7 arg8 x0 x1) (inB_1_3 arg7 arg8 x0 x1)

/-- The accumulator that path B leaves a group. -/
theorem gB_2 (arg7 : Memref sig .tc .vmem S1x8x256x384 .bf16) (arg8 : Memref sig .tc .vmem S1x2048x384 .bf16) (x0 : S1x8x256x384.Idx → Elt Ideal .bf16) (x1 : S1x2048x384.Idx → Elt Ideal .bf16) (g : Fin 4) :
    rcv2 scM0_2.view (kernelRun0_B.sl.HS2_5 arg7 arg8 x0 x1) ![g.val, 0, 0] (inb2 g) = stA (sU x1 (qg x0 g)) x1 m00 a00 := by
  rw [hsB_2 (default : Dev nD) arg7 arg8 x0 x1, rcv2_stk]
  fin_cases g
  · exact cA (congrArg₂ sU (krd_eq arg8 x1) (qrd_eq arg7 x0 0)) (krd_eq arg8 x1) (inB_0_0) (inB_2_0)
  · exact cA (congrArg₂ sU (krd_eq arg8 x1) (qrd_eq arg7 x0 1)) (krd_eq arg8 x1) (inB_0_1 arg7 arg8 x0 x1) (inB_2_1 arg7 arg8 x0 x1)
  · exact cA (congrArg₂ sU (krd_eq arg8 x1) (qrd_eq arg7 x0 2)) (krd_eq arg8 x1) (inB_0_2 arg7 arg8 x0 x1) (inB_2_2 arg7 arg8 x0 x1)
  · exact cA (congrArg₂ sU (krd_eq arg8 x1) (qrd_eq arg7 x0 3)) (krd_eq arg8 x1) (inB_0_3 arg7 arg8 x0 x1) (inB_2_3 arg7 arg8 x0 x1)

end Cert.KernelIdeal.Mla

end
-- ==== Proof.MlaPathC.lean ====
module

public import proofs.«01_k».proof.Proof.MlaStep
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen
open Idealize.ShloMosaic
open Idealize.ShloMosaic.TcCoe

/-- The stores of the running maximum in this path. -/
theorem hsC_0 (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    kernelRun0_C.sl.HS0_4 c i arg7 arg8 T0 T1 x0 x1 xa0 = stk1 (stM (sM (kernelRun0_C.sl.r_3 i T0) (kernelRun0_C.sl.r_4 i T1) (krd arg8 x1) (qrd arg7 x0 ![0, 0, 0, 0] inb_S1x8x256x384_S1x2x256x384_0_0_0_0)) (crd1 scM0_0.view xa0 ![0, 0, 0] inb_S4x512x1_S1x512x1_0_0_0)) (stM (sM (kernelRun0_C.sl.r_3 i T0) (kernelRun0_C.sl.r_4 i T1) (krd arg8 x1) (qrd arg7 x0 ![0, 2, 0, 0] inb_S1x8x256x384_S1x2x256x384_0_2_0_0)) (crd1 scM0_0.view xa0 ![1, 0, 0] inb_S4x512x1_S1x512x1_1_0_0)) (stM (sM (kernelRun0_C.sl.r_3 i T0) (kernelRun0_C.sl.r_4 i T1) (krd arg8 x1) (qrd arg7 x0 ![0, 4, 0, 0] inb_S1x8x256x384_S1x2x256x384_0_4_0_0)) (crd1 scM0_0.view xa0 ![2, 0, 0] inb_S4x512x1_S1x512x1_2_0_0)) (stM (sM (kernelRun0_C.sl.r_3 i T0) (kernelRun0_C.sl.r_4 i T1) (krd arg8 x1) (qrd arg7 x0 ![0, 6, 0, 0] inb_S1x8x256x384_S1x2x256x384_0_6_0_0)) (crd1 scM0_0.view xa0 ![3, 0, 0] inb_S4x512x1_S1x512x1_3_0_0)) [] := rfl

/-- The stores of the running sum in this path. -/
theorem hsC_1 (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    kernelRun0_C.sl.HS1_4 c i arg7 arg8 T0 T1 x0 x1 xa0 xa1 = stk1 (stL (sM (kernelRun0_C.sl.r_3 i T0) (kernelRun0_C.sl.r_4 i T1) (krd arg8 x1) (qrd arg7 x0 ![0, 0, 0, 0] inb_S1x8x256x384_S1x2x256x384_0_0_0_0)) (crd1 scM0_0.view xa0 ![0, 0, 0] inb_S4x512x1_S1x512x1_0_0_0) (crd1 scM0_1.view xa1 ![0, 0, 0] inb_S4x512x1_S1x512x1_0_0_0)) (stL (sM (kernelRun0_C.sl.r_3 i T0) (kernelRun0_C.sl.r_4 i T1) (krd arg8 x1) (qrd arg7 x0 ![0, 2, 0, 0] inb_S1x8x256x384_S1x2x256x384_0_2_0_0)) (crd1 scM0_0.view xa0 ![1, 0, 0] inb_S4x512x1_S1x512x1_1_0_0) (crd1 scM0_1.view xa1 ![1, 0, 0] inb_S4x512x1_S1x512x1_1_0_0)) (stL (sM (kernelRun0_C.sl.r_3 i T0) (kernelRun0_C.sl.r_4 i T1) (krd arg8 x1) (qrd arg7 x0 ![0, 4, 0, 0] inb_S1x8x256x384_S1x2x256x384_0_4_0_0)) (crd1 scM0_0.view xa0 ![2, 0, 0] inb_S4x512x1_S1x512x1_2_0_0) (crd1 scM0_1.view xa1 ![2, 0, 0] inb_S4x512x1_S1x512x1_2_0_0)) (stL (sM (kernelRun0_C.sl.r_3 i T0) (kernelRun0_C.sl.r_4 i T1) (krd arg8 x1) (qrd arg7 x0 ![0, 6, 0, 0] inb_S1x8x256x384_S1x2x256x384_0_6_0_0)) (crd1 scM0_0.view xa0 ![3, 0, 0] inb_S4x512x1_S1x512x1_3_0_0) (crd1 scM0_1.view xa1 ![3, 0, 0] inb_S4x512x1_S1x512x1_3_0_0)) [] := rfl

/-- The stores of the accumulator in this path. -/
theorem hsC_2 (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    kernelRun0_C.sl.HS2_4 c i arg7 arg8 T0 T1 x0 x1 xa0 xa2 = stk2 (stA (sM (kernelRun0_C.sl.r_3 i T0) (kernelRun0_C.sl.r_4 i T1) (krd arg8 x1) (qrd arg7 x0 ![0, 0, 0, 0] inb_S1x8x256x384_S1x2x256x384_0_0_0_0)) (krd arg8 x1) (crd1 scM0_0.view xa0 ![0, 0, 0] inb_S4x512x1_S1x512x1_0_0_0) (crd2 scM0_2.view xa2 ![0, 0, 0] inb_S4x512x256_S1x512x256_0_0_0)) (stA (sM (kernelRun0_C.sl.r_3 i T0) (kernelRun0_C.sl.r_4 i T1) (krd arg8 x1) (qrd arg7 x0 ![0, 2, 0, 0] inb_S1x8x256x384_S1x2x256x384_0_2_0_0)) (krd arg8 x1) (crd1 scM0_0.view xa0 ![1, 0, 0] inb_S4x512x1_S1x512x1_1_0_0) (crd2 scM0_2.view xa2 ![1, 0, 0] inb_S4x512x256_S1x512x256_1_0_0)) (stA (sM (kernelRun0_C.sl.r_3 i T0) (kernelRun0_C.sl.r_4 i T1) (krd arg8 x1) (qrd arg7 x0 ![0, 4, 0, 0] inb_S1x8x256x384_S1x2x256x384_0_4_0_0)) (krd arg8 x1) (crd1 scM0_0.view xa0 ![2, 0, 0] inb_S4x512x1_S1x512x1_2_0_0) (crd2 scM0_2.view xa2 ![2, 0, 0] inb_S4x512x256_S1x512x256_2_0_0)) (stA (sM (kernelRun0_C.sl.r_3 i T0) (kernelRun0_C.sl.r_4 i T1) (krd arg8 x1) (qrd arg7 x0 ![0, 6, 0, 0] inb_S1x8x256x384_S1x2x256x384_0_6_0_0)) (krd arg8 x1) (crd1 scM0_0.view xa0 ![3, 0, 0] inb_S4x512x1_S1x512x1_3_0_0) (crd2 scM0_2.view xa2 ![3, 0, 0] inb_S4x512x256_S1x512x256_3_0_0)) [] := rfl

end Cert.KernelIdeal.Mla

end
-- ==== Proof.MlaGroupC.lean ====
module

public import proofs.«01_k».proof.Proof.MlaGroup
public import proofs.«01_k».proof.Proof.MlaPathC
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen
open Idealize.ShloMosaic
open Idealize.ShloMosaic.TcCoe

/-- The maximum that path C leaves a group. -/
theorem gC_0 (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (g : Fin 4) :
    rcv1 scM0_0.view (kernelRun0_C.sl.HS0_4 c i arg7 arg8 T0 T1 x0 x1 xa0) ![g.val, 0, 0] (inb1 g) = stM (sM (kernelRun0_C.sl.r_3 i T0) (kernelRun0_C.sl.r_4 i T1) x1 (qg x0 g)) (crd1 scM0_0.view xa0 ![g.val, 0, 0] (inb1 g)) := by
  rw [hsC_0 c i arg7 arg8 T0 T1 x0 x1 xa0 xa1 xa2, rcv1_stk]
  fin_cases g
  · exact cM (congrArg₂ (sM _ _) (krd_eq arg8 x1) (qrd_eq arg7 x0 0)) rfl
  · exact cM (congrArg₂ (sM _ _) (krd_eq arg8 x1) (qrd_eq arg7 x0 1)) rfl
  · exact cM (congrArg₂ (sM _ _) (krd_eq arg8 x1) (qrd_eq arg7 x0 2)) rfl
  · exact cM (congrArg₂ (sM _ _) (krd_eq arg8 x1) (qrd_eq arg7 x0 3)) rfl

/-- The sum that path C leaves a group. -/
theorem gC_1 (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (g : Fin 4) :
    rcv1 scM0_1.view (kernelRun0_C.sl.HS1_4 c i arg7 arg8 T0 T1 x0 x1 xa0 xa1) ![g.val, 0, 0] (inb1 g) = stL (sM (kernelRun0_C.sl.r_3 i T0) (kernelRun0_C.sl.r_4 i T1) x1 (qg x0 g)) (crd1 scM0_0.view xa0 ![g.val, 0, 0] (inb1 g)) (crd1 scM0_1.view xa1 ![g.val, 0, 0] (inb1 g)) := by
  rw [hsC_1 c i arg7 arg8 T0 T1 x0 x1 xa0 xa1 xa2, rcv1_stk]
  fin_cases g
  · exact cL (congrArg₂ (sM _ _) (krd_eq arg8 x1) (qrd_eq arg7 x0 0)) rfl rfl
  · exact cL (congrArg₂ (sM _ _) (krd_eq arg8 x1) (qrd_eq arg7 x0 1)) rfl rfl
  · exact cL (congrArg₂ (sM _ _) (krd_eq arg8 x1) (qrd_eq arg7 x0 2)) rfl rfl
  · exact cL (congrArg₂ (sM _ _) (krd_eq arg8 x1) (qrd_eq arg7 x0 3)) rfl rfl

/-- The accumulator that path C leaves a group. -/
theorem gC_2 (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (g : Fin 4) :
    rcv2 scM0_2.view (kernelRun0_C.sl.HS2_4 c i arg7 arg8 T0 T1 x0 x1 xa0 xa2) ![g.val, 0, 0] (inb2 g) = stA (sM (kernelRun0_C.sl.r_3 i T0) (kernelRun0_C.sl.r_4 i T1) x1 (qg x0 g)) x1 (crd1 scM0_0.view xa0 ![g.val, 0, 0] (inb1 g)) (crd2 scM0_2.view xa2 ![g.val, 0, 0] (inb2 g)) := by
  rw [hsC_2 c i arg7 arg8 T0 T1 x0 x1 xa0 xa1 xa2, rcv2_stk]
  fin_cases g
  · exact cA (congrArg₂ (sM _ _) (krd_eq arg8 x1) (qrd_eq arg7 x0 0)) (krd_eq arg8 x1) rfl rfl
  · exact cA (congrArg₂ (sM _ _) (krd_eq arg8 x1) (qrd_eq arg7 x0 1)) (krd_eq arg8 x1) rfl rfl
  · exact cA (congrArg₂ (sM _ _) (krd_eq arg8 x1) (qrd_eq arg7 x0 2)) (krd_eq arg8 x1) rfl rfl
  · exact cA (congrArg₂ (sM _ _) (krd_eq arg8 x1) (qrd_eq arg7 x0 3)) (krd_eq arg8 x1) rfl rfl

/-- The quotients that path C stores. -/
theorem hoC (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    kernelRun0_C.sl.HO2_4 c i arg7 arg8 T0 T1 x0 x1 xa0 xa1 xa2 = stk4 (stO (rcv2 scM0_2.view (kernelRun0_C.sl.HS2_4 c i arg7 arg8 T0 T1 x0 x1 xa0 xa2) ![0, 0, 0] inb_S4x512x256_S1x512x256_0_0_0) (rcv1 scM0_1.view (kernelRun0_C.sl.HS1_4 c i arg7 arg8 T0 T1 x0 x1 xa0 xa1) ![0, 0, 0] inb_S4x512x1_S1x512x1_0_0_0)) (stO (rcv2 scM0_2.view (kernelRun0_C.sl.HS2_4 c i arg7 arg8 T0 T1 x0 x1 xa0 xa2) ![1, 0, 0] inb_S4x512x256_S1x512x256_1_0_0) (rcv1 scM0_1.view (kernelRun0_C.sl.HS1_4 c i arg7 arg8 T0 T1 x0 x1 xa0 xa1) ![1, 0, 0] inb_S4x512x1_S1x512x1_1_0_0)) (stO (rcv2 scM0_2.view (kernelRun0_C.sl.HS2_4 c i arg7 arg8 T0 T1 x0 x1 xa0 xa2) ![2, 0, 0] inb_S4x512x256_S1x512x256_2_0_0) (rcv1 scM0_1.view (kernelRun0_C.sl.HS1_4 c i arg7 arg8 T0 T1 x0 x1 xa0 xa1) ![2, 0, 0] inb_S4x512x1_S1x512x1_2_0_0)) (stO (rcv2 scM0_2.view (kernelRun0_C.sl.HS2_4 c i arg7 arg8 T0 T1 x0 x1 xa0 xa2) ![3, 0, 0] inb_S4x512x256_S1x512x256_3_0_0) (rcv1 scM0_1.view (kernelRun0_C.sl.HS1_4 c i arg7 arg8 T0 T1 x0 x1 xa0 xa1) ![3, 0, 0] inb_S4x512x1_S1x512x1_3_0_0)) := rfl

/-- The quotients that path C leaves a group. -/
theorem gC_o (c : Dev nD) (i : grid0.Coords) (arg7 : Memref sig .tc .vmem S1x8x256x384 .bf16) (arg8 : Memref sig .tc .vmem S1x2048x384 .bf16) (T0 T1 : S80.Idx → Elt Ideal .i32) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (g : Fin 4) :
    rcv4 VO0_2 (kernelRun0_C.sl.HO2_4 c i arg7 arg8 T0 T1 x0 x1 xa0 xa1 xa2) ![0, 2 * g.val, 0, 0] (inb4 g) = stO (stA (sM (kernelRun0_C.sl.r_3 i T0) (kernelRun0_C.sl.r_4 i T1) x1 (qg x0 g)) x1 (crd1 scM0_0.view xa0 ![g.val, 0, 0] (inb1 g)) (crd2 scM0_2.view xa2 ![g.val, 0, 0] (inb2 g))) (stL (sM (kernelRun0_C.sl.r_3 i T0) (kernelRun0_C.sl.r_4 i T1) x1 (qg x0 g)) (crd1 scM0_0.view xa0 ![g.val, 0, 0] (inb1 g)) (crd1 scM0_1.view xa1 ![g.val, 0, 0] (inb1 g))) := by
  rw [hoC, rcv4_stk, ← gC_1 c i arg7 arg8 T0 T1 x0 x1 xa0 xa1 xa2, ← gC_2 c i arg7 arg8 T0 T1 x0 x1 xa0 xa1 xa2]
  fin_cases g <;> rfl

end Cert.KernelIdeal.Mla

end
-- ==== Proof.MlaPathD.lean ====
module

public import proofs.«01_k».proof.Proof.MlaStep
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen
open Idealize.ShloMosaic
open Idealize.ShloMosaic.TcCoe

/-- The stores of the running maximum in this path. -/
theorem hsD_0 (c : Dev nD) (arg7 : Memref sig .tc .vmem S1x8x256x384 .bf16) (arg8 : Memref sig .tc .vmem S1x2048x384 .bf16) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    kernelRun0_D.sl.HS0_4 c arg7 arg8 x0 x1 xa0 = stk1 (stM (sU (krd arg8 x1) (qrd arg7 x0 ![0, 0, 0, 0] inb_S1x8x256x384_S1x2x256x384_0_0_0_0)) (crd1 scM0_0.view xa0 ![0, 0, 0] inb_S4x512x1_S1x512x1_0_0_0)) (stM (sU (krd arg8 x1) (qrd arg7 x0 ![0, 2, 0, 0] inb_S1x8x256x384_S1x2x256x384_0_2_0_0)) (crd1 scM0_0.view xa0 ![1, 0, 0] inb_S4x512x1_S1x512x1_1_0_0)) (stM (sU (krd arg8 x1) (qrd arg7 x0 ![0, 4, 0, 0] inb_S1x8x256x384_S1x2x256x384_0_4_0_0)) (crd1 scM0_0.view xa0 ![2, 0, 0] inb_S4x512x1_S1x512x1_2_0_0)) (stM (sU (krd arg8 x1) (qrd arg7 x0 ![0, 6, 0, 0] inb_S1x8x256x384_S1x2x256x384_0_6_0_0)) (crd1 scM0_0.view xa0 ![3, 0, 0] inb_S4x512x1_S1x512x1_3_0_0)) [] := rfl

/-- The stores of the running sum in this path. -/
theorem hsD_1 (c : Dev nD) (arg7 : Memref sig .tc .vmem S1x8x256x384 .bf16) (arg8 : Memref sig .tc .vmem S1x2048x384 .bf16) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    kernelRun0_D.sl.HS1_4 c arg7 arg8 x0 x1 xa0 xa1 = stk1 (stL (sU (krd arg8 x1) (qrd arg7 x0 ![0, 0, 0, 0] inb_S1x8x256x384_S1x2x256x384_0_0_0_0)) (crd1 scM0_0.view xa0 ![0, 0, 0] inb_S4x512x1_S1x512x1_0_0_0) (crd1 scM0_1.view xa1 ![0, 0, 0] inb_S4x512x1_S1x512x1_0_0_0)) (stL (sU (krd arg8 x1) (qrd arg7 x0 ![0, 2, 0, 0] inb_S1x8x256x384_S1x2x256x384_0_2_0_0)) (crd1 scM0_0.view xa0 ![1, 0, 0] inb_S4x512x1_S1x512x1_1_0_0) (crd1 scM0_1.view xa1 ![1, 0, 0] inb_S4x512x1_S1x512x1_1_0_0)) (stL (sU (krd arg8 x1) (qrd arg7 x0 ![0, 4, 0, 0] inb_S1x8x256x384_S1x2x256x384_0_4_0_0)) (crd1 scM0_0.view xa0 ![2, 0, 0] inb_S4x512x1_S1x512x1_2_0_0) (crd1 scM0_1.view xa1 ![2, 0, 0] inb_S4x512x1_S1x512x1_2_0_0)) (stL (sU (krd arg8 x1) (qrd arg7 x0 ![0, 6, 0, 0] inb_S1x8x256x384_S1x2x256x384_0_6_0_0)) (crd1 scM0_0.view xa0 ![3, 0, 0] inb_S4x512x1_S1x512x1_3_0_0) (crd1 scM0_1.view xa1 ![3, 0, 0] inb_S4x512x1_S1x512x1_3_0_0)) [] := rfl

/-- The stores of the accumulator in this path. -/
theorem hsD_2 (c : Dev nD) (arg7 : Memref sig .tc .vmem S1x8x256x384 .bf16) (arg8 : Memref sig .tc .vmem S1x2048x384 .bf16) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    kernelRun0_D.sl.HS2_4 c arg7 arg8 x0 x1 xa0 xa2 = stk2 (stA (sU (krd arg8 x1) (qrd arg7 x0 ![0, 0, 0, 0] inb_S1x8x256x384_S1x2x256x384_0_0_0_0)) (krd arg8 x1) (crd1 scM0_0.view xa0 ![0, 0, 0] inb_S4x512x1_S1x512x1_0_0_0) (crd2 scM0_2.view xa2 ![0, 0, 0] inb_S4x512x256_S1x512x256_0_0_0)) (stA (sU (krd arg8 x1) (qrd arg7 x0 ![0, 2, 0, 0] inb_S1x8x256x384_S1x2x256x384_0_2_0_0)) (krd arg8 x1) (crd1 scM0_0.view xa0 ![1, 0, 0] inb_S4x512x1_S1x512x1_1_0_0) (crd2 scM0_2.view xa2 ![1, 0, 0] inb_S4x512x256_S1x512x256_1_0_0)) (stA (sU (krd arg8 x1) (qrd arg7 x0 ![0, 4, 0, 0] inb_S1x8x256x384_S1x2x256x384_0_4_0_0)) (krd arg8 x1) (crd1 scM0_0.view xa0 ![2, 0, 0] inb_S4x512x1_S1x512x1_2_0_0) (crd2 scM0_2.view xa2 ![2, 0, 0] inb_S4x512x256_S1x512x256_2_0_0)) (stA (sU (krd arg8 x1) (qrd arg7 x0 ![0, 6, 0, 0] inb_S1x8x256x384_S1x2x256x384_0_6_0_0)) (krd arg8 x1) (crd1 scM0_0.view xa0 ![3, 0, 0] inb_S4x512x1_S1x512x1_3_0_0) (crd2 scM0_2.view xa2 ![3, 0, 0] inb_S4x512x256_S1x512x256_3_0_0)) [] := rfl

end Cert.KernelIdeal.Mla

end
-- ==== Proof.MlaGroupD.lean ====
module

public import proofs.«01_k».proof.Proof.MlaGroup
public import proofs.«01_k».proof.Proof.MlaPathD
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen
open Idealize.ShloMosaic
open Idealize.ShloMosaic.TcCoe

/-- The maximum that path D leaves a group. -/
theorem gD_0 (c : Dev nD) (arg7 : Memref sig .tc .vmem S1x8x256x384 .bf16) (arg8 : Memref sig .tc .vmem S1x2048x384 .bf16) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (g : Fin 4) :
    rcv1 scM0_0.view (kernelRun0_D.sl.HS0_4 c arg7 arg8 x0 x1 xa0) ![g.val, 0, 0] (inb1 g) = stM (sU x1 (qg x0 g)) (crd1 scM0_0.view xa0 ![g.val, 0, 0] (inb1 g)) := by
  rw [hsD_0 c arg7 arg8 x0 x1 xa0 xa1 xa2, rcv1_stk]
  fin_cases g
  · exact cM (congrArg₂ sU (krd_eq arg8 x1) (qrd_eq arg7 x0 0)) rfl
  · exact cM (congrArg₂ sU (krd_eq arg8 x1) (qrd_eq arg7 x0 1)) rfl
  · exact cM (congrArg₂ sU (krd_eq arg8 x1) (qrd_eq arg7 x0 2)) rfl
  · exact cM (congrArg₂ sU (krd_eq arg8 x1) (qrd_eq arg7 x0 3)) rfl

/-- The sum that path D leaves a group. -/
theorem gD_1 (c : Dev nD) (arg7 : Memref sig .tc .vmem S1x8x256x384 .bf16) (arg8 : Memref sig .tc .vmem S1x2048x384 .bf16) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (g : Fin 4) :
    rcv1 scM0_1.view (kernelRun0_D.sl.HS1_4 c arg7 arg8 x0 x1 xa0 xa1) ![g.val, 0, 0] (inb1 g) = stL (sU x1 (qg x0 g)) (crd1 scM0_0.view xa0 ![g.val, 0, 0] (inb1 g)) (crd1 scM0_1.view xa1 ![g.val, 0, 0] (inb1 g)) := by
  rw [hsD_1 c arg7 arg8 x0 x1 xa0 xa1 xa2, rcv1_stk]
  fin_cases g
  · exact cL (congrArg₂ sU (krd_eq arg8 x1) (qrd_eq arg7 x0 0)) rfl rfl
  · exact cL (congrArg₂ sU (krd_eq arg8 x1) (qrd_eq arg7 x0 1)) rfl rfl
  · exact cL (congrArg₂ sU (krd_eq arg8 x1) (qrd_eq arg7 x0 2)) rfl rfl
  · exact cL (congrArg₂ sU (krd_eq arg8 x1) (qrd_eq arg7 x0 3)) rfl rfl

/-- The accumulator that path D leaves a group. -/
theorem gD_2 (c : Dev nD) (arg7 : Memref sig .tc .vmem S1x8x256x384 .bf16) (arg8 : Memref sig .tc .vmem S1x2048x384 .bf16) (x0 : S1x8x256x384.Idx → Elt Ideal .bf16) (x1 : S1x2048x384.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (g : Fin 4) :
    rcv2 scM0_2.view (kernelRun0_D.sl.HS2_4 c arg7 arg8 x0 x1 xa0 xa2) ![g.val, 0, 0] (inb2 g) = stA (sU x1 (qg x0 g)) x1 (crd1 scM0_0.view xa0 ![g.val, 0, 0] (inb1 g)) (crd2 scM0_2.view xa2 ![g.val, 0, 0] (inb2 g)) := by
  rw [hsD_2 c arg7 arg8 x0 x1 xa0 xa1 xa2, rcv2_stk]
  fin_cases g
  · exact cA (congrArg₂ sU (krd_eq arg8 x1) (qrd_eq arg7 x0 0)) (krd_eq arg8 x1) rfl rfl
  · exact cA (congrArg₂ sU (krd_eq arg8 x1) (qrd_eq arg7 x0 1)) (krd_eq arg8 x1) rfl rfl
  · exact cA (congrArg₂ sU (krd_eq arg8 x1) (qrd_eq arg7 x0 2)) (krd_eq arg8 x1) rfl rfl
  · exact cA (congrArg₂ sU (krd_eq arg8 x1) (qrd_eq arg7 x0 3)) (krd_eq arg8 x1) rfl rfl

end Cert.KernelIdeal.Mla

end
-- ==== Proof.MlaWalk.lean ====
module

public import proofs.«01_k».proof.Proof.MlaGeo
public import proofs.«01_k».proof.Proof.MlaGroupA
public import proofs.«01_k».proof.Proof.MlaGroupB
public import proofs.«01_k».proof.Proof.MlaGroupC
public import proofs.«01_k».proof.Proof.MlaGroupD

@[expose] public section

set_option maxRecDepth 16384

noncomputable section

namespace Cert.KernelIdeal.Mla

open Cert.KernelIdeal Cert.KernelIdeal.Gen
open Idealize.ShloMosaic
open Idealize.ShloMosaic.TcCoe
open Idealize.ShloMosaic.Pointwise

variable (m : (ℓ : Loc nD τ sig) → Buf (Elt Ideal) ℓ) (ρ : Dev nD → PrngReg)

/-! ## A point's step, group by group -/

/-- A group's maxima in a state. -/
def gM {c : Dev nD} (T : Tr c) (g : Fin 4) : FVec Ideal S1x512x1 .f32 := crd1 scM0_0.view T.2.1 ![g.val, 0, 0] (inb1 g)
/-- A group's sums in a state. -/
def gL {c : Dev nD} (T : Tr c) (g : Fin 4) : FVec Ideal S1x512x1 .f32 := crd1 scM0_1.view T.2.2.1 ![g.val, 0, 0] (inb1 g)
/-- A group's accumulator in a state. -/
def gA {c : Dev nD} (T : Tr c) (g : Fin 4) : FVec Ideal S1x512x256 .f32 := crd2 scM0_2.view T.2.2.2 ![g.val, 0, 0] (inb2 g)

/-- The query block of a point. -/
abbrev qB (c : Dev nD) (t : Fin (cfgA).N) : S1x8x256x384.Idx → Elt Ideal .bf16 := iblk m ρ c (0 : Fin 3) t
/-- The key block of a point. -/
abbrev kB (c : Dev nD) (t : Fin (cfgA).N) : S1x2048x384.Idx → Elt Ideal .bf16 := iblk m ρ c (1 : Fin 3) t

/-- A group's scores at a point, which the last point of its rows masks. -/
def sc (c : Dev nD) (t : Fin (cfgA).N) (g : Fin 4) : FVec Ideal S512x2048 .f32 :=
  if P0_1 t then sU (kB m ρ c t) (qg (qB m ρ c t) g) else sM (w0 t) (w1 t) (kB m ρ c t) (qg (qB m ρ c t) g)

/-- The maxima a point starts from. -/
def pM {c : Dev nD} (t : Fin (cfgA).N) (T : Tr c) (g : Fin 4) : FVec Ideal S1x512x1 .f32 := if P0_0 t then m00 else gM T g
/-- The sums a point starts from. -/
def pL {c : Dev nD} (t : Fin (cfgA).N) (T : Tr c) (g : Fin 4) : FVec Ideal S1x512x1 .f32 := if P0_0 t then l00 else gL T g
/-- The accumulator a point starts from. -/
def pA {c : Dev nD} (t : Fin (cfgA).N) (T : Tr c) (g : Fin 4) : FVec Ideal S1x512x256 .f32 := if P0_0 t then a00 else gA T g

/-- What path A stores of the maxima. -/
theorem stA_0 (c : Dev nD) (t : Fin (cfgA).N) (T : Tr c) (q0 : P0_0 t) (q1 : ¬P0_1 t) :
    (step0 m ρ c t T).2.1 = scM0_0.view.writes (Elt Ideal) scM0_0.view.junk (kernelRun0_A.sl.HS0_5 (crd t) (ms0_0 t) (ms0_1 t) pinT_0 pinT_1 (qB m ρ c t) (kB m ρ c t)) := by
  rw [step0_A m ρ c t T q0 q1]
  dsimp only
  unfold kernelRun0_A
  rfl

/-- What path A stores of the sums. -/
theorem stA_1 (c : Dev nD) (t : Fin (cfgA).N) (T : Tr c) (q0 : P0_0 t) (q1 : ¬P0_1 t) :
    (step0 m ρ c t T).2.2.1 = scM0_1.view.writes (Elt Ideal) scM0_1.view.junk (kernelRun0_A.sl.HS1_5 (crd t) (ms0_0 t) (ms0_1 t) pinT_0 pinT_1 (qB m ρ c t) (kB m ρ c t)) := by
  rw [step0_A m ρ c t T q0 q1]
  dsimp only
  unfold kernelRun0_A
  rfl

/-- What path A stores of the accumulator. -/
theorem stA_2 (c : Dev nD) (t : Fin (cfgA).N) (T : Tr c) (q0 : P0_0 t) (q1 : ¬P0_1 t) :
    (step0 m ρ c t T).2.2.2 = scM0_2.view.writes (Elt Ideal) scM0_2.view.junk (kernelRun0_A.sl.HS2_5 (crd t) (ms0_0 t) (ms0_1 t) pinT_0 pinT_1 (qB m ρ c t) (kB m ρ c t)) := by
  rw [step0_A m ρ c t T q0 q1]
  dsimp only
  unfold kernelRun0_A
  dsimp only

/-- What path A stores of the output block. -/
theorem stA_o (c : Dev nD) (t : Fin (cfgA).N) (T : Tr c) (q0 : P0_0 t) (q1 : ¬P0_1 t) :
    (step0 m ρ c t T).1 = VO0_2.read (Elt Ideal) (VO0_2.writes (Elt Ideal) VO0_2.junk (kernelRun0_A.sl.HO2_4 (crd t) (ms0_0 t) (ms0_1 t) pinT_0 pinT_1 (qB m ρ c t) (kB m ρ c t))) := by
  rw [step0_A m ρ c t T q0 q1]
  dsimp only
  unfold out0_A_2 kernelRun0_A
  rfl

/-- What path B stores of the maxima. -/
theorem stB_0 (c : Dev nD) (t : Fin (cfgA).N) (T : Tr c) (q0 : P0_0 t) (q1 : P0_1 t) :
    (step0 m ρ c t T).2.1 = scM0_0.view.writes (Elt Ideal) scM0_0.view.junk (kernelRun0_B.sl.HS0_5 (ms0_0 t) (ms0_1 t) (qB m ρ c t) (kB m ρ c t)) := by
  rw [step0_B m ρ c t T q0 q1]
  dsimp only
  unfold kernelRun0_B
  rfl

/-- What path B stores of the sums. -/
theorem stB_1 (c : Dev nD) (t : Fin (cfgA).N) (T : Tr c) (q0 : P0_0 t) (q1 : P0_1 t) :
    (step0 m ρ c t T).2.2.1 = scM0_1.view.writes (Elt Ideal) scM0_1.view.junk (kernelRun0_B.sl.HS1_5 (ms0_0 t) (ms0_1 t) (qB m ρ c t) (kB m ρ c t)) := by
  rw [step0_B m ρ c t T q0 q1]
  dsimp only
  unfold kernelRun0_B
  rfl

/-- What path B stores of the accumulator. -/
theorem stB_2 (c : Dev nD) (t : Fin (cfgA).N) (T : Tr c) (q0 : P0_0 t) (q1 : P0_1 t) :
    (step0 m ρ c t T).2.2.2 = scM0_2.view.writes (Elt Ideal) scM0_2.view.junk (kernelRun0_B.sl.HS2_5 (ms0_0 t) (ms0_1 t) (qB m ρ c t) (kB m ρ c t)) := by
  rw [step0_B m ρ c t T q0 q1]
  dsimp only
  unfold kernelRun0_B
  dsimp only

/-- What path C stores of the maxima. -/
theorem stC_0 (c : Dev nD) (t : Fin (cfgA).N) (T : Tr c) (q0 : ¬P0_0 t) (q1 : ¬P0_1 t) :
    (step0 m ρ c t T).2.1 = scM0_0.view.writes (Elt Ideal) scM0_0.view.junk (kernelRun0_C.sl.HS0_4 c (crd t) (ms0_0 t) (ms0_1 t) pinT_0 pinT_1 (qB m ρ c t) (kB m ρ c t) T.2.1) := by
  rw [step0_C m ρ c t T q0 q1]
  dsimp only
  unfold kernelRun0_C
  rfl

/-- What path C stores of the sums. -/
theorem stC_1 (c : Dev nD) (t : Fin (cfgA).N) (T : Tr c) (q0 : ¬P0_0 t) (q1 : ¬P0_1 t) :
    (step0 m ρ c t T).2.2.1 = scM0_1.view.writes (Elt Ideal) scM0_1.view.junk (kernelRun0_C.sl.HS1_4 c (crd t) (ms0_0 t) (ms0_1 t) pinT_0 pinT_1 (qB m ρ c t) (kB m ρ c t) T.2.1 T.2.2.1) := by
  rw [step0_C m ρ c t T q0 q1]
  dsimp only
  unfold kernelRun0_C
  rfl

/-- What path C stores of the accumulator. -/
theorem stC_2 (c : Dev nD) (t : Fin (cfgA).N) (T : Tr c) (q0 : ¬P0_0 t) (q1 : ¬P0_1 t) :
    (step0 m ρ c t T).2.2.2 = scM0_2.view.writes (Elt Ideal) scM0_2.view.junk (kernelRun0_C.sl.HS2_4 c (crd t) (ms0_0 t) (ms0_1 t) pinT_0 pinT_1 (qB m ρ c t) (kB m ρ c t) T.2.1 T.2.2.2) := by
  rw [step0_C m ρ c t T q0 q1]
  dsimp only
  unfold kernelRun0_C
  dsimp only

/-- What path C stores of the output block. -/
theorem stC_o (c : Dev nD) (t : Fin (cfgA).N) (T : Tr c) (q0 : ¬P0_0 t) (q1 : ¬P0_1 t) :
    (step0 m ρ c t T).1 = VO0_2.read (Elt Ideal) (VO0_2.writes (Elt Ideal) VO0_2.junk (kernelRun0_C.sl.HO2_4 c (crd t) (ms0_0 t) (ms0_1 t) pinT_0 pinT_1 (qB m ρ c t) (kB m ρ c t) T.2.1 T.2.2.1 T.2.2.2)) := by
  rw [step0_C m ρ c t T q0 q1]
  dsimp only
  unfold out0_C_2 kernelRun0_C
  rfl

/-- What path D stores of the maxima. -/
theorem stD_0 (c : Dev nD) (t : Fin (cfgA).N) (T : Tr c) (q0 : ¬P0_0 t) (q1 : P0_1 t) :
    (step0 m ρ c t T).2.1 = scM0_0.view.writes (Elt Ideal) scM0_0.view.junk (kernelRun0_D.sl.HS0_4 c (ms0_0 t) (ms0_1 t) (qB m ρ c t) (kB m ρ c t) T.2.1) := by
  rw [step0_D m ρ c t T q0 q1]
  dsimp only
  unfold kernelRun0_D
  rfl

/-- What path D stores of the sums. -/
theorem stD_1 (c : Dev nD) (t : Fin (cfgA).N) (T : Tr c) (q0 : ¬P0_0 t) (q1 : P0_1 t) :
    (step0 m ρ c t T).2.2.1 = scM0_1.view.writes (Elt Ideal) scM0_1.view.junk (kernelRun0_D.sl.HS1_4 c (ms0_0 t) (ms0_1 t) (qB m ρ c t) (kB m ρ c t) T.2.1 T.2.2.1) := by
  rw [step0_D m ρ c t T q0 q1]
  dsimp only
  unfold kernelRun0_D
  rfl

/-- What path D stores of the accumulator. -/
theorem stD_2 (c : Dev nD) (t : Fin (cfgA).N) (T : Tr c) (q0 : ¬P0_0 t) (q1 : P0_1 t) :
    (step0 m ρ c t T).2.2.2 = scM0_2.view.writes (Elt Ideal) scM0_2.view.junk (kernelRun0_D.sl.HS2_4 c (ms0_0 t) (ms0_1 t) (qB m ρ c t) (kB m ρ c t) T.2.1 T.2.2.2) := by
  rw [step0_D m ρ c t T q0 q1]
  dsimp only
  unfold kernelRun0_D
  dsimp only

/-- The maxima a point leaves. -/
theorem gM_step (c : Dev nD) (t : Fin (cfgA).N) (T : Tr c) (g : Fin 4) :
    gM (step0 m ρ c t T) g = stM (sc m ρ c t g) (pM t T g) := by
  unfold gM
  by_cases q0 : P0_0 t <;> by_cases q1 : P0_1 t
  · rw [stB_0 m ρ c t T q0 q1, crd1_writes, sc, pM, if_pos q0, if_pos q1]
    exact gB_0 (ms0_0 t) (ms0_1 t) (qB m ρ c t) (kB m ρ c t) g
  · rw [stA_0 m ρ c t T q0 q1, crd1_writes, sc, pM, if_pos q0, if_neg q1]
    exact gA_0 (crd t) (ms0_0 t) (ms0_1 t) pinT_0 pinT_1 (qB m ρ c t) (kB m ρ c t) g
  · rw [stD_0 m ρ c t T q0 q1, crd1_writes, sc, pM, if_neg q0, if_pos q1]
    exact gD_0 c (ms0_0 t) (ms0_1 t) (qB m ρ c t) (kB m ρ c t) T.2.1 T.2.2.1 T.2.2.2 g
  · rw [stC_0 m ρ c t T q0 q1, crd1_writes, sc, pM, if_neg q0, if_neg q1]
    exact gC_0 c (crd t) (ms0_0 t) (ms0_1 t) pinT_0 pinT_1 (qB m ρ c t) (kB m ρ c t) T.2.1 T.2.2.1 T.2.2.2 g

/-- The sums a point leaves. -/
theorem gL_step (c : Dev nD) (t : Fin (cfgA).N) (T : Tr c) (g : Fin 4) :
    gL (step0 m ρ c t T) g = stL (sc m ρ c t g) (pM t T g) (pL t T g) := by
  unfold gL
  by_cases q0 : P0_0 t <;> by_cases q1 : P0_1 t
  · rw [stB_1 m ρ c t T q0 q1, crd1_writes, sc, pM, pL, if_pos q0, if_pos q0, if_pos q1]
    exact gB_1 (ms0_0 t) (ms0_1 t) (qB m ρ c t) (kB m ρ c t) g
  · rw [stA_1 m ρ c t T q0 q1, crd1_writes, sc, pM, pL, if_pos q0, if_pos q0, if_neg q1]
    exact gA_1 (crd t) (ms0_0 t) (ms0_1 t) pinT_0 pinT_1 (qB m ρ c t) (kB m ρ c t) g
  · rw [stD_1 m ρ c t T q0 q1, crd1_writes, sc, pM, pL, if_neg q0, if_neg q0, if_pos q1]
    exact gD_1 c (ms0_0 t) (ms0_1 t) (qB m ρ c t) (kB m ρ c t) T.2.1 T.2.2.1 T.2.2.2 g
  · rw [stC_1 m ρ c t T q0 q1, crd1_writes, sc, pM, pL, if_neg q0, if_neg q0, if_neg q1]
    exact gC_1 c (crd t) (ms0_0 t) (ms0_1 t) pinT_0 pinT_1 (qB m ρ c t) (kB m ρ c t) T.2.1 T.2.2.1 T.2.2.2 g

/-- The accumulator a point leaves. -/
theorem gA_step (c : Dev nD) (t : Fin (cfgA).N) (T : Tr c) (g : Fin 4) :
    gA (step0 m ρ c t T) g = stA (sc m ρ c t g) (kB m ρ c t) (pM t T g) (pA t T g) := by
  unfold gA
  by_cases q0 : P0_0 t <;> by_cases q1 : P0_1 t
  · rw [stB_2 m ρ c t T q0 q1, crd2_writes, sc, pM, pA, if_pos q0, if_pos q0, if_pos q1]
    exact gB_2 (ms0_0 t) (ms0_1 t) (qB m ρ c t) (kB m ρ c t) g
  · rw [stA_2 m ρ c t T q0 q1, crd2_writes, sc, pM, pA, if_pos q0, if_pos q0, if_neg q1]
    exact gA_2 (crd t) (ms0_0 t) (ms0_1 t) pinT_0 pinT_1 (qB m ρ c t) (kB m ρ c t) g
  · rw [stD_2 m ρ c t T q0 q1, crd2_writes, sc, pM, pA, if_neg q0, if_neg q0, if_pos q1]
    exact gD_2 c (ms0_0 t) (ms0_1 t) (qB m ρ c t) (kB m ρ c t) T.2.1 T.2.2.1 T.2.2.2 g
  · rw [stC_2 m ρ c t T q0 q1, crd2_writes, sc, pM, pA, if_neg q0, if_neg q0, if_neg q1]
    exact gC_2 c (crd t) (ms0_0 t) (ms0_1 t) pinT_0 pinT_1 (qB m ρ c t) (kB m ρ c t) T.2.1 T.2.2.1 T.2.2.2 g

/-- What the last point of its rows leaves in the output block: the quotient of the accumulator and the sum it leaves. -/
theorem out_step (c : Dev nD) (t : Fin (cfgA).N) (T : Tr c) (q1 : ¬P0_1 t) (g : Fin 4) (h : Fin 2) (q d : Fin 256) :
    (step0 m ρ c t T).1 (ix4 0 ⟨2 * g.val + h.val, by omega⟩ q d) = stO (gA (step0 m ρ c t T) g) (gL (step0 m ρ c t T) g) (ix4 0 h q d) := by
  rw [gA_step, gL_step]
  by_cases q0 : P0_0 t
  · rw [stA_o m ρ c t T q0 q1, sc, pM, pL, pA, if_pos q0, if_pos q0, if_pos q0, if_neg q1]
    exact (read_rcv4 VO0_2 _ g h q d).trans (congrFun (gA_o (crd t) (ms0_0 t) (ms0_1 t) pinT_0 pinT_1 (qB m ρ c t) (kB m ρ c t) g) _)
  · rw [stC_o m ρ c t T q0 q1, sc, pM, pL, pA, if_neg q0, if_neg q0, if_neg q0, if_neg q1]
    exact (read_rcv4 VO0_2 _ g h q d).trans (congrFun (gC_o c (crd t) (ms0_0 t) (ms0_1 t) pinT_0 pinT_1 (qB m ρ c t) (kB m ρ c t) T.2.1 T.2.2.1 T.2.2.2 g) _)

end Cert.KernelIdeal.Mla

end
-- ==== Proof.MlaBlk.lean ====
module

public import proofs.«01_k».proof.Proof.MlaGeo
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.Mla

open Cert.KernelIdeal Cert.KernelIdeal.Gen
open Idealize.ShloMosaic
open Idealize.ShloMosaic.TcCoe
open Idealize.ShloMosaic.Pointwise

variable (m : (ℓ : Loc nD τ sig) → Buf (Elt Ideal) ℓ) (ρ : Dev nD → PrngReg)

/-! ## A point's blocks, from the arguments -/

/-- The batch of a point. -/
abbrev bt (t : Fin (cfgA).N) : Fin 2 := ⟨t.val / 80, by have := t.isLt; have : (cfgA).N = 160 := rfl; omega⟩

/-- The query block holds the query rows of the point's block. -/
theorem qB_apply (c : Dev nD) (t : Fin (cfgA).N) (h : Fin 8) (r : Fin 256) (e : Fin 384) :
    (iblk m ρ c (0 : Fin 3) t : S1x8x256x384.Idx → Elt Ideal .bf16) (ix4 0 h r e) =
      (m ((c : Thread nD τ).loc main_arg0) : S2x8x8192x384.Idx → Elt Ideal .bf16)
        (ix4 (bt t) h ⟨(w0 t).toNat * 256 + r.val, by have := (geo t).1; omega⟩ e) := by
  obtain ⟨h0, -, e0, -⟩ := geo t
  have e1 : ((cfgA).win (0 : Fin 3)).index t = ![t.val / 80, 0, (w0 t).toNat, 0] := funext e0
  rw [show iblk m ρ c (0 : Fin 3) t = (((cfgA).win 0).blk t).view.read (Elt Ideal) (V m c main_arg0) from rfl, V_main_arg0]
  show (m ((c : Thread nD τ).loc main_arg0) : S2x8x8192x384.Idx → Elt Ideal .bf16) _ = _
  congr 1
  funext a
  apply Fin.ext
  blk_simp [e1]
  match a with
  | ⟨0, _⟩ => show t.val / 80 * 1 + 0 = t.val / 80; omega
  | ⟨1, _⟩ => show 0 * 8 + h.val = h.val; omega
  | ⟨2, _⟩ => show (w0 t).toNat * 256 + r.val = (w0 t).toNat * 256 + r.val; rfl
  | ⟨3, _⟩ => show 0 * 384 + e.val = e.val; omega

/-- The reshaped keys, element by element. -/
theorem V_v0 (c : Dev nD) (b : Fin 2) (k : Fin 8192) (e : Fin 384) :
    (V m c main_v0 : S2x8192x384.Idx → Elt Ideal .bf16) (ix3 b k e) =
      (m ((c : Thread nD τ).loc main_arg1) : S16384x384.Idx → Elt Ideal .bf16) (ix2 ⟨b.val * 8192 + k.val, by omega⟩ e) := by
  unfold V
  after_reads_at

/-- The key block holds the keys of the point's block. -/
theorem kB_apply (c : Dev nD) (t : Fin (cfgA).N) (j : Fin 2048) (e : Fin 384) :
    (iblk m ρ c (1 : Fin 3) t : S1x2048x384.Idx → Elt Ideal .bf16) (ix3 0 j e) =
      (m ((c : Thread nD τ).loc main_arg1) : S16384x384.Idx → Elt Ideal .bf16)
        (ix2 ⟨(bt t).val * 8192 + ((w1 t).toNat * 2048 + j.val), by have := (geo t).2.1; have := (bt t).isLt; omega⟩ e) := by
  obtain ⟨-, h1, -, e0, -⟩ := geo t
  have e1 : ((cfgA).win (1 : Fin 3)).index t = ![t.val / 80, (w1 t).toNat, 0] := funext e0
  refine Eq.trans ?_ (V_v0 m c (bt t) ⟨(w1 t).toNat * 2048 + j.val, by omega⟩ e)
  rw [show iblk m ρ c (1 : Fin 3) t = (((cfgA).win 1).blk t).view.read (Elt Ideal) (V m c main_v0) from rfl]
  show (V m c main_v0 : S2x8192x384.Idx → Elt Ideal .bf16) _ = _
  congr 1
  funext a
  apply Fin.ext
  blk_simp [e1]
  match a with
  | ⟨0, _⟩ => show t.val / 80 * 1 + 0 = t.val / 80; omega
  | ⟨1, _⟩ => show (w1 t).toNat * 2048 + j.val = (w1 t).toNat * 2048 + j.val; rfl
  | ⟨2, _⟩ => show 0 * 384 + e.val = e.val; omega

end Cert.KernelIdeal.Mla

end
-- ==== Proof.MlaRow.lean ====
module

public import proofs.«01_k».proof.Proof.MlaStep
public import Idealize.ShloMosaic.Lib.Pointwise
public import Idealize.ShloMosaic.Lib.IdealHost

@[expose] public section

set_option maxRecDepth 16384

noncomputable section

namespace Cert.KernelIdeal.Mla

open Cert.KernelIdeal Cert.KernelIdeal.Gen
open Idealize.ShloMosaic
open Idealize.ShloMosaic.TcCoe
open Idealize.ShloMosaic.Pointwise

/-- The running maximum of a row. -/
theorem mx_row (s : FVec Ideal S512x2048 .f32) (m : FVec Ideal S1x512x1 .f32) (r : Fin 512) :
    mx s m (ix2 r 0) =
      max (m (ix3 0 r 0)) (Finset.fold max (Ideal.ofBits FTy.f32 4286578688#32) (fun x => s (ix2 r x)) Finset.univ) := by
  pointwise [mx]

/-- The rescaling of a row. -/
theorem al_row (s : FVec Ideal S512x2048 .f32) (m : FVec Ideal S1x512x1 .f32) (r : Fin 512) :
    al s m (ix2 r 0) =
      Ideal.exp (m (ix3 0 r 0) - mx s m (ix2 r 0)) := by
  pointwise [al]

/-- The weight of a key in a row. -/
theorem ew_row (s : FVec Ideal S512x2048 .f32) (m : FVec Ideal S1x512x1 .f32) (r : Fin 512) (j : Fin 2048) :
    ew s m (ix2 r j) =
      Ideal.exp (s (ix2 r j) - mx s m (ix2 r 0)) := by
  pointwise [ew]

/-- The stored maximum of a row. -/
theorem stM_row (s : FVec Ideal S512x2048 .f32) (m : FVec Ideal S1x512x1 .f32) (r : Fin 512) :
    stM s m (ix3 0 r 0) =
      mx s m (ix2 r 0) := by
  pointwise [stM]

/-- The stored sum of a row. -/
theorem stL_row (s : FVec Ideal S512x2048 .f32) (m l : FVec Ideal S1x512x1 .f32) (r : Fin 512) :
    stL s m l (ix3 0 r 0) =
      al s m (ix2 r 0) * l (ix3 0 r 0) + ∑ x, ew s m (ix2 r x) := by
  pointwise [stL]

/-- The stored accumulator of a row. -/
theorem stA_row (s : FVec Ideal S512x2048 .f32) (k : FVec Ideal S1x2048x384 .bf16) (m : FVec Ideal S1x512x1 .f32) (a : FVec Ideal S1x512x256 .f32) (r : Fin 512) (d : Fin 256) :
    stA s k m a (ix3 0 r d) =
      al s m (ix2 r 0) * a (ix3 0 r d) + ∑ x, ew s m (ix2 r x) * k (ix3 0 x ⟨d.val, by omega⟩) := by
  pointwise [stA, k0_pay10, k0_pay9]

/-- The quotient of a row. -/
theorem stO_row (a : FVec Ideal S1x512x256 .f32) (l : FVec Ideal S1x512x1 .f32) (h : Fin 2) (q : Fin 256) (d : Fin 256) :
    stO a l (ix4 0 h q d) =
      Ideal.div (a (ix3 0 ⟨h.val * 256 + q.val, by omega⟩ d)) (l (ix3 0 ⟨h.val * 256 + q.val, by omega⟩ 0)) := by
  pointwise [stO, k0_pay8]

/-- A score of a row. -/
theorem sU_row (k : FVec Ideal S1x2048x384 .bf16) (x : FVec Ideal S1x2x256x384 .bf16) (r : Fin 512) (j : Fin 2048) :
    sU k x (ix2 r j) =
      ∑ e : Fin 384, x (ix4 0 ⟨r.val / 256, by omega⟩ ⟨r.val % 256, by omega⟩ e) * k (ix3 0 j e) := by
  pointwise [sU, k0_pay11, k0_pay9]

/-- A masked score of a row. -/
theorem sM_row (w0 w1 : BitVec 32) (k : FVec Ideal S1x2048x384 .bf16) (x : FVec Ideal S1x2x256x384 .bf16) (r : Fin 512) (j : Fin 2048) :
    sM w0 w1 k x (ix2 r j) =
      Scalar.select
      (IntOp.cmpi CmpIPredicate.sle (IntOp.addi (Scalar.addi (Scalar.muli w1 2048#32) 0#32) (BitVec.ofNat 32 j.val))
        (IntOp.addi (Scalar.muli w0 256#32) (IntOp.andi (BitVec.ofNat 32 r.val) 255#32)))
      (sU k x (ix2 r j)) (Named.named κ "mask" (φ := .f32) 4048155338#32) := by
  pointwise [sM, k0_pay46]

end Cert.KernelIdeal.Mla

end
-- ==== Proof.MlaMask.lean ====
module

public import proofs.«01_k».proof.Proof.MlaRow
public import proofs.«01_k».proof.Proof.MlaMath
public import Idealize.ShloMosaic.Lib.Affine
public import Idealize.ShloMosaic.Lib.WordCmp
public import Idealize.ShloMosaic.PureOps.IdealRules

@[expose] public section

set_option maxRecDepth 16384

noncomputable section

namespace Cert.KernelIdeal.Mla

open Cert.KernelIdeal Cert.KernelIdeal.Gen
open Idealize.ShloMosaic
open Idealize.ShloMosaic.TcCoe
open Idealize.ShloMosaic.Pointwise

/-! ## The mask and the constants -/

/-- The masked score is −∞. -/
theorem mask_eq : Named.named (F := Ideal) κ "mask" (φ := .f32) 4048155338#32 = (⊥ : EReal) :=
  IdealRules.named_const.ideal_named_scalar κ "mask" _ _ rfl

/-- The maximum starts at −∞. -/
theorem neg_inf : Ideal.ofBits FTy.f32 4286578688#32 = (⊥ : EReal) := by
  simp [Ideal.ofBits, Ideal.ieee]

/-- The causal test holds exactly when the key's position is not behind the query's. -/
theorem cond_iff (w0 w1 : BitVec 32) (h0 : w0.toNat < 32) (h1 : w1.toNat < 4) (r : Fin 512) (j : Fin 2048) :
    IntOp.cmpi CmpIPredicate.sle (IntOp.addi (Scalar.addi (Scalar.muli w1 2048#32) 0#32) (BitVec.ofNat 32 j.val))
        (IntOp.addi (Scalar.muli w0 256#32) (IntOp.andi (BitVec.ofNat 32 r.val) 255#32)) = 1#1 ↔
      w1.toNat * 2048 + j.val ≤ w0.toNat * 256 + r.val % 256 := by
  have hr := r.isLt
  have hj := j.isLt
  have hand : (BitVec.ofNat 32 r.val &&& 255#32).toNat = r.val % 256 := by
    rw [BitVec.toNat_and, BitVec.toNat_ofNat, Nat.mod_eq_of_lt (by omega)]
    exact Nat.and_two_pow_sub_one_eq_mod r.val 8
  have e1 : (IntOp.addi (Scalar.addi (Scalar.muli w1 2048#32) 0#32) (BitVec.ofNat 32 j.val)).toNat = w1.toNat * 2048 + j.val := by
    show (w1 * 2048#32 + 0#32 + BitVec.ofNat 32 j.val).toNat = _
    simp only [BitVec.toNat_add, BitVec.toNat_mul, BitVec.toNat_ofNat]
    omega
  have e2 : (IntOp.addi (Scalar.muli w0 256#32) (IntOp.andi (BitVec.ofNat 32 r.val) 255#32)).toNat = w0.toNat * 256 + r.val % 256 := by
    show (w0 * 256#32 + (BitVec.ofNat 32 r.val &&& 255#32)).toNat = _
    rw [BitVec.toNat_add, hand, BitVec.toNat_mul, BitVec.toNat_ofNat]
    omega
  rw [IntOp.cmpi_sle, WordCmp.toInt_eq_toNat_of_lt_half (by rw [e1]; norm_num; omega), WordCmp.toInt_eq_toNat_of_lt_half (by rw [e2]; norm_num; omega), e1, e2]
  omega

/-- A masked score of a row, by the positions. -/
theorem sM_pos (w0 w1 : BitVec 32) (h0 : w0.toNat < 32) (h1 : w1.toNat < 4) (k : FVec Ideal S1x2048x384 .bf16) (x : FVec Ideal S1x2x256x384 .bf16) (r : Fin 512) (j : Fin 2048) :
    sM w0 w1 k x (ix2 r j) = if w1.toNat * 2048 + j.val ≤ w0.toNat * 256 + r.val % 256 then sU k x (ix2 r j) else ⊥ := by
  rw [sM_row, mask_eq]
  by_cases h : w1.toNat * 2048 + j.val ≤ w0.toNat * 256 + r.val % 256
  · rw [if_pos h, (cond_iff w0 w1 h0 h1 r j).2 h]; rfl
  · rw [if_neg h]
    have := mt (cond_iff w0 w1 h0 h1 r j).1 h
    exact if_neg this

end Cert.KernelIdeal.Mla

end
-- ==== Proof.MlaVal.lean ====
module

public import proofs.«01_k».proof.Proof.MlaWalk
public import proofs.«01_k».proof.Proof.MlaBlk
public import proofs.«01_k».proof.Proof.MlaMask

@[expose] public section

set_option maxRecDepth 16384

noncomputable section

namespace Cert.KernelIdeal.Mla

open Cert.KernelIdeal Cert.KernelIdeal.Gen Cert.MlaMath
open Idealize.ShloMosaic
open Idealize.ShloMosaic.TcCoe
open Idealize.ShloMosaic.Pointwise

variable (m : (ℓ : Loc nD τ sig) → Buf (Elt Ideal) ℓ) (ρ : Dev nD → PrngReg)

/-! ## The rows of the attention, over the reals -/

/-- The queries. -/
abbrev qArr (c : Dev nD) : S2x8x8192x384.Idx → EReal := m ((c : Thread nD τ).loc main_arg0)
/-- The keys. -/
abbrev kArr (c : Dev nD) : S16384x384.Idx → EReal := m ((c : Thread nD τ).loc main_arg1)

/-- Every query and every key is a real number. -/
def Fin' (c : Dev nD) : Prop := (∀ i, qArr m c i = ((qArr m c i).toReal : EReal)) ∧ (∀ i, kArr m c i = ((kArr m c i).toReal : EReal))

/-- A key's element, as a real; positions behind the last key hold zero. -/
def Kr (X : S16384x384.Idx → EReal) (b : Fin 2) (k : ℕ) (e : Fin 384) : ℝ :=
  if h : k < 8192 then (X (ix2 ⟨b.val * 8192 + k, by omega⟩ e)).toReal else 0

/-- A query's score against a key: their product, and nothing for a key behind the query. -/
def S (Q : S2x8x8192x384.Idx → EReal) (X : S16384x384.Idx → EReal) (b : Fin 2) (h : Fin 8) (q : Fin 8192) (k : ℕ) : EReal :=
  if k ≤ q.val then ((∑ e, (Q (ix4 b h q e)).toReal * Kr X b k e : ℝ) : EReal) else ⊥

/-- A key's value: its first 256 elements. -/
def vv (X : S16384x384.Idx → EReal) (b : Fin 2) (k : ℕ) (d : Fin 256) : ℝ := Kr X b k ⟨d.val, by omega⟩

/-- A score is never ⊤. -/
theorem S_ne_top (Q : S2x8x8192x384.Idx → EReal) (X : S16384x384.Idx → EReal) (b : Fin 2) (h : Fin 8) (q : Fin 8192) (k : ℕ) : S Q X b h q k ≠ ⊤ := by
  unfold S; split
  · exact EReal.coe_ne_top _
  · exact bot_ne_top

/-- The first key is before every query. -/
theorem S_zero (Q : S2x8x8192x384.Idx → EReal) (X : S16384x384.Idx → EReal) (b : Fin 2) (h : Fin 8) (q : Fin 8192) : S Q X b h q 0 ≠ ⊥ := by
  unfold S; rw [if_pos (Nat.zero_le _)]; exact EReal.coe_ne_bot _

/-- The query row of a group's row. -/
abbrev qrow (t : Fin (cfgA).N) (r : Fin 512) : Fin 8192 := ⟨(w0 t).toNat * 256 + r.val % 256, by have := (geo t).1; omega⟩
/-- The head of a group's row. -/
abbrev hrow (g : Fin 4) (r : Fin 512) : Fin 8 := ⟨2 * g.val + r.val / 256, by omega⟩

/-- A staged key element is the key's real. -/
theorem kB_real (c : Dev nD) (hF : Fin' m c) (t : Fin (cfgA).N) (j : Fin 2048) (e : Fin 384) :
    kB m ρ c t (ix3 0 j e) = ((Kr (kArr m c) (bt t) ((w1 t).toNat * 2048 + j.val) e : ℝ) : EReal) := by
  have h1 := (geo t).2.1
  refine (kB_apply m ρ c t j e).trans ?_
  unfold Kr
  rw [dif_pos (by omega)]
  exact hF.2 _

/-- A product of a staged query row and a staged key is the score's real. -/
theorem sU_real (c : Dev nD) (hF : Fin' m c) (t : Fin (cfgA).N) (g : Fin 4) (r : Fin 512) (j : Fin 2048) :
    sU (kB m ρ c t) (qg (qB m ρ c t) g) (ix2 r j) =
      ((∑ e, (qArr m c (ix4 (bt t) (hrow g r) (qrow t r) e)).toReal * Kr (kArr m c) (bt t) ((w1 t).toNat * 2048 + j.val) e : ℝ) : EReal) := by
  rw [sU_row, ← coe_sum]
  refine Finset.sum_congr rfl fun e _ => ?_
  have hq : qg (qB m ρ c t) g (ix4 0 ⟨r.val / 256, by omega⟩ ⟨r.val % 256, by omega⟩ e) =
      qB m ρ c t (ix4 0 (hrow g r) ⟨r.val % 256, by omega⟩ e) := by
    show qB m ρ c t _ = qB m ρ c t _
    congr 1
    funext a
    apply Fin.ext
    match a with
    | ⟨0, _⟩ => rfl
    | ⟨1, _⟩ => show 2 * g.val + 1 * (r.val / 256) = 2 * g.val + r.val / 256; omega
    | ⟨2, _⟩ => show 0 + 1 * (r.val % 256) = r.val % 256; omega
    | ⟨3, _⟩ => show 0 + 1 * e.val = e.val; omega
  rw [hq, kB_real m ρ c hF, EReal.coe_mul]
  congr 1
  exact (qB_apply m ρ c t _ _ e).trans (hF.1 _)

/-- A group's score at a point is the attention's score of its row against its key. -/
theorem sc_eq (c : Dev nD) (hF : Fin' m c) (t : Fin (cfgA).N) (g : Fin 4) (r : Fin 512) (j : Fin 2048) :
    sc m ρ c t g (ix2 r j) = S (qArr m c) (kArr m c) (bt t) (hrow g r) (qrow t r) ((w1 t).toNat * 2048 + j.val) := by
  obtain ⟨h0, h1, -, -, -, -, hU, hM, -⟩ := geo t
  unfold sc S
  by_cases q1 : P0_1 t
  · rw [if_pos q1, sU_real m ρ c hF, if_pos]
    have := hU q1
    show (w1 t).toNat * 2048 + j.val ≤ (w0 t).toNat * 256 + r.val % 256
    omega
  · rw [if_neg q1, sM_pos _ _ h0 h1, sU_real m ρ c hF]

/-- The number of keys a point's rows have summed behind it. -/
abbrev nn (t : Fin (cfgA).N) : ℕ := (w1 t).toNat * 2048 + 2048

/-- What a state holds of one row: the invariant over the keys summed so far. -/
def RowInv (c : Dev nD) (t : Fin (cfgA).N) (T : Tr c) (g : Fin 4) (r : Fin 512) : Prop :=
  Inv (S (qArr m c) (kArr m c) (bt t) (hrow g r) (qrow t r)) (vv (kArr m c) (bt t)) (nn t)
    (gM T g (ix3 0 r 0)) (gL T g (ix3 0 r 0)) (fun d => gA T g (ix3 0 r d))

/-- A point carries a row's invariant on. -/
theorem row_step (c : Dev nD) (hF : Fin' m c) (t : Fin (cfgA).N) (T : Tr c) (g : Fin 4) (r : Fin 512)
    (h : Pre (S (qArr m c) (kArr m c) (bt t) (hrow g r) (qrow t r)) (vv (kArr m c) (bt t)) ((w1 t).toNat * 2048)
      (pM t T g (ix3 0 r 0)) (pL t T g (ix3 0 r 0)) (fun d => pA t T g (ix3 0 r d))) : RowInv m c t (step0 m ρ c t T) g r := by
  unfold RowInv
  rw [gM_step, gL_step, gA_step, stM_row, stL_row]
  simp only [stA_row, al_row, ew_row]
  have hm : mx (sc m ρ c t g) (pM t T g) (ix2 r 0) = max (pM t T g (ix3 0 r 0)) (Finset.univ.fold max ⊥ fun j => sc m ρ c t g (ix2 r j)) := by
    rw [mx_row, neg_inf]
  exact step (B := 2048) (S (qArr m c) (kArr m c) (bt t) (hrow g r) (qrow t r)) (vv (kArr m c) (bt t)) ((w1 t).toNat * 2048)
    (pM t T g (ix3 0 r 0)) (pL t T g (ix3 0 r 0)) (fun d => pA t T g (ix3 0 r d)) (fun j => sc m ρ c t g (ix2 r j)) (fun j => sc_eq m ρ c hF t g r j)
    (fun j d => kB m ρ c t (ix3 0 j ⟨d.val, by omega⟩)) (fun j d => kB_real m ρ c hF t j _) (S_ne_top _ _ _ _ _)
    (fun _ => ⟨⟨0, by omega⟩, S_zero _ _ _ _ _⟩) h (mx (sc m ρ c t g) (pM t T g) (ix2 r 0)) hm

/-- Behind every point each row holds its invariant. -/
theorem row_inv (c : Dev nD) (hF : Fin' m c) (n : ℕ) : ∀ (hn : n < (cfgA).N) (g : Fin 4) (r : Fin 512), RowInv m c ⟨n, hn⟩ (traj0 m ρ c n hn) g r := by
  induction n with
  | zero =>
    intro hn g r
    have e : traj0 m ρ c 0 hn = step0 m ρ c ⟨0, hn⟩ (default, default, default, default) := rfl
    rw [e]
    refine row_step m ρ c hF ⟨0, hn⟩ _ g r ?_
    have q0 : P0_0 ⟨0, hn⟩ := by
      by_contra q0
      exact absurd (geo' ⟨0, hn⟩ q0).1 (lt_irrefl _)
    exact .inl ⟨by rw [(geo ⟨0, hn⟩).2.2.2.2.2.1 q0], by rw [pM, if_pos q0]; exact neg_inf, by rw [pL, if_pos q0]; exact Ideal.ofBits_zero_f32,
      fun d => by rw [pA, if_pos q0]; exact Ideal.ofBits_zero_f32⟩
  | succ n ih =>
    intro hn g r
    have e : traj0 m ρ c (n + 1) hn = step0 m ρ c ⟨n + 1, hn⟩ (traj0 m ρ c n (Nat.lt_of_succ_lt hn)) := rfl
    rw [e]
    refine row_step m ρ c hF ⟨n + 1, hn⟩ _ g r ?_
    by_cases q0 : P0_0 ⟨n + 1, hn⟩
    · exact .inl ⟨by rw [(geo ⟨n + 1, hn⟩).2.2.2.2.2.1 q0], by rw [pM, if_pos q0]; exact neg_inf, by rw [pL, if_pos q0]; exact Ideal.ofBits_zero_f32,
        fun d => by rw [pA, if_pos q0]; exact Ideal.ofBits_zero_f32⟩
    · obtain ⟨-, hb, hi, hj⟩ := geo' ⟨n + 1, hn⟩ q0
      have ih' := ih (Nat.lt_of_succ_lt hn) g r
      unfold RowInv at ih'
      have eb : bt ⟨n, Nat.lt_of_succ_lt hn⟩ = bt ⟨n + 1, hn⟩ := Fin.ext hb
      have eq : qrow ⟨n, Nat.lt_of_succ_lt hn⟩ r = qrow ⟨n + 1, hn⟩ r := Fin.ext (by
        show (w0 ⟨n, Nat.lt_of_succ_lt hn⟩).toNat * 256 + _ = (w0 ⟨n + 1, hn⟩).toNat * 256 + _
        rw [← hi]; rfl)
      have en : nn ⟨n, Nat.lt_of_succ_lt hn⟩ = (w1 ⟨n + 1, hn⟩).toNat * 2048 := by
        rw [← hj]
        show (w1 ⟨n, Nat.lt_of_succ_lt hn⟩).toNat * 2048 + 2048 = ((w1 ⟨n, Nat.lt_of_succ_lt hn⟩).toNat + 1) * 2048
        omega
      rw [eb, eq, en] at ih'
      refine .inr ?_
      rw [pM, pL, if_neg q0, if_neg q0]
      simp only [pA, if_neg q0]
      exact ih'

/-- The attention's value at one element. -/
def att (Q : S2x8x8192x384.Idx → EReal) (X : S16384x384.Idx → EReal) (b : Fin 2) (h : Fin 8) (q : Fin 8192) (d : Fin 256) : EReal :=
  ((attn (S Q X b h q) (fun k => vv X b k d) 8192 : ℝ) : EReal)

/-- A row whose keys behind the query are all left out ends with the attention. -/
theorem row_end (c : Dev nD) (t : Fin (cfgA).N) (q1 : ¬P0_1 t) (T : Tr c) (g : Fin 4) (r : Fin 512) (hr : RowInv m c t T g r) (d : Fin 256) :
    Ideal.div (gA T g (ix3 0 r d)) (gL T g (ix3 0 r 0)) = att (qArr m c) (kArr m c) (bt t) (hrow g r) (qrow t r) d := by
  have hM := (geo t).2.2.2.2.2.2.2.1 q1
  have h1 := (geo t).2.1
  have e := Inv.div hr (Nat.succ_pos _) (S_zero _ _ _ _ _) d
  have e2 := attn_mono (S (qArr m c) (kArr m c) (bt t) (hrow g r) (qrow t r)) (fun k => vv (kArr m c) (bt t) k d) (nn t) 8192
    (by show (w1 t).toNat * 2048 + 2048 ≤ 8192; omega) (fun k hk _ => if_neg (by
      show ¬k ≤ (w0 t).toNat * 256 + r.val % 256
      have : (w1 t).toNat * 2048 + 2048 ≤ k := hk
      omega))
  exact e.trans (congrArg (fun x : ℝ => (x : EReal)) e2)

/-- The last point of its rows leaves the attention in the output block, at a row of a group. -/
theorem out_row (c : Dev nD) (hF : Fin' m c) (t : Fin (cfgA).N) (q1 : ¬P0_1 t) (g : Fin 4) (hh : Fin 2) (q d : Fin 256) :
    (traj0 m ρ c t.val t.isLt).1 (ix4 0 ⟨2 * g.val + hh.val, by omega⟩ q d) =
      att (qArr m c) (kArr m c) (bt t) (hrow g ⟨hh.val * 256 + q.val, by omega⟩) (qrow t ⟨hh.val * 256 + q.val, by omega⟩) d := by
  have hr := row_inv m ρ c hF t.val t.isLt g ⟨hh.val * 256 + q.val, by omega⟩
  have e := traj0_eq m ρ c t
  have e2 := out_step m ρ c t (prev0 m ρ c t) q1 g hh q d
  rw [← e, stO_row] at e2
  exact e2.trans (row_end m c t q1 _ g _ hr d)

/-- The last point of its rows leaves the attention in the output block. -/
theorem out_eq (c : Dev nD) (hF : Fin' m c) (t : Fin (cfgA).N) (q1 : ¬P0_1 t) (h : Fin 8) (q d : Fin 256) (Q : Fin 8192) (hQ : Q.val = (w0 t).toNat * 256 + q.val) :
    (traj0 m ρ c t.val t.isLt).1 (ix4 0 h q d) = att (qArr m c) (kArr m c) (bt t) h Q d := by
  have e := out_row m ρ c hF t q1 ⟨h.val / 2, by omega⟩ ⟨h.val % 2, by omega⟩ q d
  have eh : (⟨2 * (h.val / 2) + h.val % 2, by omega⟩ : Fin 8) = h := Fin.ext (by show 2 * (h.val / 2) + h.val % 2 = h.val; omega)
  have ea : hrow ⟨h.val / 2, by omega⟩ ⟨h.val % 2 * 256 + q.val, by omega⟩ = h := Fin.ext (by
    show 2 * (h.val / 2) + (h.val % 2 * 256 + q.val) / 256 = h.val; omega)
  have eq : qrow t ⟨h.val % 2 * 256 + q.val, by omega⟩ = Q := Fin.ext (by
    rw [hQ]
    show (w0 t).toNat * 256 + (h.val % 2 * 256 + q.val) % 256 = (w0 t).toNat * 256 + q.val; omega)
  exact (congrArg (fun z => (traj0 m ρ c t.val t.isLt).1 (ix4 0 z q d)) eh).symm.trans (e.trans (by rw [ea, eq]))

end Cert.KernelIdeal.Mla

end
-- ==== Proof.MlaOut.lean ====
module

public import proofs.«01_k».proof.Proof.MlaVal
public import Idealize.ShloMosaic.Lib.Pipeline.ValueKit

@[expose] public section

set_option maxRecDepth 16384

noncomputable section

namespace Cert.KernelIdeal.Mla

open Cert.KernelIdeal Cert.KernelIdeal.Gen Cert.MlaMath
open Idealize.ShloMosaic Idealize.SL.Sem
open Idealize.ShloMosaic.TcCoe
open Idealize.ShloMosaic.Pointwise

variable (m : (ℓ : Loc nD τ sig) → Buf (Elt Ideal) ℓ) (ρ : Dev nD → PrngReg)

/-- The attention of the arguments, as the result array. -/
def G (Q : S2x8x8192x384.Idx → EReal) (X : S16384x384.Idx → EReal) : S2x8x8192x256.Idx → EReal :=
  fun i => att Q X (i 0) (i 1) (i 2) (i 3)

set_option maxHeartbeats 4000000 in
/-- The written blocks cover the result. -/
theorem covers : ((cfgA).win (2 : Fin 3)).Covers := by decide +kernel

/-- The result array holds the attention when the launch ends. -/
theorem arr_eq (c : Dev nD) (hF : Fin' m c) :
    (dats m ρ 0 c).arrAt (2 : Fin 3) (cfgA).N = G (qArr m c) (kArr m c) := by
  refine (dats m ρ 0 c).arrAt_eq_of_covers (2 : Fin 3) _ covers fun t hf y => ?_
  blk_simp
  rw [after0_2]
  have q1 : ¬P0_1 t := (geo t).2.2.2.2.2.2.2.2 hf
  have h0 := (geo t).1
  have e1 : ((cfgA).win (2 : Fin 3)).index t = ![t.val / 80, 0, (w0 t).toNat, 0] := funext (geo t).2.2.2.2.1
  let y' : S1x8x256x256.Idx := y
  have hy : y' = ix4 0 (y' 1) (y' 2) (y' 3) := by
    funext a
    match a with
    | ⟨0, _⟩ => exact Subsingleton.elim (α := Fin 1) _ _
    | ⟨1, _⟩ => rfl
    | ⟨2, _⟩ => rfl
    | ⟨3, _⟩ => rfl
  have h2 : (y' 2).val < 256 := (y' 2).isLt
  have he : (((cfgA).win (2 : Fin 3)).blk t).view.emb y = (ix4 (bt t) (y' 1) ⟨(w0 t).toNat * 256 + (y' 2).val, by omega⟩ (y' 3) : S2x8x8192x256.Idx) := by
    have h00 : (y' 0).val = 0 := by have : (y' 0).val < 1 := (y' 0).isLt; omega
    funext a
    apply Fin.ext
    blk_simp [e1]
    match a with
    | ⟨0, _⟩ => show t.val / 80 * 1 + (y' 0).val = t.val / 80; omega
    | ⟨1, _⟩ => show 0 * 8 + (y' 1).val = (y' 1).val; omega
    | ⟨2, _⟩ => show (w0 t).toNat * 256 + (y' 2).val = (w0 t).toNat * 256 + (y' 2).val; rfl
    | ⟨3, _⟩ => show 0 * 256 + (y' 3).val = (y' 3).val; omega
  rw [he]
  show (traj0 m ρ c t.val t.isLt).1 y' = att (qArr m c) (kArr m c) (bt t) (y' 1) ⟨(w0 t).toNat * 256 + (y' 2).val, by omega⟩ (y' 3)
  exact (congrArg (traj0 m ρ c t.val t.isLt).1 hy).trans (out_eq m ρ c hF t q1 (y' 1) (y' 2) (y' 3) _ rfl)

/-- The kernel's run leaves the attention in its result and its arguments alone. -/
theorem value (hF : ∀ c, Fin' m c) :
    θ_run (defs (F := Ideal)) (onTc (τ := τ) (main (F := Ideal))) ⟨m, fun _ => 0, ρ⟩ (fun r => ∀ c : Dev nD,
      r.2.mem ((c.tc : Thread nD τ).loc main_v1) = G (qArr m c) (kArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  refine ⟨((h c).1 (2 : Fin 3)).trans (arr_eq m ρ c (hF c)), ?_, (h c).2.trans (V_main_arg1 m c)⟩
  exact ((h c).1 (0 : Fin 3)).trans (((dats m ρ 0 c).arrAt_in _ rfl _).trans (V_main_arg0 m c))

end Cert.KernelIdeal.Mla

end
-- ==== Proof.MlaEq.lean ====
module

public import proofs.«01_k».proof.Defs
public import proofs.«01_k».proof.Proof.MlaRefVal
public import proofs.«01_k».proof.Proof.MlaOut
public import Idealize.ShloMosaic.Lib.ReduceAll
public import Idealize.ShloMosaic.Lib.Affine
public import Idealize.ShloMosaic.Lib.WordCmp

@[expose] public section

set_option maxRecDepth 16384

noncomputable section

namespace Cert.Proof.Mla

open Cert.MlaMath Cert.ReferenceIdeal.Mla
open Cert.KernelIdeal.Mla (S Kr vv att G Fin' S_ne_top S_zero neg_inf qArr kArr)
open Idealize.ShloMosaic Idealize.SL.Sem
open Idealize.ShloMosaic.TcCoe
open Idealize.ShloMosaic.Pointwise

attribute [local instance] Cert.ReferenceIdeal.Mla.facts Cert.ReferenceIdeal.Mla.preFacts

variable (Q : Cert.ReferenceIdeal.S2x8x8192x384.Idx → EReal) (X : Cert.ReferenceIdeal.S16384x384.Idx → EReal)

/-- Elements that are all real. -/
def Reals {ι : Type} (f : ι → EReal) : Prop := ∀ i, f i = ((f i).toReal : EReal)

/-- A key's element in the reference, as a real. -/
theorem rK_real (hX : Reals X) (b : Fin 2) (k : Fin 8192) (e : Fin 384) : rK X (ix3 b k e) = ((Kr X b k.val e : ℝ) : EReal) := by
  refine (rK_at X b k e).trans ?_
  unfold Kr
  rw [dif_pos k.isLt]
  exact hX _

/-- A score in the reference, as a real: the latent part and the rotary part are one product. -/
theorem rS_real (hQ : Reals Q) (hX : Reals X) (b : Fin 2) (h : Fin 8) (q k : Fin 8192) :
    rS Q X (ix4 b h q k) = ((∑ e, (Q (ix4 b h q e)).toReal * Kr X b k.val e : ℝ) : EReal) := by
  refine (rS_at Q X b h q k).trans ?_
  rw [← coe_sum]
  refine Eq.trans ?_ (Finset.sum_congr rfl fun e _ => show Q (ix4 b h q e) * rK X (ix3 b k e) = _ by
    rw [rK_real X hX, EReal.coe_mul]; congr 1; exact hQ _)
  refine Eq.trans ?_ (Fin.sum_univ_add (a := 256) (b := 128) fun e => Q (ix4 b h q e) * rK X (ix3 b k e)).symm
  refine congrArg₂ (· + ·) (Finset.sum_congr rfl fun x _ => ?_) (Finset.sum_congr rfl fun x _ => rfl)
  rw [rV_at]
  rfl

/-- A masked score in the reference is the attention's score. -/
theorem rW_eq (hQ : Reals Q) (hX : Reals X) (b : Fin 2) (h : Fin 8) (q k : Fin 8192) : rW Q X (ix4 b h q k) = S Q X b h q k.val := by
  have hk := k.isLt
  have hq := q.isLt
  have ek : (BitVec.ofNat 32 k.val).toNat = k.val := by rw [BitVec.toNat_ofNat]; omega
  have eq : (BitVec.ofNat 32 q.val).toNat = q.val := by rw [BitVec.toNat_ofNat]; omega
  have hc : IntOp.cmpi CmpIPredicate.sle (BitVec.ofNat 32 k.val) (BitVec.ofNat 32 q.val) = 1#1 ↔ k.val ≤ q.val := by
    rw [IntOp.cmpi_sle, WordCmp.toInt_eq_toNat_of_lt_half (by rw [ek]; norm_num; omega), WordCmp.toInt_eq_toNat_of_lt_half (by rw [eq]; norm_num; omega), ek, eq]
    omega
  refine (rW_at Q X b h q k).trans ?_
  rw [rC_at, rS_real Q X hQ hX, neg_inf]
  unfold S
  by_cases hh : k.val ≤ q.val
  · rw [if_pos hh, hc.2 hh]; rfl
  · rw [if_neg hh]; exact if_neg (mt hc.1 hh)

/-- The reference's result is the attention. -/
theorem rO_eq (hQ : Reals Q) (hX : Reals X) : rO Q X = G Q X := by
  funext i
  obtain ⟨b, h, q, d, rfl⟩ : ∃ (b : Fin 2) (h : Fin 8) (q : Fin 8192) (d : Fin 256), i = ix4 b h q d := ⟨i 0, i 1, i 2, i 3, by
    funext a
    match a with
    | ⟨0, _⟩ => rfl
    | ⟨1, _⟩ => rfl
    | ⟨2, _⟩ => rfl
    | ⟨3, _⟩ => rfl⟩
  have hm : rM Q X (ix3 b h q) = Finset.univ.fold max ⊥ fun k : Fin 8192 => rW Q X (ix4 b h q k) := by
    rw [rM_at, neg_inf, max_eq_right bot_le]
  refine (rO_at Q X b h q d).trans ?_
  refine Eq.trans ?_ (softmax (N := 8192) (S Q X b h q) (fun k => vv X b k d) (by omega) (S_ne_top _ _ _ _ _) (S_zero _ _ _ _ _)
    (fun k => rW Q X (ix4 b h q k)) (fun k => rW_eq Q X hQ hX b h q k) (fun k => rV X (ix3 b k d)) (fun k => (rV_at X b k d).trans (rK_real X hX b k _)) _ hm)
  refine Finset.sum_congr rfl fun k _ => ?_
  rw [rP_at, rL_at]
  simp only [rE_at]

/-- An element whose absolute value is below ⊤ is real. -/
theorem real_of_abs {x : EReal} (h : max x (-x) < ⊤) : x = ((x.toReal : ℝ) : EReal) := by
  induction x using EReal.rec with
  | bot => simp at h
  | top => simp at h
  | coe x => rw [EReal.toReal_coe]

/-- The precondition's bound is ⊤. -/
theorem top_eq : Ideal.ofBits FTy.f32 2139095040#32 = ⊤ := by simp [Ideal.ofBits, Ideal.ieee]

/-- A comparison of the precondition that came out true says that the element is real. -/
theorem real_of_cmp {s : Shape} (V : FVec Ideal s .bf16) (hb) (hc) (i : s.Idx)
    (h : cmpf (F := Ideal) CmpFPredicate.olt (Host.absf (extf FTy.f32 V hb)) (broadcastInDim s ![] hc (constant Cert.Pre_finite.S_ FTy.f32 2139095040#32)) i = 1#1) :
    V i = ((EReal.toReal (V i) : ℝ) : EReal) := by
  have h' : Ideal.cmp CmpFPredicate.olt (max (V i) (-(V i)) : EReal) (Ideal.ofBits FTy.f32 2139095040#32) = 1#1 := h
  rw [top_eq] at h'
  refine real_of_abs ?_
  by_contra hn
  simp [Ideal.cmp, hn] at h'

/-- The precondition says that every query and every key is real. -/
theorem reals_of_pre (h : (Cert.Pre_finite.fn (F := Ideal) Q X) = fun _ => 1#1) : Reals Q ∧ Reals X := by
  have h0 := congrFun h (Shape.Idx.first (by decide))
  dsimp only [Cert.Pre_finite.fn] at h0
  obtain ⟨h1, h2⟩ := IntOp.andi_eq_one.1 h0
  haveI : Subsingleton (Cert.Pre_finite.S_).Idx := ⟨fun a b => funext fun k => k.elim0⟩
  exact ⟨fun i => real_of_cmp Q _ _ i (Host.reduce_andi_all _ _ _ _ _ h1 i), fun i => real_of_cmp X _ _ i (Host.reduce_andi_all _ _ _ _ _ h2 i)⟩

/-- The kernel's result and the reference's are equal on finite arguments. -/
theorem algebraic : @Cert.algebraic_KernelIdeal_ReferenceIdeal_pre_finite Cert.KernelIdeal.Gen.facts Cert.ReferenceIdeal.Mla.facts Cert.ReferenceIdeal.Mla.preFacts := by
  intro m g m' g' hpre hm
  have hF : ∀ c, Fin' m c := fun c => reals_of_pre _ _ (hpre c)
  refine ⟨fun c => G (qArr m c) (kArr m c), ?_, ?_⟩
  · refine θ_run_mono (Cert.KernelIdeal.Mla.value m g hF) ?_
    exact fun r h => h
  · refine θ_run_mono (Cert.ReferenceIdeal.Mla.value m' g') ?_
    intro r h c
    obtain ⟨h1, h2, h3⟩ := h c
    refine ⟨h1.trans ?_, h2, h3⟩
    rw [(hm c).1, (hm c).2]
    exact rO_eq _ _ (hF c).1 (hF c).2

end Cert.Proof.Mla

end
-- ==== Proof.FfnRef.lean ====
module

public import proofs.«01_k».proof.Proof.Gen.Reference2Ideal
public import Idealize.ShloMosaic.Lib.StableHlo.RunHlo
public import proofs.«01_k».proof.Defs
public import Idealize.ShloMosaic.Lib.Claim
public import Idealize.ShloMosaic.Adequacy
public import Idealize.ShloMosaic.Init

@[expose] public section

noncomputable section

namespace Cert.Reference2Ideal.Ffn

open Cert.Reference2Ideal
open Idealize.ShloMosaic Idealize.SL.Sem
open Idealize.ShloMosaic.TcCoe

/-- The feed-forward reference leaves its arguments alone and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
          ∧ r.2.sem = fun _ => 0) := by
  hlo_run
  · exact fun _ => ⟨trivial, trivial, trivial, trivial, trivial, trivial⟩
  · exact sem_eq_zero_of_no_sems (sig := sig) (by decide) _

end Cert.Reference2Ideal.Ffn

end
-- ==== Proof.FfnMath.lean ====
module

public import Idealize.ShloMosaic.Lib.IdealHost
public import Idealize.ShloMosaic.Lib.Pointwise

@[expose] public section

noncomputable section

namespace Cert.FfnMath

open Idealize.ShloMosaic

/-- One hidden unit of a row: the gate, its logistic and the up projection multiplied. -/
def hid (g u : EReal) : EReal := g * Ideal.div 1 (1 + Ideal.exp (-g)) * u

/-- The feed-forward part of a row at a column, over the hidden columns `k` of any number. -/
def ff {n : ℕ} (x : Fin 1024 → EReal) (wg wu : Fin 1024 → Fin n → EReal) (wd : Fin n → Fin 1024 → EReal) (d : Fin 1024) : EReal :=
  ∑ k, hid (∑ e, x e * wg e k) (∑ e, x e * wu e k) * wd k d

/-- The mean of a row. -/
def mean (z : Fin 1024 → EReal) : EReal := Ideal.div (∑ j, z j) (Ideal.ofBits FTy.f32 1149239296#32)

/-- The layer norm of a row. -/
def norm (z g b : Fin 1024 → EReal) (d : Fin 1024) : EReal :=
  (z d - mean z) * Ideal.rsqrt (mean (fun j => (z j - mean z) * (z j - mean z)) + Ideal.ofBits FTy.f32 925353388#32) * g d + b d

/-- The scale of the residual. -/
def alpha : EReal := ((Real.sqrt 2 : ℝ) : EReal)

/-- The result at a row and a column. -/
def res (x : Fin 1024 → EReal) (wg wu : Fin 1024 → Fin 2816 → EReal) (wd : Fin 2816 → Fin 1024 → EReal) (g b : Fin 1024 → EReal) (d : Fin 1024) : EReal :=
  norm (fun j => alpha * x j + ff x wg wu wd j) g b d

/-- The hidden columns' two halves add up to all of them. -/
theorem ff_halves (x : Fin 1024 → EReal) (wg wu : Fin 1024 → Fin 2816 → EReal) (wd : Fin 2816 → Fin 1024 → EReal) (d : Fin 1024) :
    ff x wg wu wd d =
      ff x (fun e (k : Fin 1408) => wg e ⟨k.val, by omega⟩) (fun e (k : Fin 1408) => wu e ⟨k.val, by omega⟩) (fun (k : Fin 1408) => wd ⟨k.val, by omega⟩) d
      + ff x (fun e (k : Fin 1408) => wg e ⟨1408 + k.val, by omega⟩) (fun e (k : Fin 1408) => wu e ⟨1408 + k.val, by omega⟩) (fun (k : Fin 1408) => wd ⟨1408 + k.val, by omega⟩) d :=
  Fin.sum_univ_add (a := 1408) (b := 1408) fun k : Fin 2816 => hid (∑ e, x e * wg e k) (∑ e, x e * wu e k) * wd k d

/-- The root of a real that is not negative. -/
theorem sqrt_real {x : ℝ} (h : 0 ≤ x) : Ideal.sqrt (x : EReal) = ((Real.sqrt x : ℝ) : EReal) := if_neg (not_lt.2 h)

/-- The root of the root of four is the root of two. -/
theorem root_four : Ideal.sqrt (Ideal.sqrt (Ideal.ofBits FTy.f32 1082130432#32)) = alpha := by
  have h4 : Ideal.ofBits FTy.f32 1082130432#32 = ((4 : ℝ) : EReal) := by
    simp [Ideal.ofBits, Ideal.ieee]
    rw [← EReal.coe_mul]
    norm_num
  have h2 : Real.sqrt 4 = 2 := by
    rw [show (4 : ℝ) = 2 ^ 2 by norm_num]; exact Real.sqrt_sq (by norm_num)
  rw [h4, sqrt_real (by norm_num), h2, sqrt_real (by norm_num)]
  rfl

end Cert.FfnMath

end
-- ==== Proof.FfnPath.lean ====
module

public import proofs.«01_k».proof.Proof.Gen.Kernel2Ideal.Value
public import proofs.«01_k».proof.Proof.FfnMath
public import Idealize.ShloMosaic.Lib.Pointwise
public import Idealize.ShloMosaic.Lib.IdealHost

@[expose] public section

noncomputable section

namespace Cert.Kernel2Ideal.Ffn

open Cert.Kernel2Ideal Cert.Kernel2Ideal.Gen
open Idealize.ShloMosaic Idealize.ShloMosaic.TcCoe Idealize.SL.Sem
open Idealize.ShloMosaic.Pointwise
open Cert.FfnMath

/-- The two starting offsets of a whole block are zero. -/
theorem off_zero : (![0, 0] : Fin 2 → Nat) = fun _ => 0 := funext fun a => by fin_cases a <;> rfl

/-- At the first half of the hidden columns the accumulator is left with that half's product over zero. -/
theorem first_half (c : Dev nD) (i : grid0.Coords) (arg2 : Memref sig .tc .vmem S512x1024 .f32) (harg2 : arg2.IsWhole) (arg3 : Memref sig .tc .vmem S1024x1408 .bf16) (harg3 : arg3.IsWhole) (arg4 : Memref sig .tc .vmem S1024x1408 .bf16) (harg4 : arg4.IsWhole) (arg5 : Memref sig .tc .vmem S1408x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec Ideal S512x1024 .f32) (x1 : Vec Ideal S1024x1408 .bf16) (x2 : Vec Ideal S1024x1408 .bf16) (x3 : Vec Ideal S1408x1024 .bf16) (x4 : Vec Ideal S1x1024 .f32) (x5 : Vec Ideal S1x1024 .f32) :
    sout0_A_0 c i arg2 harg2 arg3 harg3 arg4 harg4 arg5 harg5 arg6 harg6 arg7 harg7 arg8 harg8 arg9 harg9 hc0 hc1 x0 x1 x2 x3 x4 x5 = k0_pay2 x0 x1 x2 (k0_pay1 (F := Ideal)) x3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x1024) off_zero, View.readCov_unit_zero (S := S512x1024) _ off_zero]
  simp only [View.readAt_eq_ld, harg2.read_unread, harg3.read_unread, harg4.read_unread, harg5.read_unread, View.ld_unit_zero (S := S512x1024) off_zero,
    View.ld_unit_zero (S := S1024x1408) off_zero, View.ld_unit_zero (S := S1408x1024) off_zero]

/-- At the second half the output block is the layer norm of the block's sum with the accumulator and that half's product. -/
theorem second_half (c : Dev nD) (i : grid0.Coords) (arg2 : Memref sig .tc .vmem S512x1024 .f32) (harg2 : arg2.IsWhole) (arg3 : Memref sig .tc .vmem S1024x1408 .bf16) (harg3 : arg3.IsWhole) (arg4 : Memref sig .tc .vmem S1024x1408 .bf16) (harg4 : arg4.IsWhole) (arg5 : Memref sig .tc .vmem S1408x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec Ideal S512x1024 .f32) (x1 : Vec Ideal S1024x1408 .bf16) (x2 : Vec Ideal S1024x1408 .bf16) (x3 : Vec Ideal S1408x1024 .bf16) (x4 : Vec Ideal S1x1024 .f32) (x5 : Vec Ideal S1x1024 .f32) (xs0 : Vec Ideal S512x1024 .f32) :
    out0_B_6 c i arg2 harg2 arg3 harg3 arg4 harg4 arg5 harg5 arg6 harg6 arg7 harg7 arg8 harg8 arg9 harg9 hc0 hc1 x0 x1 x2 x3 x4 x5 xs0 = k0_pay3 x0 (k0_pay2 x0 x1 x2 xs0 x3) x4 x5 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero off_zero, View.readCov_unit_zero (S := S512x1024) _ off_zero]
  simp only [View.readAt_eq_ld, harg2.read_unread, harg3.read_unread, harg4.read_unread, harg5.read_unread, harg6.read_unread, harg7.read_unread, harg9.read_unread,
    View.ld_unit_zero (S := S512x1024) off_zero, View.ld_unit_zero (S := S1024x1408) off_zero, View.ld_unit_zero (S := S1408x1024) off_zero, View.ld_unit_zero (S := S1x1024) off_zero]

/-- The named scale is the root of two. -/
theorem alpha_named : Named.named (F := Ideal) κ "alpha" (φ := .f32) 1068827891#32 = alpha := IdealRules.named_const.ideal_named_scalar _ _ _ _ rfl

/-- One half's product, over what the accumulator held. -/
theorem half_at (x0 : Vec Ideal S512x1024 .f32) (x1 : Vec Ideal S1024x1408 .bf16) (x2 : Vec Ideal S1024x1408 .bf16) (xs0 : Vec Ideal S512x1024 .f32) (x3 : Vec Ideal S1408x1024 .bf16) (r : Fin 512) (d : Fin 1024) :
    k0_pay2 x0 x1 x2 xs0 x3 (ix2 r d) =
      (xs0 (ix2 r d) : EReal) + ff (fun e => x0 (ix2 r e)) (fun e k => x1 (ix2 e k)) (fun e k => x2 (ix2 e k)) (fun k d => x3 (ix2 k d)) d := by
  pointwise [k0_pay2]
  unfold ff hid
  simp only [zero_sub]

/-- The cleared accumulator. -/
theorem zero_at (r : Fin 512) (d : Fin 1024) : k0_pay1 (F := Ideal) (ix2 r d) = (0 : EReal) := by
  pointwise [k0_pay1]

/-- The layer norm of a block, at an index. -/
theorem norm_at (x0 : Vec Ideal S512x1024 .f32) (xs0 : Vec Ideal S512x1024 .f32) (x4 x5 : Vec Ideal S1x1024 .f32) (r : Fin 512) (d : Fin 1024) :
    k0_pay3 x0 xs0 x4 x5 (ix2 r d) =
      norm (fun j => alpha * x0 (ix2 r j) + xs0 (ix2 r j)) (fun j => x4 (ix2 0 j)) (fun j => x5 (ix2 0 j)) d := by
  pointwise [k0_pay3]
  rw [alpha_named]
  rfl

end Cert.Kernel2Ideal.Ffn

end
-- ==== Proof.FfnVal.lean ====
module

public import proofs.«01_k».proof.Proof.FfnPath
public import Idealize.ShloMosaic.Lib.Pipeline.ValueKit

@[expose] public section

set_option maxRecDepth 16384

noncomputable section

namespace Cert.Kernel2Ideal.Ffn

open Cert.Kernel2Ideal Cert.Kernel2Ideal.Gen Cert.Kernel2Ideal.Value
open Idealize.ShloMosaic Idealize.ShloMosaic.TcCoe Idealize.SL.Sem
open Idealize.ShloMosaic.Pointwise
open Cert.FfnMath

variable (m : (ℓ : Loc nD τ sig) → Buf (Elt Ideal) ℓ) (ρ : Dev nD → PrngReg)

/-- The rows, the weights, the scale and the shift, as the launch finds them. -/
abbrev aX (c : Dev nD) : S16384x1024.Idx → EReal := m ((c : Thread nD τ).loc main_arg0)
@[inherit_doc aX] abbrev aG (c : Dev nD) : S1024x2816.Idx → EReal := m ((c : Thread nD τ).loc main_arg1)
@[inherit_doc aX] abbrev aU (c : Dev nD) : S1024x2816.Idx → EReal := m ((c : Thread nD τ).loc main_arg2)
@[inherit_doc aX] abbrev aD (c : Dev nD) : S2816x1024.Idx → EReal := m ((c : Thread nD τ).loc main_arg3)
@[inherit_doc aX] abbrev aS (c : Dev nD) : S1x1024.Idx → EReal := m ((c : Thread nD τ).loc main_arg4)
@[inherit_doc aX] abbrev aB (c : Dev nD) : S1x1024.Idx → EReal := m ((c : Thread nD τ).loc main_arg5)

/-- The block each window takes at a point. -/
theorem places : ∀ t : Fin cfg0.N, win0_0.index t = ![t.val / 2, 0] ∧ win0_1.index t = ![0, t.val % 2] ∧ win0_2.index t = ![0, t.val % 2]
    ∧ win0_3.index t = ![t.val % 2, 0] ∧ win0_4.index t = ![0, 0] ∧ win0_5.index t = ![0, 0] := by
  decide +kernel

/-- A point's row block. -/
theorem x_at (c : Dev nD) (t : Fin cfg0.N) (r : Fin 512) (e : Fin 1024) (R : Fin 16384) (hR : R.val = t.val / 2 * 512 + r.val) :
    (iblk m c 0 t : S512x1024.Idx → EReal) (ix2 r e) = aX m c (ix2 R e) := by
  blk_ext [iblk, V, (places t).1]

/-- A point's columns of the gate's weight. -/
theorem g_at (c : Dev nD) (t : Fin cfg0.N) (e : Fin 1024) (k : Fin 1408) (K : Fin 2816) (hK : K.val = t.val % 2 * 1408 + k.val) :
    (iblk m c 1 t : S1024x1408.Idx → EReal) (ix2 e k) = aG m c (ix2 e K) := by
  blk_ext [iblk, V, (places t).2.1]

/-- A point's columns of the up projection's weight. -/
theorem u_at (c : Dev nD) (t : Fin cfg0.N) (e : Fin 1024) (k : Fin 1408) (K : Fin 2816) (hK : K.val = t.val % 2 * 1408 + k.val) :
    (iblk m c 2 t : S1024x1408.Idx → EReal) (ix2 e k) = aU m c (ix2 e K) := by
  blk_ext [iblk, V, (places t).2.2.1]

/-- A point's rows of the down projection's weight. -/
theorem d_at (c : Dev nD) (t : Fin cfg0.N) (k : Fin 1408) (d : Fin 1024) (K : Fin 2816) (hK : K.val = t.val % 2 * 1408 + k.val) :
    (iblk m c 3 t : S1408x1024.Idx → EReal) (ix2 k d) = aD m c (ix2 K d) := by
  blk_ext [iblk, V, (places t).2.2.2.1]

/-- The scale's block is the scale. -/
theorem s_at (c : Dev nD) (t : Fin cfg0.N) (d : Fin 1024) : (iblk m c 4 t : S1x1024.Idx → EReal) (ix2 0 d) = aS m c (ix2 0 d) := by
  blk_ext [iblk, V, (places t).2.2.2.2.1]

/-- The shift's block is the shift. -/
theorem b_at (c : Dev nD) (t : Fin cfg0.N) (d : Fin 1024) : (iblk m c 5 t : S1x1024.Idx → EReal) (ix2 0 d) = aB m c (ix2 0 d) := by
  blk_ext [iblk, V, (places t).2.2.2.2.2]

/-- The result of the arguments. -/
def G (X : S16384x1024.Idx → EReal) (Wg Wu : S1024x2816.Idx → EReal) (Wd : S2816x1024.Idx → EReal) (s b : S1x1024.Idx → EReal) : S16384x1024.Idx → EReal := fun i =>
  res (fun e => X (ix2 (i 0) e)) (fun e k => Wg (ix2 e k)) (fun e k => Wu (ix2 e k)) (fun k d => Wd (ix2 k d)) (fun j => s (ix2 0 j)) (fun j => b (ix2 0 j)) (i 1)

/-- What the accumulator holds after the first half of a row block. -/
theorem acc_at (c : Dev nD) (t : Fin cfg0.N) (h : t.val % 2 = 0) (r : Fin 512) (d : Fin 1024) (R : Fin 16384) (hR : R.val = t.val / 2 * 512 + r.val) :
    ((outsAt0 m c t.val t.isLt).2 : S512x1024.Idx → EReal) (ix2 r d) =
      ff (fun e => aX m c (ix2 R e)) (fun e (k : Fin 1408) => aG m c (ix2 e ⟨k.val, by omega⟩)) (fun e (k : Fin 1408) => aU m c (ix2 e ⟨k.val, by omega⟩))
        (fun (k : Fin 1408) d => aD m c (ix2 ⟨k.val, by omega⟩ d)) d := by
  rw [outsAt0_A m c t h (by omega)]
  dsimp only
  rw [first_half]
  refine (half_at _ _ _ _ _ r d).trans ?_
  rw [zero_at, zero_add]
  simp only [fun e => x_at m c t r e R hR, fun e (k : Fin 1408) => g_at m c t e k ⟨k.val, by omega⟩ (by simp [h]),
    fun e (k : Fin 1408) => u_at m c t e k ⟨k.val, by omega⟩ (by simp [h]), fun (k : Fin 1408) d => d_at m c t k d ⟨k.val, by omega⟩ (by simp [h])]

/-- What the result's block holds after the second half of a row block. -/
theorem blk_at (c : Dev nD) (t : Fin cfg0.N) (h : t.val % 2 = 1) (r : Fin 512) (d : Fin 1024) (R : Fin 16384) (hR : R.val = t.val / 2 * 512 + r.val) :
    ((outsAt0 m c t.val t.isLt).1 : S512x1024.Idx → EReal) (ix2 r d) = G (aX m c) (aG m c) (aU m c) (aD m c) (aS m c) (aB m c) (ix2 R d) := by
  rw [outsAt0_B m c t (by omega) h]
  dsimp only
  rw [second_half]
  refine (norm_at _ _ _ _ r d).trans ?_
  have ht : t.val - 1 < cfg0.N := Nat.lt_of_le_of_lt (Nat.sub_le _ _) t.isLt
  unfold G res
  simp only [ff_halves]
  simp only [half_at, fun d => acc_at m c ⟨t.val - 1, ht⟩ (by show (t.val - 1) % 2 = 0; omega) r d R (by show R.val = (t.val - 1) / 2 * 512 + r.val; omega)]
  simp only [fun e => x_at m c t r e R hR, fun e (k : Fin 1408) => g_at m c t e k ⟨1408 + k.val, by omega⟩ (by simp [h]),
    fun e (k : Fin 1408) => u_at m c t e k ⟨1408 + k.val, by omega⟩ (by simp [h]), fun (k : Fin 1408) d => d_at m c t k d ⟨1408 + k.val, by omega⟩ (by simp [h]),
    s_at, b_at]
  rfl

/-- The result array holds the feed-forward layer of the arguments. -/
theorem arr_eq (c : Dev nD) : G6 m c = G (aX m c) (aG m c) (aU m c) (aD m c) (aS m c) (aB m c) := by
  funext i
  have h0 : (i 0).val < 16384 := (i 0).isLt
  have h1 : (i 1).val < 1024 := (i 1).isLt
  have hq : pt6Of i = 2 * ((i 0).val / 512) + 1 := by
    show 2 * (1 * ((i 0).val / 512 - 0) + 1 * ((i 1).val / 1024 - 0)) + 1 = _
    rw [Nat.div_eq_of_lt h1]
    omega
  have hp : pt6Of i < cfg0.N := by
    rw [hq]
    exact lt_of_lt_of_eq (by omega) N_0.symm
  rw [G6, dif_pos hp, ← outsAt0_sweep m c (pt6Of i) hp]
  have hl : loc6Of i = ix2 ⟨(i 0).val % 512, by omega⟩ (i 1) := by
    funext a
    match a with
    | ⟨0, _⟩ => rfl
    | ⟨1, _⟩ => exact Fin.ext (Nat.mod_eq_of_lt h1)
  have hi : i = ix2 (i 0) (i 1) := by
    funext a
    match a with
    | ⟨0, _⟩ => rfl
    | ⟨1, _⟩ => rfl
  rw [hl]
  refine (blk_at m c ⟨pt6Of i, hp⟩ (by show pt6Of i % 2 = 1; omega) _ _ (i 0) (by show (i 0).val = pt6Of i / 2 * 512 + (i 0).val % 512; omega)).trans ?_
  exact congrArg _ hi.symm

/-- The kernel ends with the feed-forward layer of its arguments. -/
theorem value : θ_run defs (onTc (τ := τ) (main (F := Ideal))) ⟨m, fun _ => 0, ρ⟩ fun r => ∀ c : Dev nD,
    r.2.mem ((c.tc : Thread nD τ).loc main_v0) = G (aX m c) (aG m c) (aU m c) (aD m c) (aS m c) (aB m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  θ_run_mono (run m ρ) fun _ h c => ⟨(h c).1.trans (arr_eq m c), (h c).2⟩

end Cert.Kernel2Ideal.Ffn

end
-- ==== Proof.FfnEq.lean ====
module

public import proofs.«01_k».proof.Proof.FfnVal
public import proofs.«01_k».proof.Proof.Gen.Reference2Ideal.Run
public import proofs.«01_k».proof.Defs

@[expose] public section

set_option maxRecDepth 16384

noncomputable section

namespace Cert.Reference2Ideal.Ffn

open Cert.Reference2Ideal Cert.Reference2Ideal.Value
open Idealize.ShloMosaic Idealize.SL.Sem
open Idealize.ShloMosaic.TcCoe
open Idealize.ShloMosaic.Pointwise
open Cert.FfnMath

/-- The reference's result, at an index. -/
theorem out_at (m : (ℓ : Loc nD τ sig) → Buf (Elt Ideal) ℓ) (c : Dev nD) (r : Fin 16384) (d : Fin 1024) :
    (res_out0 m c : S16384x1024.Idx → EReal) (ix2 r d) = Cert.Kernel2Ideal.Ffn.G (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) (ix2 r d) := by
  unfold res_out0 res_main_v34
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  pointwise
  rw [root_four]
  rfl

/-- The reference's result is the feed-forward layer of its arguments. -/
theorem out_eq (m : (ℓ : Loc nD τ sig) → Buf (Elt Ideal) ℓ) (c : Dev nD) :
    (res_out0 m c : S16384x1024.Idx → EReal) = Cert.Kernel2Ideal.Ffn.G (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) := by
  funext i
  obtain ⟨r, d, rfl⟩ : ∃ (r : Fin 16384) (d : Fin 1024), i = ix2 r d := ⟨i 0, i 1, by
    funext a
    match a with
    | ⟨0, _⟩ => rfl
    | ⟨1, _⟩ => rfl⟩
  exact out_at m c r d

end Cert.Reference2Ideal.Ffn

namespace Cert.Proof.Ffn

open Idealize.ShloMosaic Idealize.SL.Sem

/-- The kernel's result and the reference's are equal. -/
theorem algebraic : @Cert.algebraic_Kernel2Ideal_Reference2Ideal Cert.Kernel2Ideal.Gen.facts Cert.Reference2Ideal.Gen.facts := by
  intro m g m' g' _ hm
  refine ⟨_, Cert.Kernel2Ideal.Ffn.value m g, ?_⟩
  refine θ_run_mono (Cert.Reference2Ideal.Value.run m' g') fun r h c => ⟨(h c).1.trans ?_, (h c).2⟩
  refine (Cert.Reference2Ideal.Ffn.out_eq m' c).trans ?_
  obtain ⟨h0, h1, h2, h3, h4, h5⟩ := hm c
  rw [h0, h1, h2, h3, h4, h5]

end Cert.Proof.Ffn

end
-- ==== Proof.PjPath.lean ====
module

public import proofs.«01_k».proof.Proof.Gen.Kernel3Ideal.Frame
public import Idealize.ShloMosaic.Lib.Pointwise
public import Idealize.ShloMosaic.Lib.IdealHost

@[expose] public section

set_option maxRecDepth 16384

noncomputable section

namespace Cert.Kernel3Ideal.Pj

open Cert.Kernel3Ideal Cert.Kernel3Ideal.Gen
open Idealize.ShloMosaic Idealize.ShloMosaic.TcCoe Idealize.SL.Sem
open Idealize.ShloMosaic.Pointwise

/-- The two starting offsets of a whole block are zero. -/
theorem off_zero : (![0, 0] : Fin 2 → Nat) = fun _ => 0 := funext fun a => by fin_cases a <;> rfl

/-- The latent rows a point leaves. -/
theorem ckv_out (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x2304 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S384x1024 .bf16) (harg9 : arg9.IsWhole) (arg10 : Memref sig .tc .vmem S8x128x256 .bf16) (harg10 : arg10.IsWhole) (arg11 : Memref sig .tc .vmem S1x128 .f32) (harg11 : arg11.IsWhole) (arg12 : Memref sig .tc .vmem S1x8x512x384 .bf16) (harg12 : arg12.IsWhole) (arg13 : Memref sig .tc .vmem S512x384 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S1x4x512x128 .bf16) (harg16 : arg16.IsWhole) (arg17 : Memref sig .tc .vmem S1x4x512x128 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole)
    (x0 : Vec Ideal S512x1024 .f32) (x1 : Vec Ideal S512x128 .f32) (x2 : Vec Ideal S512x128 .f32) (x3 : Vec Ideal S512x256 .f32) (x4 : Vec Ideal S512x256 .f32) (x5 : Vec Ideal S1024x2304 .bf16) (x6 : Vec Ideal S1x384 .f32) (x7 : Vec Ideal S1x256 .f32) (x8 : Vec Ideal S384x1024 .bf16) (x9 : Vec Ideal S8x128x256 .bf16) (x10 : Vec Ideal S1x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 = k0_pay31 (k0_pay2 x0 x5) x7 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10)]
  unfold kernelRun0_A
  dsimp only
  sl_unfold_words
  rw [View.canon_unit_zero off_zero]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) off_zero,
    View.ld_unit_zero (S := S512x128) off_zero, View.ld_unit_zero (S := S1024x2304) off_zero, View.ld_unit_zero (S := S1x256) off_zero, View.ld_unit_zero (S := S1x128) off_zero]

/-- The rotary rows a point leaves. -/
theorem kpe_out (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x2304 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S384x1024 .bf16) (harg9 : arg9.IsWhole) (arg10 : Memref sig .tc .vmem S8x128x256 .bf16) (harg10 : arg10.IsWhole) (arg11 : Memref sig .tc .vmem S1x128 .f32) (harg11 : arg11.IsWhole) (arg12 : Memref sig .tc .vmem S1x8x512x384 .bf16) (harg12 : arg12.IsWhole) (arg13 : Memref sig .tc .vmem S512x384 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S1x4x512x128 .bf16) (harg16 : arg16.IsWhole) (arg17 : Memref sig .tc .vmem S1x4x512x128 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole)
    (x0 : Vec Ideal S512x1024 .f32) (x1 : Vec Ideal S512x128 .f32) (x2 : Vec Ideal S512x128 .f32) (x3 : Vec Ideal S512x256 .f32) (x4 : Vec Ideal S512x256 .f32) (x5 : Vec Ideal S1024x2304 .bf16) (x6 : Vec Ideal S1x384 .f32) (x7 : Vec Ideal S1x256 .f32) (x8 : Vec Ideal S384x1024 .bf16) (x9 : Vec Ideal S8x128x256 .bf16) (x10 : Vec Ideal S1x128 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 = k0_pay32 (k0_pay2 x0 x5) x1 x2 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10)]
  unfold kernelRun0_A
  dsimp only
  sl_unfold_words
  rw [View.canon_unit_zero off_zero]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) off_zero,
    View.ld_unit_zero (S := S512x128) off_zero, View.ld_unit_zero (S := S1024x2304) off_zero, View.ld_unit_zero (S := S1x256) off_zero, View.ld_unit_zero (S := S1x128) off_zero]

/-- The forgetting keys and values a point leaves. -/
theorem fkv_out (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x2304 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S384x1024 .bf16) (harg9 : arg9.IsWhole) (arg10 : Memref sig .tc .vmem S8x128x256 .bf16) (harg10 : arg10.IsWhole) (arg11 : Memref sig .tc .vmem S1x128 .f32) (harg11 : arg11.IsWhole) (arg12 : Memref sig .tc .vmem S1x8x512x384 .bf16) (harg12 : arg12.IsWhole) (arg13 : Memref sig .tc .vmem S512x384 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S1x4x512x128 .bf16) (harg16 : arg16.IsWhole) (arg17 : Memref sig .tc .vmem S1x4x512x128 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole)
    (x0 : Vec Ideal S512x1024 .f32) (x1 : Vec Ideal S512x128 .f32) (x2 : Vec Ideal S512x128 .f32) (x3 : Vec Ideal S512x256 .f32) (x4 : Vec Ideal S512x256 .f32) (x5 : Vec Ideal S1024x2304 .bf16) (x6 : Vec Ideal S1x384 .f32) (x7 : Vec Ideal S1x256 .f32) (x8 : Vec Ideal S384x1024 .bf16) (x9 : Vec Ideal S8x128x256 .bf16) (x10 : Vec Ideal S1x128 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 = k0_pay44 (k0_pay2 x0 x5) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10)]
  unfold kernelRun0_A
  dsimp only
  sl_unfold_words
  rw [View.canon_unit_zero off_zero]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) off_zero,
    View.ld_unit_zero (S := S512x128) off_zero, View.ld_unit_zero (S := S1024x2304) off_zero, View.ld_unit_zero (S := S1x256) off_zero, View.ld_unit_zero (S := S1x128) off_zero]

/-- The block keys and values a point leaves. -/
theorem mkv_out (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x2304 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S384x1024 .bf16) (harg9 : arg9.IsWhole) (arg10 : Memref sig .tc .vmem S8x128x256 .bf16) (harg10 : arg10.IsWhole) (arg11 : Memref sig .tc .vmem S1x128 .f32) (harg11 : arg11.IsWhole) (arg12 : Memref sig .tc .vmem S1x8x512x384 .bf16) (harg12 : arg12.IsWhole) (arg13 : Memref sig .tc .vmem S512x384 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S1x4x512x128 .bf16) (harg16 : arg16.IsWhole) (arg17 : Memref sig .tc .vmem S1x4x512x128 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole)
    (x0 : Vec Ideal S512x1024 .f32) (x1 : Vec Ideal S512x128 .f32) (x2 : Vec Ideal S512x128 .f32) (x3 : Vec Ideal S512x256 .f32) (x4 : Vec Ideal S512x256 .f32) (x5 : Vec Ideal S1024x2304 .bf16) (x6 : Vec Ideal S1x384 .f32) (x7 : Vec Ideal S1x256 .f32) (x8 : Vec Ideal S384x1024 .bf16) (x9 : Vec Ideal S8x128x256 .bf16) (x10 : Vec Ideal S1x128 .f32) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 = k0_pay45 (k0_pay2 x0 x5) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10)]
  unfold kernelRun0_A
  dsimp only
  sl_unfold_words
  rw [View.canon_unit_zero off_zero]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) off_zero,
    View.ld_unit_zero (S := S512x128) off_zero, View.ld_unit_zero (S := S1024x2304) off_zero, View.ld_unit_zero (S := S1x256) off_zero, View.ld_unit_zero (S := S1x128) off_zero]

/-- The forget gates a point leaves. -/
theorem logf_out (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x2304 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S384x1024 .bf16) (harg9 : arg9.IsWhole) (arg10 : Memref sig .tc .vmem S8x128x256 .bf16) (harg10 : arg10.IsWhole) (arg11 : Memref sig .tc .vmem S1x128 .f32) (harg11 : arg11.IsWhole) (arg12 : Memref sig .tc .vmem S1x8x512x384 .bf16) (harg12 : arg12.IsWhole) (arg13 : Memref sig .tc .vmem S512x384 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S1x4x512x128 .bf16) (harg16 : arg16.IsWhole) (arg17 : Memref sig .tc .vmem S1x4x512x128 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole)
    (x0 : Vec Ideal S512x1024 .f32) (x1 : Vec Ideal S512x128 .f32) (x2 : Vec Ideal S512x128 .f32) (x3 : Vec Ideal S512x256 .f32) (x4 : Vec Ideal S512x256 .f32) (x5 : Vec Ideal S1024x2304 .bf16) (x6 : Vec Ideal S1x384 .f32) (x7 : Vec Ideal S1x256 .f32) (x8 : Vec Ideal S384x1024 .bf16) (x9 : Vec Ideal S8x128x256 .bf16) (x10 : Vec Ideal S1x128 .f32) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 = k0_pay1 (iota Kind.tc S512x128 32 [1] iota_S512x128_d1_w32) (k0_pay46 (k0_pay2 x0 x5)) (k0_pay47 x10) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10)]
  unfold kernelRun0_A
  dsimp only
  sl_unfold_words
  rw [View.canon_unit_zero off_zero]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) off_zero,
    View.ld_unit_zero (S := S512x128) off_zero, View.ld_unit_zero (S := S1024x2304) off_zero, View.ld_unit_zero (S := S1x256) off_zero, View.ld_unit_zero (S := S1x128) off_zero]

/-- A row of the input times a column of the joined weight. -/
theorem h_at (X : S512x1024.Idx → EReal) (W : S1024x2304.Idx → EReal) (r : Fin 512) (j : Fin 2304) :
    (k0_pay2 (F := Ideal) X W : S512x2304.Idx → EReal) (ix2 r j) = ∑ e : Fin 1024, X (ix2 r e) * W (ix2 e j) := by
  pointwise [k0_pay2]

/-- The latent rows at a place. -/
theorem ckv_at (h : S512x2304.Idx → EReal) (g : S1x256.Idx → EReal) (r : Fin 512) (j : Fin 256) :
    (k0_pay31 (F := Ideal) h g : S512x256.Idx → EReal) (ix2 r j) =
      h (ix2 r ⟨384 + j.val, by omega⟩) *
        Ideal.rsqrt (Ideal.div (∑ x : Fin 256, h (ix2 r ⟨384 + x.val, by omega⟩) * h (ix2 r ⟨384 + x.val, by omega⟩)) (Ideal.ofBits FTy.f32 1132462080#32) +
            Ideal.ofBits FTy.f32 897988541#32) *
      g (ix2 0 j) := by
  pointwise [k0_pay31]

/-- The rotary rows at a place. -/
theorem kpe_at (h : S512x2304.Idx → EReal) (a b : S512x128.Idx → EReal) (r : Fin 512) (j : Fin 128) :
    (k0_pay32 (F := Ideal) h a b : S512x128.Idx → EReal) (ix2 r j) =
      h (ix2 r ⟨640 + j.val, by omega⟩) * a (ix2 r j) + h (ix2 r ⟨768 + j.val, by omega⟩) * b (ix2 r j) := by
  pointwise [k0_pay32]

/-- A forgetting key or value at a place. -/
theorem fkv_at (h : S512x2304.Idx → EReal) (r : Fin 512) (j : Fin 128) :
    (k0_pay44 (F := Ideal) h : S512x128.Idx → EReal) (ix2 r j) = h (ix2 r ⟨1920 + j.val, by omega⟩) := by
  pointwise [k0_pay44]

/-- A block key or value at a place. -/
theorem mkv_at (h : S512x2304.Idx → EReal) (r : Fin 512) (j : Fin 128) :
    (k0_pay45 (F := Ideal) h : S512x128.Idx → EReal) (ix2 r j) = h (ix2 r ⟨2048 + j.val, by omega⟩) := by
  pointwise [k0_pay45]

/-- The forget gate's logarithm as the kernel writes it. -/
def gate (z : EReal) : EReal := min z 0 - Ideal.log (1 + Ideal.exp (0 - FloatOps.absf (F := Ideal) (φ := .f32) z))

/-- The first four lanes are below four and no other is. -/
theorem lane_lt : ∀ j : Fin 128, IntOp.cmpi CmpIPredicate.slt (BitVec.ofNat 32 j.val) 4#32 = if j.val < 4 then 1#1 else 0#1 := by decide

/-- A forget gate at a place. -/
theorem logf_at (h : S512x2304.Idx → EReal) (b : S1x128.Idx → EReal) (r : Fin 512) (j : Fin 128) :
    (k0_pay1 (F := Ideal) (iota Kind.tc S512x128 32 [1] iota_S512x128_d1_w32) (k0_pay46 (F := Ideal) h) (k0_pay47 (F := Ideal) b) : S512x128.Idx → EReal) (ix2 r j)
      = if j.val < 4 then gate (h (ix2 r ⟨2176 + j.val, by omega⟩) + b (ix2 0 j)) else 0 := by
  pointwise [k0_pay1, k0_pay46, k0_pay47]
  rw [lane_lt j]
  split <;> rfl

end Cert.Kernel3Ideal.Pj

end
-- ==== Proof.PjHost.lean ====
module

public import proofs.«01_k».proof.Proof.Gen.Kernel3Ideal.Frame
public import Idealize.ShloMosaic.Lib.Pointwise
public import Idealize.ShloMosaic.Lib.IdealHost
public import Idealize.ShloMosaic.Lib.StableHlo.ReadAt
public import Idealize.ShloMosaic.Lib.Routing.OpsPair

@[expose] public section

set_option maxRecDepth 16384

noncomputable section

namespace Cert.Kernel3Ideal.Pj

open Cert.Kernel3Ideal Cert.Kernel3Ideal.Gen
open Idealize.ShloMosaic Idealize.ShloMosaic.TcCoe Idealize.SL.Sem
open Idealize.ShloMosaic.Pointwise

variable (m : (ℓ : Loc nD τ sig) → Buf (Elt Ideal) ℓ)

/-- The rows, the input weight, the gates' shift and the latent scale, as the launch finds them. -/
abbrev aX (c : Dev nD) : S16384x1024.Idx → EReal := m ((c : Thread nD τ).loc main_arg0)
@[inherit_doc aX] abbrev aW (c : Dev nD) : S1024x1444.Idx → EReal := m ((c : Thread nD τ).loc main_arg1)
@[inherit_doc aX] abbrev aB (c : Dev nD) : S4.Idx → EReal := m ((c : Thread nD τ).loc main_arg2)
@[inherit_doc aX] abbrev aG (c : Dev nD) : S256.Idx → EReal := m ((c : Thread nD τ).loc main_arg5)

/-- The rows reach the region as given. -/
theorem x_arr (c : Dev nD) : (V m c main_arg0 : S16384x1024.Idx → EReal) = aX m c := by
  unfold V
  after_reads_simp

/-- The latent scale as a row. -/
theorem gkv_at (c : Dev nD) (j : Fin 256) : (V m c main_v105 : S1x256.Idx → EReal) (ix2 0 j) = aG m c (ix1 j) := by
  unfold V
  after_reads_at

/-- Where each of the four updates lands. -/
theorem lands : ∀ (n : Fin S4.numel) (k : Fin 4),
    scatter_S1x128_S2_S4_0_0_01_0.resultIdx? (S4.rowMajor.symm n) (fun _ => 0#32 : IVec S2 32) = some (ix2 0 ⟨k.val, by omega⟩) ↔ n.val = k.val := by
  decide +kernel

/-- The four updates in order. -/
theorem order : List.finRange S4.numel = [⟨0, by decide⟩, ⟨1, by decide⟩, ⟨2, by decide⟩, ⟨3, by decide⟩] := by decide +kernel

/-- The place of each update. -/
theorem spot : ∀ (k : Fin 4) (h : k.val < S4.numel), S4.rowMajor.symm ⟨k.val, h⟩ = ix1 k := by decide +kernel

/-- Four values written at the head of a row are read back. -/
theorem scatter_head (x : S1x128.Idx → EReal) (u : S4.Idx → EReal) (idx : S2.Idx → BitVec 32) (hi : idx = fun _ => 0#32) (j : Fin 4) :
    Host.scatter scatter_S1x128_S2_S4_0_0_01_0 (fun _ b => b) x idx u (ix2 0 ⟨j.val, by omega⟩) = u (ix1 j) := by
  subst hi
  rw [Routing.scatter_at]
  simp only [lands, order, List.foldl_cons, List.foldl_nil]
  have h0 := spot 0 (by decide)
  have h1 := spot 1 (by decide)
  have h2 := spot 2 (by decide)
  have h3 := spot 3 (by decide)
  match j with
  | ⟨0, _⟩ => exact congrArg u h0
  | ⟨1, _⟩ => exact congrArg u h1
  | ⟨2, _⟩ => exact congrArg u h2
  | ⟨3, _⟩ => exact congrArg u h3

/-- The gates' shift as a row. -/
theorem bfg_at (c : Dev nD) (j : Fin 4) : (V m c main_v102 : S1x128.Idx → EReal) (ix2 0 ⟨j.val, by omega⟩) = aB m c (ix1 j) := by
  unfold V
  after_reads_at
  refine scatter_head _ _ _ ?_ j
  funext i
  obtain ⟨k, rfl⟩ : ∃ k : Fin 2, i = ix1 k := ⟨i 0, by funext a; match a with | ⟨0, _⟩ => rfl⟩
  pointwise
  split
  · after_reads_at
  · after_reads_at

/-- The input weight at equal columns. -/
theorem w_congr (W : S1024x1444.Idx → EReal) (e : Fin 1024) (a b : Fin 1444) (h : a.val = b.val) : W (ix2 e a) = W (ix2 e b) := by
  rw [Fin.ext h]

/-- The joined weight's latent columns. -/
theorem wall_ckv (c : Dev nD) (e : Fin 1024) (j : Fin 256) :
    (V m c main_v103 : S1024x2304.Idx → EReal) (ix2 e ⟨384 + j.val, by omega⟩) = aW m c (ix2 e ⟨384 + j.val, by omega⟩) := by
  have hj := j.isLt
  unfold V
  after_reads_at
  repeat (first | rw [dif_neg (by omega)] | rw [dif_pos (by omega)])
  after_reads_at

/-- The joined weight's rotary columns. -/
theorem wall_kpe (c : Dev nD) (e : Fin 1024) (j : Fin 32) :
    (V m c main_v103 : S1024x2304.Idx → EReal) (ix2 e ⟨640 + j.val, by omega⟩) = aW m c (ix2 e ⟨640 + j.val, by omega⟩) := by
  have hj := j.isLt
  unfold V
  after_reads_at
  repeat (first | rw [dif_neg (by omega)] | rw [dif_pos (by omega)])
  after_reads_at
  refine w_congr _ e _ _ ?_
  dsimp only
  omega

/-- The joined weight's swapped rotary (first half) columns. -/
theorem wall_swl (c : Dev nD) (e : Fin 1024) (j : Fin 16) :
    (V m c main_v103 : S1024x2304.Idx → EReal) (ix2 e ⟨768 + j.val, by omega⟩) = aW m c (ix2 e ⟨656 + j.val, by omega⟩) := by
  have hj := j.isLt
  unfold V
  after_reads_at
  repeat (first | rw [dif_neg (by omega)] | rw [dif_pos (by omega)])
  after_reads_at
  first | rw [dif_neg (by omega)] | rw [dif_pos (by omega)]
  after_reads_at
  refine w_congr _ e _ _ ?_
  dsimp only
  omega

/-- The joined weight's swapped rotary (second half) columns. -/
theorem wall_swr (c : Dev nD) (e : Fin 1024) (j : Fin 16) :
    (V m c main_v103 : S1024x2304.Idx → EReal) (ix2 e ⟨784 + j.val, by omega⟩) = aW m c (ix2 e ⟨640 + j.val, by omega⟩) := by
  have hj := j.isLt
  unfold V
  after_reads_at
  repeat (first | rw [dif_neg (by omega)] | rw [dif_pos (by omega)])
  after_reads_at
  first | rw [dif_neg (by omega)] | rw [dif_pos (by omega)]
  after_reads_at
  refine w_congr _ e _ _ ?_
  dsimp only
  omega

/-- The joined weight's forgetting key columns. -/
theorem wall_fk (c : Dev nD) (e : Fin 1024) (j : Fin 64) :
    (V m c main_v103 : S1024x2304.Idx → EReal) (ix2 e ⟨1920 + j.val, by omega⟩) = aW m c (ix2 e ⟨928 + j.val, by omega⟩) := by
  have hj := j.isLt
  unfold V
  after_reads_at
  repeat (first | rw [dif_neg (by omega)] | rw [dif_pos (by omega)])
  after_reads_at
  refine w_congr _ e _ _ ?_
  dsimp only
  omega

/-- The joined weight's forgetting value columns. -/
theorem wall_fv (c : Dev nD) (e : Fin 1024) (j : Fin 64) :
    (V m c main_v103 : S1024x2304.Idx → EReal) (ix2 e ⟨1984 + j.val, by omega⟩) = aW m c (ix2 e ⟨992 + j.val, by omega⟩) := by
  have hj := j.isLt
  unfold V
  after_reads_at
  repeat (first | rw [dif_neg (by omega)] | rw [dif_pos (by omega)])
  after_reads_at
  refine w_congr _ e _ _ ?_
  dsimp only
  omega

/-- The joined weight's block key columns. -/
theorem wall_mk (c : Dev nD) (e : Fin 1024) (j : Fin 64) :
    (V m c main_v103 : S1024x2304.Idx → EReal) (ix2 e ⟨2048 + j.val, by omega⟩) = aW m c (ix2 e ⟨1316 + j.val, by omega⟩) := by
  have hj := j.isLt
  unfold V
  after_reads_at
  repeat (first | rw [dif_neg (by omega)] | rw [dif_pos (by omega)])
  after_reads_at
  refine w_congr _ e _ _ ?_
  dsimp only
  omega

/-- The joined weight's block value columns. -/
theorem wall_mv (c : Dev nD) (e : Fin 1024) (j : Fin 64) :
    (V m c main_v103 : S1024x2304.Idx → EReal) (ix2 e ⟨2112 + j.val, by omega⟩) = aW m c (ix2 e ⟨1380 + j.val, by omega⟩) := by
  have hj := j.isLt
  unfold V
  after_reads_at
  repeat (first | rw [dif_neg (by omega)] | rw [dif_pos (by omega)])
  after_reads_at
  refine w_congr _ e _ _ ?_
  dsimp only
  omega

/-- The joined weight's forget gate columns. -/
theorem wall_fg (c : Dev nD) (e : Fin 1024) (j : Fin 4) :
    (V m c main_v103 : S1024x2304.Idx → EReal) (ix2 e ⟨2176 + j.val, by omega⟩) = aW m c (ix2 e ⟨1056 + j.val, by omega⟩) := by
  have hj := j.isLt
  unfold V
  after_reads_at
  repeat (first | rw [dif_neg (by omega)] | rw [dif_pos (by omega)])
  after_reads_at
  refine w_congr _ e _ _ ?_
  dsimp only
  omega

/-- The angle of a token's rotation at a rotary pair. -/
def ang (e : Fin 8192) (j : Fin 16) : EReal :=
  FloatOps.sitofp (F := Ideal) FTy.f32 (BitVec.ofNat 32 e.val) * Ideal.pow (Ideal.ofBits FTy.f32 1176256512#32)
    (Ideal.div (-FloatOps.sitofp (F := Ideal) FTy.f32 (BitVec.ofNat 32 j.val)) (Ideal.ofBits FTy.f32 1098907648#32))

/-- The cosine table (first half). -/
theorem cosl (c : Dev nD) (e : Fin 8192) (j : Fin 16) :
    (V m c main_v22 : S8192x128.Idx → EReal) (ix2 e ⟨0 + j.val, by omega⟩) = Ideal.cos (ang e j) := by
  have hj := j.isLt
  have h1 : j.val % 32 = j.val := Nat.mod_eq_of_lt (by omega)
  have h2 : (16 + j.val) % 32 - 16 = j.val := by omega
  unfold V
  after_reads_at
  repeat (first | rw [dif_neg (by omega)] | rw [dif_pos (by omega)])
  after_reads_at
  rw [h1]
  rfl

/-- The cosine table (second half). -/
theorem cosr (c : Dev nD) (e : Fin 8192) (j : Fin 16) :
    (V m c main_v22 : S8192x128.Idx → EReal) (ix2 e ⟨16 + j.val, by omega⟩) = Ideal.cos (ang e j) := by
  have hj := j.isLt
  have h1 : j.val % 32 = j.val := Nat.mod_eq_of_lt (by omega)
  have h2 : (16 + j.val) % 32 - 16 = j.val := by omega
  unfold V
  after_reads_at
  repeat (first | rw [dif_neg (by omega)] | rw [dif_pos (by omega)])
  after_reads_at
  rw [h2]
  rfl

/-- The sine table (first half). -/
theorem sinl (c : Dev nD) (e : Fin 8192) (j : Fin 16) :
    (V m c main_v25 : S8192x128.Idx → EReal) (ix2 e ⟨0 + j.val, by omega⟩) = -Ideal.sin (ang e j) := by
  have hj := j.isLt
  have h1 : j.val % 32 = j.val := Nat.mod_eq_of_lt (by omega)
  have h2 : (16 + j.val) % 32 - 16 = j.val := by omega
  unfold V
  after_reads_at
  repeat (first | rw [dif_neg (by omega)] | rw [dif_pos (by omega)])
  after_reads_at
  rw [h1]
  rfl

/-- The sine table (second half). -/
theorem sinr (c : Dev nD) (e : Fin 8192) (j : Fin 16) :
    (V m c main_v25 : S8192x128.Idx → EReal) (ix2 e ⟨16 + j.val, by omega⟩) = Ideal.sin (ang e j) := by
  have hj := j.isLt
  have h1 : j.val % 32 = j.val := Nat.mod_eq_of_lt (by omega)
  have h2 : (16 + j.val) % 32 - 16 = j.val := by omega
  unfold V
  after_reads_at
  repeat (first | rw [dif_neg (by omega)] | rw [dif_pos (by omega)])
  after_reads_at
  rw [h2]
  rfl

end Cert.Kernel3Ideal.Pj

end
-- ==== Proof.PjVal.lean ====
module

public import proofs.«01_k».proof.Proof.PjPath
public import proofs.«01_k».proof.Proof.PjHost
public import Idealize.ShloMosaic.Lib.Pipeline.ValueKit

@[expose] public section

set_option maxRecDepth 16384

noncomputable section

namespace Cert.Kernel3Ideal.Pj

open Cert.Kernel3Ideal Cert.Kernel3Ideal.Gen
open Idealize.ShloMosaic Idealize.ShloMosaic.TcCoe Idealize.SL.Sem
open Idealize.ShloMosaic.Pointwise

variable (m : (ℓ : Loc nD τ sig) → Buf (Elt Ideal) ℓ)

/-- The arrays the region finds: the rows, the joined weight, the two tables, the latent scale and the gates' shift. -/
abbrev vX (c : Dev nD) : S16384x1024.Idx → EReal := V m c main_arg0
@[inherit_doc vX] abbrev vW (c : Dev nD) : S1024x2304.Idx → EReal := V m c main_v103
@[inherit_doc vX] abbrev vC (c : Dev nD) : S8192x128.Idx → EReal := V m c main_v22
@[inherit_doc vX] abbrev vS (c : Dev nD) : S8192x128.Idx → EReal := V m c main_v25
@[inherit_doc vX] abbrev vG (c : Dev nD) : S1x256.Idx → EReal := V m c main_v105
@[inherit_doc vX] abbrev vB (c : Dev nD) : S1x128.Idx → EReal := V m c main_v102

/-- The block each input that is read here takes at a point. -/
theorem places : ∀ t : Fin cfg0.N, win0_0.index t = ![t.val, 0] ∧ win0_1.index t = ![t.val % 16, 0] ∧ win0_2.index t = ![t.val % 16, 0]
    ∧ win0_5.index t = ![0, 0] ∧ win0_7.index t = ![0, 0] ∧ win0_10.index t = ![0, 0] := by
  decide +kernel

/-- The block each result claimed here takes at a point. -/
theorem leaves : ∀ t : Fin cfg0.N, win0_13.index t = ![t.val, 0] ∧ win0_14.index t = ![t.val, 0] ∧ win0_17.index t = ![t.val, 0]
    ∧ win0_18.index t = ![t.val, 0] ∧ win0_19.index t = ![t.val, 0] := by
  decide +kernel

/-- A point's row block. -/
theorem x_at (c : Dev nD) (t : Fin cfg0.N) (r : Fin 512) (e : Fin 1024) (R : Fin 16384) (hR : R.val = t.val * 512 + r.val) :
    (iblk m c 0 t : S512x1024.Idx → EReal) (ix2 r e) = vX m c (ix2 R e) := by
  blk_ext [iblk, (places t).1]

/-- A point's rows of the cosine table. -/
theorem cos_blk (c : Dev nD) (t : Fin cfg0.N) (r : Fin 512) (j : Fin 128) (R : Fin 8192) (hR : R.val = t.val % 16 * 512 + r.val) :
    (iblk m c 1 t : S512x128.Idx → EReal) (ix2 r j) = vC m c (ix2 R j) := by
  blk_ext [iblk, (places t).2.1]

/-- A point's rows of the sine table. -/
theorem sin_blk (c : Dev nD) (t : Fin cfg0.N) (r : Fin 512) (j : Fin 128) (R : Fin 8192) (hR : R.val = t.val % 16 * 512 + r.val) :
    (iblk m c 2 t : S512x128.Idx → EReal) (ix2 r j) = vS m c (ix2 R j) := by
  blk_ext [iblk, (places t).2.2.1]

/-- The joined weight's block is the weight. -/
theorem wall_blk (c : Dev nD) (t : Fin cfg0.N) (e : Fin 1024) (j : Fin 2304) :
    (iblk m c 5 t : S1024x2304.Idx → EReal) (ix2 e j) = vW m c (ix2 e j) := by
  blk_ext [iblk, (places t).2.2.2.1]

/-- The latent scale's block is the scale. -/
theorem gkv_blk (c : Dev nD) (t : Fin cfg0.N) (j : Fin 256) :
    (iblk m c 7 t : S1x256.Idx → EReal) (ix2 0 j) = vG m c (ix2 0 j) := by
  blk_ext [iblk, (places t).2.2.2.2.1]

/-- The gates' shift's block is the shift. -/
theorem bfg_blk (c : Dev nD) (t : Fin cfg0.N) (j : Fin 128) :
    (iblk m c 10 t : S1x128.Idx → EReal) (ix2 0 j) = vB m c (ix2 0 j) := by
  blk_ext [iblk, (places t).2.2.2.2.2]

/-- A row of the input times a column of the joined weight, both as the region finds them. -/
def hw (c : Dev nD) (R : Fin 16384) (j : Fin 2304) : EReal :=
  ∑ e : Fin 1024, vX m c (ix2 R e) * vW m c (ix2 e j)

/-- The product that a point computes. -/
theorem hw_at (c : Dev nD) (t : Fin cfg0.N) (r : Fin 512) (j : Fin 2304) (R : Fin 16384) (hR : R.val = t.val * 512 + r.val) :
    (k0_pay2 (F := Ideal) (iblk m c 0 t) (iblk m c 5 t) : S512x2304.Idx → EReal) (ix2 r j) = hw m c R j := by
  rw [h_at]
  simp only [fun e => x_at m c t r e R hR, wall_blk m c t]
  rfl

/-- The token's place in its sequence. -/
abbrev pos (R : Fin 16384) : Fin 8192 := ⟨R.val % 8192, by omega⟩

/-- The latent rows of the region. -/
def A13 (c : Dev nD) : S16384x256.Idx → EReal := fun i =>
  let R : Fin 16384 := i 0
  let j : Fin 256 := i 1
  hw m c R ⟨384 + j.val, by omega⟩ *
    Ideal.rsqrt (Ideal.div (∑ x : Fin 256, hw m c R ⟨384 + x.val, by omega⟩ * hw m c R ⟨384 + x.val, by omega⟩) (Ideal.ofBits FTy.f32 1132462080#32) +
      Ideal.ofBits FTy.f32 897988541#32) *
    vG m c (ix2 0 j)

/-- The rotary rows of the region. -/
def A14 (c : Dev nD) : S16384x128.Idx → EReal := fun i =>
  let R : Fin 16384 := i 0
  let j : Fin 128 := i 1
  hw m c R ⟨640 + j.val, by omega⟩ * vC m c (ix2 (pos R) j)
    + hw m c R ⟨768 + j.val, by omega⟩ * vS m c (ix2 (pos R) j)

/-- The forgetting keys and values of the region. -/
def A17 (c : Dev nD) : S16384x128.Idx → EReal := fun i =>
  let R : Fin 16384 := i 0
  let j : Fin 128 := i 1
  hw m c R ⟨1920 + j.val, by omega⟩

/-- The block keys and values of the region. -/
def A18 (c : Dev nD) : S16384x128.Idx → EReal := fun i =>
  let R : Fin 16384 := i 0
  let j : Fin 128 := i 1
  hw m c R ⟨2048 + j.val, by omega⟩

/-- The forget gates of the region. -/
def A19 (c : Dev nD) : S16384x128.Idx → EReal := fun i =>
  let R : Fin 16384 := i 0
  let j : Fin 128 := i 1
  if j.val < 4 then gate (hw m c R ⟨2176 + j.val, by omega⟩ + vB m c (ix2 0 j)) else 0

/-- What a point leaves of result 13, at a place. -/
theorem blk13 (c : Dev nD) (t : Fin cfg0.N) (r : Fin 512) (j : Fin 256) (R : Fin 16384) (hR : R.val = t.val * 512 + r.val) :
    ((outsAt0 m c t).2.2.1 : S512x256.Idx → EReal) (ix2 r j) = A13 m c (ix2 R j) := by
  unfold outsAt0
  dsimp only
  rw [ckv_out]
  rw [ckv_at]
  simp only [fun j => hw_at m c t r j R hR, gkv_blk m c t]
  rfl

/-- Result 13 after the run. -/
theorem arr13 (c : Dev nD) : (dats m 0 c).arrAt 13 (cfgs 0).N = A13 m c := by
  refine (dats m 0 c).arrAt_eq_of_covers 13 _ (by decide +kernel) fun t hf y => ?_
  blk_simp
  rw [after0_13]
  obtain ⟨r, j, rfl⟩ : ∃ (r : Fin 512) (j : Fin 256), y = ix2 r j := ⟨y 0, y 1, by
    funext a
    match a with
    | ⟨0, _⟩ => rfl
    | ⟨1, _⟩ => rfl⟩
  have ht : t.val < 32 := lt_of_lt_of_eq t.isLt N_0
  refine (blk13 m c t r j ⟨t.val * 512 + r.val, by omega⟩ rfl).trans ?_
  refine congrArg (A13 m c) ?_
  blk_ext [(leaves t).1]

/-- What a point leaves of result 14, at a place. -/
theorem blk14 (c : Dev nD) (t : Fin cfg0.N) (r : Fin 512) (j : Fin 128) (R : Fin 16384) (hR : R.val = t.val * 512 + r.val) :
    ((outsAt0 m c t).2.2.2.1 : S512x128.Idx → EReal) (ix2 r j) = A14 m c (ix2 R j) := by
  unfold outsAt0
  dsimp only
  rw [kpe_out]
  have hP : (pos R).val = t.val % 16 * 512 + r.val := by
    have : (pos R).val = R.val % 8192 := rfl
    omega
  rw [kpe_at]
  simp only [fun j => hw_at m c t r j R hR, fun j => cos_blk m c t r j (pos R) hP, fun j => sin_blk m c t r j (pos R) hP]
  rfl

/-- Result 14 after the run. -/
theorem arr14 (c : Dev nD) : (dats m 0 c).arrAt 14 (cfgs 0).N = A14 m c := by
  refine (dats m 0 c).arrAt_eq_of_covers 14 _ (by decide +kernel) fun t hf y => ?_
  blk_simp
  rw [after0_14]
  obtain ⟨r, j, rfl⟩ : ∃ (r : Fin 512) (j : Fin 128), y = ix2 r j := ⟨y 0, y 1, by
    funext a
    match a with
    | ⟨0, _⟩ => rfl
    | ⟨1, _⟩ => rfl⟩
  have ht : t.val < 32 := lt_of_lt_of_eq t.isLt N_0
  refine (blk14 m c t r j ⟨t.val * 512 + r.val, by omega⟩ rfl).trans ?_
  refine congrArg (A14 m c) ?_
  blk_ext [(leaves t).2.1]

/-- What a point leaves of result 17, at a place. -/
theorem blk17 (c : Dev nD) (t : Fin cfg0.N) (r : Fin 512) (j : Fin 128) (R : Fin 16384) (hR : R.val = t.val * 512 + r.val) :
    ((outsAt0 m c t).2.2.2.2.2.2.1 : S512x128.Idx → EReal) (ix2 r j) = A17 m c (ix2 R j) := by
  unfold outsAt0
  dsimp only
  rw [fkv_out]
  rw [fkv_at, hw_at m c t r _ R hR]
  rfl

/-- Result 17 after the run. -/
theorem arr17 (c : Dev nD) : (dats m 0 c).arrAt 17 (cfgs 0).N = A17 m c := by
  refine (dats m 0 c).arrAt_eq_of_covers 17 _ (by decide +kernel) fun t hf y => ?_
  blk_simp
  rw [after0_17]
  obtain ⟨r, j, rfl⟩ : ∃ (r : Fin 512) (j : Fin 128), y = ix2 r j := ⟨y 0, y 1, by
    funext a
    match a with
    | ⟨0, _⟩ => rfl
    | ⟨1, _⟩ => rfl⟩
  have ht : t.val < 32 := lt_of_lt_of_eq t.isLt N_0
  refine (blk17 m c t r j ⟨t.val * 512 + r.val, by omega⟩ rfl).trans ?_
  refine congrArg (A17 m c) ?_
  blk_ext [(leaves t).2.2.1]

/-- What a point leaves of result 18, at a place. -/
theorem blk18 (c : Dev nD) (t : Fin cfg0.N) (r : Fin 512) (j : Fin 128) (R : Fin 16384) (hR : R.val = t.val * 512 + r.val) :
    ((outsAt0 m c t).2.2.2.2.2.2.2.1 : S512x128.Idx → EReal) (ix2 r j) = A18 m c (ix2 R j) := by
  unfold outsAt0
  dsimp only
  rw [mkv_out]
  rw [mkv_at, hw_at m c t r _ R hR]
  rfl

/-- Result 18 after the run. -/
theorem arr18 (c : Dev nD) : (dats m 0 c).arrAt 18 (cfgs 0).N = A18 m c := by
  refine (dats m 0 c).arrAt_eq_of_covers 18 _ (by decide +kernel) fun t hf y => ?_
  blk_simp
  rw [after0_18]
  obtain ⟨r, j, rfl⟩ : ∃ (r : Fin 512) (j : Fin 128), y = ix2 r j := ⟨y 0, y 1, by
    funext a
    match a with
    | ⟨0, _⟩ => rfl
    | ⟨1, _⟩ => rfl⟩
  have ht : t.val < 32 := lt_of_lt_of_eq t.isLt N_0
  refine (blk18 m c t r j ⟨t.val * 512 + r.val, by omega⟩ rfl).trans ?_
  refine congrArg (A18 m c) ?_
  blk_ext [(leaves t).2.2.2.1]

/-- What a point leaves of result 19, at a place. -/
theorem blk19 (c : Dev nD) (t : Fin cfg0.N) (r : Fin 512) (j : Fin 128) (R : Fin 16384) (hR : R.val = t.val * 512 + r.val) :
    ((outsAt0 m c t).2.2.2.2.2.2.2.2 : S512x128.Idx → EReal) (ix2 r j) = A19 m c (ix2 R j) := by
  unfold outsAt0
  dsimp only
  rw [logf_out]
  rw [logf_at]
  simp only [fun j => hw_at m c t r j R hR, bfg_blk m c t]
  rfl

/-- Result 19 after the run. -/
theorem arr19 (c : Dev nD) : (dats m 0 c).arrAt 19 (cfgs 0).N = A19 m c := by
  refine (dats m 0 c).arrAt_eq_of_covers 19 _ (by decide +kernel) fun t hf y => ?_
  blk_simp
  rw [after0_19]
  obtain ⟨r, j, rfl⟩ : ∃ (r : Fin 512) (j : Fin 128), y = ix2 r j := ⟨y 0, y 1, by
    funext a
    match a with
    | ⟨0, _⟩ => rfl
    | ⟨1, _⟩ => rfl⟩
  have ht : t.val < 32 := lt_of_lt_of_eq t.isLt N_0
  refine (blk19 m c t r j ⟨t.val * 512 + r.val, by omega⟩ rfl).trans ?_
  refine congrArg (A19 m c) ?_
  blk_ext [(leaves t).2.2.2.2]

end Cert.Kernel3Ideal.Pj

end
-- ==== Proof.PjOut.lean ====
module

public import proofs.«01_k».proof.Proof.PjVal
public import Idealize.ShloMosaic.Lib.Claim

@[expose] public section

set_option maxRecDepth 16384

noncomputable section

namespace Cert.Kernel3Ideal.Pj

open Cert.Kernel3Ideal Cert.Kernel3Ideal.Gen
open Idealize.ShloMosaic Idealize.ShloMosaic.TcCoe Idealize.SL.Sem
open Idealize.ShloMosaic.Pointwise

/-- A row of the input times a column of the input weight. -/
def hx (X : S16384x1024.Idx → EReal) (W : S1024x1444.Idx → EReal) (R : Fin 16384) (k : Fin 1444) : EReal :=
  ∑ e : Fin 1024, X (ix2 R e) * W (ix2 e k)

/-- The latent rows, normalised and scaled. -/
def Gckv (X : S16384x1024.Idx → EReal) (W : S1024x1444.Idx → EReal) (g : S256.Idx → EReal) : S16384x256.Idx → EReal := fun i =>
  let R : Fin 16384 := i 0
  let j : Fin 256 := i 1
  hx X W R ⟨384 + j.val, by omega⟩ *
    Ideal.rsqrt (Ideal.div (∑ x : Fin 256, hx X W R ⟨384 + x.val, by omega⟩ * hx X W R ⟨384 + x.val, by omega⟩) (Ideal.ofBits FTy.f32 1132462080#32) +
      Ideal.ofBits FTy.f32 897988541#32) *
    g (ix1 j)

/-- A rotary column of a row, rotated by the token's place. -/
def turn (X : S16384x1024.Idx → EReal) (W : S1024x1444.Idx → EReal) (R : Fin 16384) (j : Fin 32) : EReal :=
  if h : j.val < 16 then
    hx X W R ⟨640 + j.val, by omega⟩ * Ideal.cos (ang (pos R) ⟨j.val, h⟩) - hx X W R ⟨656 + j.val, by omega⟩ * Ideal.sin (ang (pos R) ⟨j.val, h⟩)
  else
    hx X W R ⟨640 + j.val, by omega⟩ * Ideal.cos (ang (pos R) ⟨j.val - 16, by omega⟩)
      + hx X W R ⟨640 + (j.val - 16), by omega⟩ * Ideal.sin (ang (pos R) ⟨j.val - 16, by omega⟩)

/-- The rotary rows, rotated by the token's place. -/
def Gkpe (X : S16384x1024.Idx → EReal) (W : S1024x1444.Idx → EReal) : S16384x32.Idx → EReal := fun i => turn X W (i 0) (i 1)

/-- Sixty-four columns of the product, from column `o` on. -/
def Gcol (o : Nat) (ho : o + 64 ≤ 1444) (X : S16384x1024.Idx → EReal) (W : S1024x1444.Idx → EReal) : S16384x64.Idx → EReal := fun i =>
  let R : Fin 16384 := i 0
  let j : Fin 64 := i 1
  hx X W R ⟨o + j.val, by omega⟩

/-- The forget gates' logarithms. -/
def Glogf (X : S16384x1024.Idx → EReal) (W : S1024x1444.Idx → EReal) (b : S4.Idx → EReal) : S16384x4.Idx → EReal := fun i =>
  let R : Fin 16384 := i 0
  let j : Fin 4 := i 1
  gate (hx X W R ⟨1056 + j.val, by omega⟩ + b (ix1 j))

variable (m : (ℓ : Loc nD τ sig) → Buf (Elt Ideal) ℓ) (ρ : Dev nD → PrngReg)

/-- A column of the joined weight that equals a column of the input weight gives that column of the product. -/
theorem hw_eq (c : Dev nD) (R : Fin 16384) (j : Fin 2304) (k : Fin 1444) (h : ∀ e, vW m c (ix2 e j) = aW m c (ix2 e k)) :
    hw m c R j = hx (aX m c) (aW m c) R k := by
  unfold hw hx
  refine Finset.sum_congr rfl fun e _ => ?_
  rw [h e]
  exact congrArg (fun X : S16384x1024.Idx → EReal => X (ix2 R e) * aW m c (ix2 e k)) (x_arr m c)

/-- A place of an array of two axes. -/
theorem ix_cases {A B : Nat} (i : (Shape.mk 2 ![A, B]).Idx) : ∃ (r : Fin A) (j : Fin B), i = ix2 r j :=
  ⟨i 0, i 1, by
    funext a
    match a with
    | ⟨0, _⟩ => rfl
    | ⟨1, _⟩ => rfl⟩

/-- The latent rows of the region are those of the arguments. -/
theorem ckv_eq (c : Dev nD) (R : Fin 16384) (j : Fin 256) : A13 m c (ix2 R j) = Gckv (aX m c) (aW m c) (aG m c) (ix2 R j) := by
  have h : ∀ x : Fin 256, hw m c R ⟨384 + x.val, by omega⟩ = hx (aX m c) (aW m c) R ⟨384 + x.val, by omega⟩ := fun x =>
    hw_eq m c R _ _ fun e => wall_ckv m c e x
  have hg : vG m c (ix2 0 j) = aG m c (ix1 j) := gkv_at m c j
  show hw m c R ⟨384 + j.val, _⟩ *
    Ideal.rsqrt (Ideal.div (∑ x : Fin 256, hw m c R ⟨384 + x.val, _⟩ * hw m c R ⟨384 + x.val, _⟩) (Ideal.ofBits FTy.f32 1132462080#32) +
      Ideal.ofBits FTy.f32 897988541#32) * vG m c (ix2 0 j) = _
  rw [hg]
  simp only [h]
  rfl

/-- The cosine at a place of the first half of a rotary row. -/
theorem vC_lo (c : Dev nD) (P : Fin 8192) (k : Fin 128) (j : Fin 16) (h : k.val = j.val) : vC m c (ix2 P k) = Ideal.cos (ang P j) :=
  (congrArg (fun k => vC m c (ix2 P k)) (Fin.ext (h.trans (Nat.zero_add _).symm))).trans (cosl m c P j)

/-- The cosine at a place of the second half of a rotary row. -/
theorem vC_hi (c : Dev nD) (P : Fin 8192) (k : Fin 128) (j : Fin 16) (h : k.val = 16 + j.val) : vC m c (ix2 P k) = Ideal.cos (ang P j) :=
  (congrArg (fun k => vC m c (ix2 P k)) (Fin.ext h)).trans (cosr m c P j)

/-- The sine at a place of the first half of a rotary row. -/
theorem vS_lo (c : Dev nD) (P : Fin 8192) (k : Fin 128) (j : Fin 16) (h : k.val = j.val) : vS m c (ix2 P k) = -Ideal.sin (ang P j) :=
  (congrArg (fun k => vS m c (ix2 P k)) (Fin.ext (h.trans (Nat.zero_add _).symm))).trans (sinl m c P j)

/-- The sine at a place of the second half of a rotary row. -/
theorem vS_hi (c : Dev nD) (P : Fin 8192) (k : Fin 128) (j : Fin 16) (h : k.val = 16 + j.val) : vS m c (ix2 P k) = Ideal.sin (ang P j) :=
  (congrArg (fun k => vS m c (ix2 P k)) (Fin.ext h)).trans (sinr m c P j)

/-- The swapped column at a place of the first half of a rotary row. -/
theorem swap_lo (c : Dev nD) (R : Fin 16384) (k : Fin 2304) (j : Fin 16) (h : k.val = 768 + j.val) :
    hw m c R k = hx (aX m c) (aW m c) R ⟨656 + j.val, by omega⟩ :=
  hw_eq m c R k _ fun e => (congrArg (fun k => vW m c (ix2 e k)) (Fin.ext h)).trans (wall_swl m c e j)

/-- The swapped column at a place of the second half of a rotary row. -/
theorem swap_hi (c : Dev nD) (R : Fin 16384) (k : Fin 2304) (j : Fin 16) (h : k.val = 784 + j.val) :
    hw m c R k = hx (aX m c) (aW m c) R ⟨640 + j.val, by omega⟩ :=
  hw_eq m c R k _ fun e => (congrArg (fun k => vW m c (ix2 e k)) (Fin.ext h)).trans (wall_swr m c e j)

/-- The first thirty-two rotary columns of the region are those of the arguments. -/
theorem kpe_eq (c : Dev nD) (R : Fin 16384) (j : Fin 32) : A14 m c (ix2 R ⟨j.val, by omega⟩) = Gkpe (aX m c) (aW m c) (ix2 R j) := by
  have h0 := hw_eq m c R _ _ fun e => wall_kpe m c e j
  show hw m c R ⟨640 + j.val, _⟩ * vC m c (ix2 (pos R) ⟨j.val, _⟩) + hw m c R ⟨768 + j.val, _⟩ * vS m c (ix2 (pos R) ⟨j.val, _⟩) = turn (aX m c) (aW m c) R j
  unfold turn
  rw [h0]
  by_cases h : j.val < 16
  · rw [vC_lo m c _ _ ⟨j.val, h⟩ rfl, vS_lo m c _ _ ⟨j.val, h⟩ rfl, swap_lo m c R _ ⟨j.val, h⟩ rfl, mul_neg, ← sub_eq_add_neg]
    rw [dif_pos h]
  · rw [vC_hi m c _ _ ⟨j.val - 16, by omega⟩ (by dsimp only; omega), vS_hi m c _ _ ⟨j.val - 16, by omega⟩ (by dsimp only; omega),
      swap_hi m c R _ ⟨j.val - 16, by omega⟩ (by dsimp only; omega)]
    rw [dif_neg h]

/-- The forgetting keys of the region are those of the arguments. -/
theorem fk_eq (c : Dev nD) (R : Fin 16384) (j : Fin 64) : A17 m c (ix2 R ⟨j.val, by omega⟩) = Gcol 928 (by decide) (aX m c) (aW m c) (ix2 R j) := by
  refine (hw_eq m c R _ ⟨928 + j.val, by omega⟩ fun e => ?_).trans rfl
  refine Eq.trans (congrArg (fun k => vW m c (ix2 e k)) (Fin.ext ?_)) (wall_fk m c e j)
  rfl

/-- The forgetting values of the region are those of the arguments. -/
theorem fv_eq (c : Dev nD) (R : Fin 16384) (j : Fin 64) : A17 m c (ix2 R ⟨64 + j.val, by omega⟩) = Gcol 992 (by decide) (aX m c) (aW m c) (ix2 R j) := by
  refine (hw_eq m c R _ ⟨992 + j.val, by omega⟩ fun e => ?_).trans rfl
  refine Eq.trans (congrArg (fun k => vW m c (ix2 e k)) (Fin.ext ?_)) (wall_fv m c e j)
  show 1920 + (64 + j.val) = 1984 + j.val; omega

/-- The block keys of the region are those of the arguments. -/
theorem mk_eq (c : Dev nD) (R : Fin 16384) (j : Fin 64) : A18 m c (ix2 R ⟨j.val, by omega⟩) = Gcol 1316 (by decide) (aX m c) (aW m c) (ix2 R j) := by
  refine (hw_eq m c R _ ⟨1316 + j.val, by omega⟩ fun e => ?_).trans rfl
  refine Eq.trans (congrArg (fun k => vW m c (ix2 e k)) (Fin.ext ?_)) (wall_mk m c e j)
  rfl

/-- The block values of the region are those of the arguments. -/
theorem mv_eq (c : Dev nD) (R : Fin 16384) (j : Fin 64) : A18 m c (ix2 R ⟨64 + j.val, by omega⟩) = Gcol 1380 (by decide) (aX m c) (aW m c) (ix2 R j) := by
  refine (hw_eq m c R _ ⟨1380 + j.val, by omega⟩ fun e => ?_).trans rfl
  refine Eq.trans (congrArg (fun k => vW m c (ix2 e k)) (Fin.ext ?_)) (wall_mv m c e j)
  show 2048 + (64 + j.val) = 2112 + j.val; omega

/-- The forget gates of the region are those of the arguments. -/
theorem logf_eq (c : Dev nD) (R : Fin 16384) (j : Fin 4) : A19 m c (ix2 R ⟨j.val, by omega⟩) = Glogf (aX m c) (aW m c) (aB m c) (ix2 R j) := by
  have hj := j.isLt
  show (if j.val < 4 then gate (hw m c R ⟨2176 + j.val, _⟩ + vB m c (ix2 0 ⟨j.val, _⟩)) else 0) = _
  have hb : vB m c (ix2 0 ⟨j.val, by omega⟩) = aB m c (ix1 j) := bfg_at m c j
  rw [if_pos hj, hw_eq m c R _ _ fun e => wall_fg m c e j, hb]
  rfl

/-- The memory as the region leaves it, before the lines after it. -/
def left (c : Dev nD) : Valuation τ sig (Elt Ideal) :=
  Pipeline.withArrays (cfgs 0).spec c (V0 m c) fun w => (dats m 0 c).arrAt w (cfgs 0).N

/-- The host's cut at `main_v113` of what the region leaves. -/
theorem tail113 (c : Dev nD) : Pipeline.afterTail₀ cfgs (dats m) 0 (V0 m) [hostOps1] c main_v113 =
    (extractStridedSlice S16384x32 ![0, 0] (A14 m c) slices_S16384x128_S16384x32_0_0 : S16384x32.Idx → EReal) := by
  have hL : left m c (Proc.devRef .tc main_v108_3) = A14 m c :=
    (Pipeline.withArrays_arr (cfgs 0).spec (by decide) c (V0 m c) (fun w => (dats m 0 c).arrAt w (cfgs 0).N) 14).trans (arr14 m c)
  show StableHlo.after hostOps1 (left m c) (Proc.devRef .tc main_v113) = _
  rw [← hL]
  generalize left m c = L
  after_results

/-- The host's cut at `main_v109` of what the region leaves. -/
theorem tail109 (c : Dev nD) : Pipeline.afterTail₀ cfgs (dats m) 0 (V0 m) [hostOps1] c main_v109 =
    (extractStridedSlice S16384x64 ![0, 0] (A17 m c) slices_S16384x128_S16384x64_0_0 : S16384x64.Idx → EReal) := by
  have hL : left m c (Proc.devRef .tc main_v108_6) = A17 m c :=
    (Pipeline.withArrays_arr (cfgs 0).spec (by decide) c (V0 m c) (fun w => (dats m 0 c).arrAt w (cfgs 0).N) 17).trans (arr17 m c)
  show StableHlo.after hostOps1 (left m c) (Proc.devRef .tc main_v109) = _
  rw [← hL]
  generalize left m c = L
  after_results

/-- The host's cut at `main_v110` of what the region leaves. -/
theorem tail110 (c : Dev nD) : Pipeline.afterTail₀ cfgs (dats m) 0 (V0 m) [hostOps1] c main_v110 =
    (extractStridedSlice S16384x64 ![0, 64] (A17 m c) slices_S16384x128_S16384x64_0_64 : S16384x64.Idx → EReal) := by
  have hL : left m c (Proc.devRef .tc main_v108_6) = A17 m c :=
    (Pipeline.withArrays_arr (cfgs 0).spec (by decide) c (V0 m c) (fun w => (dats m 0 c).arrAt w (cfgs 0).N) 17).trans (arr17 m c)
  show StableHlo.after hostOps1 (left m c) (Proc.devRef .tc main_v110) = _
  rw [← hL]
  generalize left m c = L
  after_results

/-- The host's cut at `main_v111` of what the region leaves. -/
theorem tail111 (c : Dev nD) : Pipeline.afterTail₀ cfgs (dats m) 0 (V0 m) [hostOps1] c main_v111 =
    (extractStridedSlice S16384x64 ![0, 0] (A18 m c) slices_S16384x128_S16384x64_0_0 : S16384x64.Idx → EReal) := by
  have hL : left m c (Proc.devRef .tc main_v108_7) = A18 m c :=
    (Pipeline.withArrays_arr (cfgs 0).spec (by decide) c (V0 m c) (fun w => (dats m 0 c).arrAt w (cfgs 0).N) 18).trans (arr18 m c)
  show StableHlo.after hostOps1 (left m c) (Proc.devRef .tc main_v111) = _
  rw [← hL]
  generalize left m c = L
  after_results

/-- The host's cut at `main_v112` of what the region leaves. -/
theorem tail112 (c : Dev nD) : Pipeline.afterTail₀ cfgs (dats m) 0 (V0 m) [hostOps1] c main_v112 =
    (extractStridedSlice S16384x64 ![0, 64] (A18 m c) slices_S16384x128_S16384x64_0_64 : S16384x64.Idx → EReal) := by
  have hL : left m c (Proc.devRef .tc main_v108_7) = A18 m c :=
    (Pipeline.withArrays_arr (cfgs 0).spec (by decide) c (V0 m c) (fun w => (dats m 0 c).arrAt w (cfgs 0).N) 18).trans (arr18 m c)
  show StableHlo.after hostOps1 (left m c) (Proc.devRef .tc main_v112) = _
  rw [← hL]
  generalize left m c = L
  after_results

/-- The host's cut at `main_v114` of what the region leaves. -/
theorem tail114 (c : Dev nD) : Pipeline.afterTail₀ cfgs (dats m) 0 (V0 m) [hostOps1] c main_v114 =
    (extractStridedSlice S16384x4 ![0, 0] (A19 m c) slices_S16384x128_S16384x4_0_0 : S16384x4.Idx → EReal) := by
  have hL : left m c (Proc.devRef .tc main_v108_8) = A19 m c :=
    (Pipeline.withArrays_arr (cfgs 0).spec (by decide) c (V0 m c) (fun w => (dats m 0 c).arrAt w (cfgs 0).N) 19).trans (arr19 m c)
  show StableHlo.after hostOps1 (left m c) (Proc.devRef .tc main_v114) = _
  rw [← hL]
  generalize left m c = L
  after_results

set_option maxHeartbeats 2000000 in
/-- The region's results after the run, with the columns the host keeps. -/
theorem value : θ_run defs (onTc (τ := τ) (main (F := Ideal))) ⟨m, fun _ => 0, ρ⟩ fun r => ∀ c : Dev nD,
    r.2.mem ((c.tc : Thread nD τ).loc main_v108_2) = Gckv (aX m c) (aW m c) (aG m c)
    ∧ r.2.mem ((c.tc : Thread nD τ).loc main_v113) = Gkpe (aX m c) (aW m c)
    ∧ r.2.mem ((c.tc : Thread nD τ).loc main_v109) = Gcol 928 (by decide) (aX m c) (aW m c)
    ∧ r.2.mem ((c.tc : Thread nD τ).loc main_v110) = Gcol 992 (by decide) (aX m c) (aW m c)
    ∧ r.2.mem ((c.tc : Thread nD τ).loc main_v114) = Glogf (aX m c) (aW m c) (aB m c)
    ∧ r.2.mem ((c.tc : Thread nD τ).loc main_v111) = Gcol 1316 (by decide) (aX m c) (aW m c)
    ∧ r.2.mem ((c.tc : Thread nD τ).loc main_v112) = Gcol 1380 (by decide) (aX m c) (aW m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine θ_run_mono (θ_run_and (Gen.run_main m ρ) (Gen.unchanged m ρ)) fun r h c =>
    ⟨((h.1 c).1 13).trans ?_, ((h.1 c).2 _ (by decide)).trans ((tail113 m c).trans ?_),
      ((h.1 c).2 _ (by decide)).trans ((tail109 m c).trans ?_), ((h.1 c).2 _ (by decide)).trans ((tail110 m c).trans ?_),
      ((h.1 c).2 _ (by decide)).trans ((tail114 m c).trans ?_), ((h.1 c).2 _ (by decide)).trans ((tail111 m c).trans ?_),
      ((h.1 c).2 _ (by decide)).trans ((tail112 m c).trans ?_), h.2 c⟩
  · rw [arr13]
    funext i
    obtain ⟨R, j, rfl⟩ := ix_cases i
    exact ckv_eq m c R j
  · funext i
    obtain ⟨R, j, rfl⟩ := ix_cases i
    refine Eq.trans ?_ (kpe_eq m c R j)
    pointwise
    try rfl
  · funext i
    obtain ⟨R, j, rfl⟩ := ix_cases i
    refine Eq.trans ?_ (fk_eq m c R j)
    pointwise
    try rfl
  · funext i
    obtain ⟨R, j, rfl⟩ := ix_cases i
    refine Eq.trans ?_ (fv_eq m c R j)
    pointwise
    try rfl
  · funext i
    obtain ⟨R, j, rfl⟩ := ix_cases i
    refine Eq.trans ?_ (logf_eq m c R j)
    pointwise
    try rfl
  · funext i
    obtain ⟨R, j, rfl⟩ := ix_cases i
    refine Eq.trans ?_ (mk_eq m c R j)
    pointwise
    try rfl
  · funext i
    obtain ⟨R, j, rfl⟩ := ix_cases i
    refine Eq.trans ?_ (mv_eq m c R j)
    pointwise
    try rfl

end Cert.Kernel3Ideal.Pj

end
-- ==== Proof.PjMath.lean ====
module

public import Idealize.ShloMosaic.PureOps.Ideal
public import Idealize.ShloMosaic.Lib.IdealHost
public import Idealize.ShloMosaic.Lib.Pointwise

@[expose] public section

noncomputable section

namespace Cert.PjMath

open Idealize.ShloMosaic

/-- The logarithm of one plus a decaying exponential is a finite number that is not below zero. -/
theorem soft_fin (a : EReal) (ha : 0 ≤ a) : ∃ r : ℝ, Ideal.log (1 + Ideal.exp (-a)) = (r : EReal) := by
  induction a using EReal.rec with
  | bot => exact absurd ha (by simp)
  | top =>
    refine ⟨0, ?_⟩
    rw [EReal.neg_top]
    show Ideal.log (1 + 0) = _
    rw [add_zero, ← EReal.coe_one]
    show (if (1 : ℝ) ≤ 0 then (⊥ : EReal) else ((Real.log 1 : ℝ) : EReal)) = _
    rw [if_neg (by norm_num), Real.log_one]
  | coe x =>
    refine ⟨Real.log (1 + Real.exp (-x)), ?_⟩
    rw [← EReal.coe_neg]
    show Ideal.log (1 + ((Real.exp (-x) : ℝ) : EReal)) = _
    rw [← EReal.coe_one, ← EReal.coe_add]
    show (if 1 + Real.exp (-x) ≤ 0 then (⊥ : EReal) else _) = _
    rw [if_neg (not_le.mpr (by positivity))]

/-- A number's size is not below zero. -/
theorem size_nonneg (z : EReal) : 0 ≤ max z (-z) := by
  rcases le_total 0 z with h | h
  · exact le_max_of_le_left h
  · exact le_max_of_le_right (EReal.neg_nonneg.mpr h)

/-- The two ways of writing the logarithm of the logistic function. -/
theorem gate_eq (z : EReal) :
    min z 0 - Ideal.log (1 + Ideal.exp (0 - max z (-z))) = -(max (-z) 0 + Ideal.log1p (Ideal.exp (-max (-z) (- -z)))) := by
  obtain ⟨r, hr⟩ := soft_fin _ (size_nonneg z)
  have hm : max (-z) (- -z) = max z (-z) := by rw [neg_neg, max_comm]
  rw [hm, zero_sub, Ideal.log1p, hr, EReal.neg_add (Or.inr (EReal.coe_ne_top r)) (Or.inr (EReal.coe_ne_bot r))]
  refine congrArg (· - (r : EReal)) ?_
  have h := EReal.neg_strictAnti.antitone.map_max (a := -z) (b := 0)
  rw [neg_neg, neg_zero] at h
  exact h.symm

end Cert.PjMath

end
-- ==== Proof.PjRef.lean ====
module

public import proofs.«01_k».proof.Proof.Gen.Reference3Ideal.Run
public import proofs.«01_k».proof.Proof.Gen.Reference3Ideal
public import Idealize.ShloMosaic.Lib.StableHlo.RunHlo
public import proofs.«01_k».proof.Defs
public import Idealize.ShloMosaic.Lib.Claim
public import Idealize.ShloMosaic.Adequacy
public import Idealize.ShloMosaic.Init
public import Idealize.ShloMosaic.Lib.Pointwise
public import Idealize.ShloMosaic.Lib.IdealHost
public import proofs.«01_k».proof.Proof.PjOut
public import proofs.«01_k».proof.Proof.PjMath

@[expose] public section

set_option maxRecDepth 16384

noncomputable section

namespace Cert.Reference3Ideal.Pj

open Cert.Reference3Ideal
open Idealize.ShloMosaic Idealize.SL.Sem
open Idealize.ShloMosaic.TcCoe

/-- The projection's reference leaves its arguments alone and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
          ∧ r.2.sem = fun _ => 0) := by
  hlo_run
  · exact fun _ => ⟨trivial, trivial, trivial, trivial, trivial, trivial, trivial⟩
  · exact sem_eq_zero_of_no_sems (sig := sig) (by decide) _

end Cert.Reference3Ideal.Pj

namespace Cert.Reference3Ideal.Pj

open Cert.Reference3Ideal Cert.Reference3Ideal.Value
open Idealize.ShloMosaic Idealize.SL.Sem
open Idealize.ShloMosaic.TcCoe
open Idealize.ShloMosaic.Pointwise

open Cert.Kernel3Ideal.Pj (hx Gckv Gkpe Gcol Glogf gate ang pos turn ix_cases)

/-- The stable way of writing a gate's logarithm is the kernel's. -/
theorem gate_ref (z : EReal) :
    -(if -z ≠ -z then -z else max (-z) 0 + Ideal.log1p (Ideal.exp (-FloatOps.absf (F := Ideal) (φ := .f32) (-z)))) = gate z := by
  rw [if_neg (fun h => h rfl)]
  exact (Cert.PjMath.gate_eq z).symm

set_option maxHeartbeats 2000000 in
/-- The reference's results after the run. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = Gckv (m ((c.tc : Thread nD τ).loc main_arg0)) (m ((c.tc : Thread nD τ).loc main_arg1)) (m ((c.tc : Thread nD τ).loc main_arg5))
      ∧ r.2.mem ((c.tc : Thread nD τ).loc main_v53) = Gkpe (m ((c.tc : Thread nD τ).loc main_arg0)) (m ((c.tc : Thread nD τ).loc main_arg1))
      ∧ r.2.mem ((c.tc : Thread nD τ).loc main_v5) = Gcol 928 (by decide) (m ((c.tc : Thread nD τ).loc main_arg0)) (m ((c.tc : Thread nD τ).loc main_arg1))
      ∧ r.2.mem ((c.tc : Thread nD τ).loc main_v6) = Gcol 992 (by decide) (m ((c.tc : Thread nD τ).loc main_arg0)) (m ((c.tc : Thread nD τ).loc main_arg1))
      ∧ r.2.mem ((c.tc : Thread nD τ).loc main_v57) = Glogf (m ((c.tc : Thread nD τ).loc main_arg0)) (m ((c.tc : Thread nD τ).loc main_arg1)) (m ((c.tc : Thread nD τ).loc main_arg2))
      ∧ r.2.mem ((c.tc : Thread nD τ).loc main_v9) = Gcol 1316 (by decide) (m ((c.tc : Thread nD τ).loc main_arg0)) (m ((c.tc : Thread nD τ).loc main_arg1))
      ∧ r.2.mem ((c.tc : Thread nD τ).loc main_v10) = Gcol 1380 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine θ_run_mono (run m ρ) fun r h c =>
    ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2⟩
  on_goal 2 => unfold res_main_v53
  all_goals
    generalize m ((c.tc : Thread nD τ).loc main_arg0) = a0
    generalize m ((c.tc : Thread nD τ).loc main_arg1) = a1
    try generalize m ((c.tc : Thread nD τ).loc main_arg2) = a2
    try generalize m ((c.tc : Thread nD τ).loc main_arg5) = a5
    clear h
    funext i
    obtain ⟨R, j, rfl⟩ := ix_cases i
  · pointwise
    rfl
  · show _ = turn a0 a1 R j
    unfold turn
    pointwise
    by_cases h : j.val < 16
    · rw [dif_pos h, dif_pos h]
      have e : (⟨640 + (16 + j.val), by omega⟩ : Fin 1444) = ⟨656 + j.val, by omega⟩ := Fin.ext (by dsimp only; omega)
      simp only [e]
      rfl
    · rw [dif_neg h, dif_neg h]
      have e : (⟨640 + (16 + (j.val - 16)), by omega⟩ : Fin 1444) = ⟨640 + j.val, by omega⟩ := Fin.ext (by dsimp only; omega)
      simp only [e]
      rfl
  · pointwise
    rfl
  · pointwise
    rfl
  · show _ = gate (hx a0 a1 R ⟨1056 + j.val, by omega⟩ + a2 (ix1 j))
    rw [← gate_ref]
    unfold hx
    pointwise
  · pointwise
    rfl
  · pointwise
    rfl

end Cert.Reference3Ideal.Pj

namespace Cert.Proof.Pj

open Idealize.ShloMosaic Idealize.SL.Sem

/-- The projection kernel's seven results and the reference's are equal. -/
theorem algebraic : @Cert.algebraic_Kernel3Ideal_Reference3Ideal Cert.Kernel3Ideal.Gen.facts Cert.Reference3Ideal.Gen.facts := by
  intro m g m' g' _ hm
  refine ⟨_, _, _, _, _, _, _, Cert.Kernel3Ideal.Pj.value m g, ?_⟩
  refine θ_run_mono (Cert.Reference3Ideal.Pj.value m' g') fun r h c => ?_
  obtain ⟨h0, h1, h2, _, _, h5, _⟩ := hm c
  obtain ⟨r0, r1, r2, r3, r4, r5, r6, k⟩ := h c
  rw [h0, h1, h5] at r0
  rw [h0, h1] at r1 r2 r3 r5 r6
  rw [h0, h1, h2] at r4
  exact ⟨r0, r1, r2, r3, r4, r5, r6, k⟩

end Cert.Proof.Pj

end
-- ==== Proof.lean ====
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal.Run
public import proofs.«01_k».proof.Proof.MlaFrame
public import proofs.«01_k».proof.Proof.MlaBFrame
public import proofs.«01_k».proof.Proof.MlaRef
public import proofs.«01_k».proof.Proof.MlaEq
public import proofs.«01_k».proof.Proof.FfnRef
public import proofs.«01_k».proof.Proof.FfnEq
public import proofs.«01_k».proof.Proof.PjRef
public import Idealize.ShloMosaic.Adequacy
public import Idealize.ShloMosaic.Init

@[expose] public section

noncomputable section

namespace Cert.Proof

open Idealize.ShloMosaic Idealize.SL.Sem

/-- The claims of this certificate, one by one. -/
theorem claim : Cert.Claim :=
  ⟨Cert.Kernel.Gen.facts, Cert.KernelIdeal.Gen.facts, Cert.ReferenceIdeal.Mla.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.ReferenceIdeal.Mla.preFacts,
    fun m g _ => Cert.Kernel.Mla.frame m g, fun m g _ => Cert.KernelIdeal.Mla.frame m g,
    fun m g _ => Cert.KernelIdeal.Mla.frame m g, fun m g _ => Cert.ReferenceIdeal.Mla.frame m g,
    fun m g _ => Cert.ReferenceIdeal.Mla.frame m g,
    fun m g _ => Cert.Kernel2.Gen.frame m g, fun m g _ => Cert.Kernel2Ideal.Gen.frame m g, fun m g _ => Cert.Reference2Ideal.Ffn.frame m g,
    fun m g _ => Cert.Kernel3.Gen.frame m g, fun m g _ => Cert.Kernel3Ideal.Gen.frame m g, fun m g _ => Cert.Reference3Ideal.Pj.frame m g,
    IdealRules.named_const.statement _ _ _ _ _ rfl, Cert.Proof.Mla.algebraic,
    IdealRules.named_const.statement _ _ _ _ _ rfl, Cert.Proof.Ffn.algebraic,
    trivial, Cert.Proof.Pj.algebraic⟩

end Cert.Proof

end
